-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_swiglu [hPre_finite_swiglu : Cert.Pre_finite_swiglu.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_swiglu.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite_swiglu.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite_swiglu.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite_swiglu.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_swiglu [hPre_finite_swiglu : Cert.Pre_finite_swiglu.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_swiglu.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite_swiglu.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite_swiglu.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite_swiglu.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_norm [hPre_finite_norm : Cert.Pre_finite_norm.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2.1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2.2.1 = (fun _ => 1#1)
    ∧ (Cert.Pre_finite_norm.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_norm [hPre_finite_norm : Cert.Pre_finite_norm.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2.1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2.2.1 = (fun _ => 1#1)
    ∧ (Cert.Pre_finite_norm.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_norm_head [hPre_finite_norm_head : Cert.Pre_finite_norm_head.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_norm_head.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).1 = (fun _ => 1#1)
    ∧ (Cert.Pre_finite_norm_head.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.1 = (fun _ => 1#1)
    ∧ (Cert.Pre_finite_norm_head.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.1 = (fun _ => 1#1)
    ∧ (Cert.Pre_finite_norm_head.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.2.1 = (fun _ => 1#1)
    ∧ (Cert.Pre_finite_norm_head.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))).2.2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_norm_head [hPre_finite_norm_head : Cert.Pre_finite_norm_head.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_norm_head.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).1 = (fun _ => 1#1)
    ∧ (Cert.Pre_finite_norm_head.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.1 = (fun _ => 1#1)
    ∧ (Cert.Pre_finite_norm_head.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.1 = (fun _ => 1#1)
    ∧ (Cert.Pre_finite_norm_head.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.2.1 = (fun _ => 1#1)
    ∧ (Cert.Pre_finite_norm_head.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))).2.2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite_swiglu [hKernel15Ideal : Cert.Kernel15Ideal.Facts] [hPre_finite_swiglu : Cert.Pre_finite_swiglu.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_swiglu m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite_swiglu [hReference15Ideal : Cert.Reference15Ideal.Facts] [hPre_finite_swiglu : Cert.Pre_finite_swiglu.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_swiglu m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Kernel18Ideal_pre_finite_norm [hKernel18Ideal : Cert.Kernel18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_norm m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_finite_norm [hReference18Ideal : Cert.Reference18Ideal.Facts] [hPre_finite_norm : Cert.Pre_finite_norm.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_norm m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_finite_norm_head [hKernel19Ideal : Cert.Kernel19Ideal.Facts] [hPre_finite_norm_head : Cert.Pre_finite_norm_head.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_norm_head m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_finite_norm_head [hReference19Ideal : Cert.Reference19Ideal.Facts] [hPre_finite_norm_head : Cert.Pre_finite_norm_head.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_norm_head m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite_swiglu [hKernel15Ideal : Cert.Kernel15Ideal.Facts] [hReference15Ideal : Cert.Reference15Ideal.Facts] [hPre_finite_swiglu : Cert.Pre_finite_swiglu.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_swiglu m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v12) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v16) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_finite_norm [hKernel18Ideal : Cert.Kernel18Ideal.Facts] [hReference18Ideal : Cert.Reference18Ideal.Facts] [hPre_finite_norm : Cert.Pre_finite_norm.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_norm m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v50) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal_pre_finite_norm_head [hKernel19Ideal : Cert.Kernel19Ideal.Facts] [hReference19Ideal : Cert.Reference19Ideal.Facts] [hPre_finite_norm_head : Cert.Pre_finite_norm_head.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_norm_head m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v57) = v0 c
          ∧ r.2.mem ((c.tc : Thread Cert.Reference19Ideal.nD Cert.Reference19Ideal.τ).loc Cert.Reference19Ideal.main_v53) = v1 c
          ∧ r.2.mem ((c.tc : Thread Cert.Reference19Ideal.nD Cert.Reference19Ideal.τ).loc Cert.Reference19Ideal.main_v37) = v2 c
          ∧ r.2.mem ((c.tc : Thread Cert.Reference19Ideal.nD Cert.Reference19Ideal.τ).loc Cert.Reference19Ideal.main_v58) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v18_0)) (v1 : (c : Dev Cert.Kernel20Ideal.nD) → Buf (Elt Ideal) ((c.tc : Thread Cert.Kernel20Ideal.nD Cert.Kernel20Ideal.τ).loc Cert.Kernel20Ideal.main_v18_1)) (v2 : (c : Dev Cert.Kernel20Ideal.nD) → Buf (Elt Ideal) ((c.tc : Thread Cert.Kernel20Ideal.nD Cert.Kernel20Ideal.τ).loc Cert.Kernel20Ideal.main_v18_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v18_0) = v0 c
          ∧ r.2.mem ((c.tc : Thread Cert.Kernel20Ideal.nD Cert.Kernel20Ideal.τ).loc Cert.Kernel20Ideal.main_v18_1) = v1 c
          ∧ r.2.mem ((c.tc : Thread Cert.Kernel20Ideal.nD Cert.Kernel20Ideal.τ).loc Cert.Kernel20Ideal.main_v18_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v78) = v0 c
          ∧ r.2.mem ((c.tc : Thread Cert.Reference20Ideal.nD Cert.Reference20Ideal.τ).loc Cert.Reference20Ideal.main_v87) = v1 c
          ∧ r.2.mem ((c.tc : Thread Cert.Reference20Ideal.nD Cert.Reference20Ideal.τ).loc Cert.Reference20Ideal.main_v96) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_swiglu : Cert.Pre_finite_swiglu.Facts) (hPre_finite_norm : Cert.Pre_finite_norm.Facts) (hPre_finite_norm_head : Cert.Pre_finite_norm_head.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_swiglu (hKernel15Ideal := hKernel15Ideal) (hPre_finite_swiglu := hPre_finite_swiglu)
    ∧ quiescent_Reference15Ideal (hReference15Ideal := hReference15Ideal)
    ∧ quiescent_Reference15Ideal_pre_finite_swiglu (hReference15Ideal := hReference15Ideal) (hPre_finite_swiglu := hPre_finite_swiglu)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_norm (hKernel18Ideal := hKernel18Ideal) (hPre_finite_norm := hPre_finite_norm)
    ∧ quiescent_Reference18Ideal (hReference18Ideal := hReference18Ideal)
    ∧ quiescent_Reference18Ideal_pre_finite_norm (hReference18Ideal := hReference18Ideal) (hPre_finite_norm := hPre_finite_norm)
    ∧ quiescent_Kernel19 (hKernel19 := hKernel19)
    ∧ quiescent_Kernel19Ideal (hKernel19Ideal := hKernel19Ideal)
    ∧ quiescent_Kernel19Ideal_pre_finite_norm_head (hKernel19Ideal := hKernel19Ideal) (hPre_finite_norm_head := hPre_finite_norm_head)
    ∧ quiescent_Reference19Ideal (hReference19Ideal := hReference19Ideal)
    ∧ quiescent_Reference19Ideal_pre_finite_norm_head (hReference19Ideal := hReference19Ideal) (hPre_finite_norm_head := hPre_finite_norm_head)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_swiglu (hKernel15Ideal := hKernel15Ideal) (hReference15Ideal := hReference15Ideal) (hPre_finite_swiglu := hPre_finite_swiglu)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_norm (hKernel18Ideal := hKernel18Ideal) (hReference18Ideal := hReference18Ideal) (hPre_finite_norm := hPre_finite_norm)
    ∧ preserves_Kernel19_Kernel19Ideal
    ∧ algebraic_Kernel19Ideal_Reference19Ideal_pre_finite_norm_head (hKernel19Ideal := hKernel19Ideal) (hReference19Ideal := hReference19Ideal) (hPre_finite_norm_head := hPre_finite_norm_head)
    ∧ preserves_Kernel20_Kernel20Ideal
    ∧ algebraic_Kernel20Ideal_Reference20Ideal (hKernel20Ideal := hKernel20Ideal) (hReference20Ideal := hReference20Ideal)
-- ==== Pre_finite.lean ====
abbrev S2x4096x4x128 : Shape := ⟨4, ![2, 4096, 4, 128]⟩
abbrev S2x4096x4 : Shape := ⟨3, ![2, 4096, 4]⟩
abbrev S_ : Shape := ⟨0, ![]⟩

class Facts : Prop where
  bcast_S_S2x4096x4x128 : S_.BroadcastsInDim S2x4096x4x128 (![] : Fin 0 → Fin S2x4096x4x128.rank)
  bcast_S_S2x4096x4 : S_.BroadcastsInDim S2x4096x4 (![] : Fin 0 → Fin S2x4096x4.rank)

variable [Facts]

def fn_part1 {F : FTy → Type} [FloatOps F] (main_arg6 : FVec F S2x4096x4 .f32) (main_arg7 : FVec F S2x4096x4x128 .f32) (main_v2 : IVec S2x4096x4x128 1) (main_v5 : IVec S2x4096x4x128 1) (main_v8 : IVec S2x4096x4x128 1) (main_v11 : IVec S2x4096x4x128 1) (main_v14 : IVec S2x4096x4 1) (main_v17 : IVec S2x4096x4x128 1) : IVec S2x4096x4x128 1 × IVec S2x4096x4x128 1 × IVec S2x4096x4x128 1 × IVec S2x4096x4x128 1 × IVec S2x4096x4 1 × IVec S2x4096x4x128 1 × IVec S2x4096x4 1 × IVec S2x4096x4x128 1 :=
  let main_v18 : FVec F S2x4096x4 .f32 := Host.absf main_arg6
  let main_cst_5 : FVec F S_ .f32 := constant S_ .f32 0x7F800000#32
  let main_v19 : FVec F S2x4096x4 .f32 := broadcastInDim S2x4096x4 ![] bcast_S_S2x4096x4 main_cst_5
  let main_v20 : IVec S2x4096x4 1 := cmpf .olt main_v18 main_v19
  let main_v21 : FVec F S2x4096x4x128 .f32 := Host.absf main_arg7
  let main_cst_6 : FVec F S_ .f32 := constant S_ .f32 0x7F800000#32
  let main_v22 : FVec F S2x4096x4x128 .f32 := broadcastInDim S2x4096x4x128 ![] bcast_S_S2x4096x4x128 main_cst_6
  let main_v23 : IVec S2x4096x4x128 1 := cmpf .olt main_v21 main_v22
  (main_v2, main_v5, main_v8, main_v11, main_v14, main_v17, main_v20, main_v23)

def fn {F : FTy → Type} [FloatOps F] (main_arg0 : FVec F S2x4096x4x128 .f32) (main_arg1 : FVec F S2x4096x4x128 .f32) (main_arg2 : FVec F S2x4096x4x128 .f32) (main_arg3 : FVec F S2x4096x4x128 .f32) (main_arg4 : FVec F S2x4096x4 .f32) (main_arg5 : FVec F S2x4096x4x128 .f32) (main_arg6 : FVec F S2x4096x4 .f32) (main_arg7 : FVec F S2x4096x4x128 .f32) : IVec S2x4096x4x128 1 × IVec S2x4096x4x128 1 × IVec S2x4096x4x128 1 × IVec S2x4096x4x128 1 × IVec S2x4096x4 1 × IVec S2x4096x4x128 1 × IVec S2x4096x4 1 × IVec S2x4096x4x128 1 :=
  let main_v0 : FVec F S2x4096x4x128 .f32 := Host.absf main_arg0
  let main_cst : FVec F S_ .f32 := constant S_ .f32 0x7F800000#32
  let main_v1 : FVec F S2x4096x4x128 .f32 := broadcastInDim S2x4096x4x128 ![] bcast_S_S2x4096x4x128 main_cst
  let main_v2 : IVec S2x4096x4x128 1 := cmpf .olt main_v0 main_v1
  let main_v3 : FVec F S2x4096x4x128 .f32 := Host.absf main_arg1
  let main_cst_0 : FVec F S_ .f32 := constant S_ .f32 0x7F800000#32
  let main_v4 : FVec F S2x4096x4x128 .f32 := broadcastInDim S2x4096x4x128 ![] bcast_S_S2x4096x4x128 main_cst_0
  let main_v5 : IVec S2x4096x4x128 1 := cmpf .olt main_v3 main_v4
  let main_v6 : FVec F S2x4096x4x128 .f32 := Host.absf main_arg2
  let main_cst_1 : FVec F S_ .f32 := constant S_ .f32 0x7F800000#32
  let main_v7 : FVec F S2x4096x4x128 .f32 := broadcastInDim S2x4096x4x128 ![] bcast_S_S2x4096x4x128 main_cst_1
  let main_v8 : IVec S2x4096x4x128 1 := cmpf .olt main_v6 main_v7
  let main_v9 : FVec F S2x4096x4x128 .f32 := Host.absf main_arg3
  let main_cst_2 : FVec F S_ .f32 := constant S_ .f32 0x7F800000#32
  let main_v10 : FVec F S2x4096x4x128 .f32 := broadcastInDim S2x4096x4x128 ![] bcast_S_S2x4096x4x128 main_cst_2
  let main_v11 : IVec S2x4096x4x128 1 := cmpf .olt main_v9 main_v10
  let main_v12 : FVec F S2x4096x4 .f32 := Host.absf main_arg4
  let main_cst_3 : FVec F S_ .f32 := constant S_ .f32 0x7F800000#32
  let main_v13 : FVec F S2x4096x4 .f32 := broadcastInDim S2x4096x4 ![] bcast_S_S2x4096x4 main_cst_3
  let main_v14 : IVec S2x4096x4 1 := cmpf .olt main_v12 main_v13
  let main_v15 : FVec F S2x4096x4x128 .f32 := Host.absf main_arg5
  let main_cst_4 : FVec F S_ .f32 := constant S_ .f32 0x7F800000#32
  let main_v16 : FVec F S2x4096x4x128 .f32 := broadcastInDim S2x4096x4x128 ![] bcast_S_S2x4096x4x128 main_cst_4
  let main_v17 : IVec S2x4096x4x128 1 := cmpf .olt main_v15 main_v16
  fn_part1 (F := F) main_arg6 main_arg7 main_v2 main_v5 main_v8 main_v11 main_v14 main_v17
-- ==== Pre_finite_norm.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S2816x1024 .bf16) (main_v2 : IVec S8192x2816 1) (main_v5 : IVec S2816x1024 1) (main_v8 : IVec S8192x1024 1) (main_v11 : IVec S1x1024 1) (main_v14 : IVec S8192x1024 1) (main_v17 : IVec S8192x2816 1) : IVec S8192x2816 1 × IVec S2816x1024 1 × IVec S8192x1024 1 × IVec S1x1024 1 × IVec S8192x1024 1 × IVec S8192x2816 1 × IVec S2816x1024 1 :=
  let main_v18 : FVec F S2816x1024 .bf16 := Host.absf main_arg6
  let main_cst_5 : FVec F S_ .bf16 := constant S_ .bf16 0x7F80#16
  let main_v19 : FVec F S2816x1024 .bf16 := broadcastInDim S2816x1024 ![] bcast_S_S2816x1024 main_cst_5
  let main_v20 : IVec S2816x1024 1 := cmpf .olt main_v18 main_v19
  (main_v2, main_v5, main_v8, main_v11, main_v14, main_v17, main_v20)

def fn {F : FTy → Type} [FloatOps F] (main_arg0 : FVec F S8192x2816 .bf16) (main_arg1 : FVec F S2816x1024 .bf16) (main_arg2 : FVec F S8192x1024 .f32) (main_arg3 : FVec F S1x1024 .f32) (main_arg4 : FVec F S8192x1024 .f32) (main_arg5 : FVec F S8192x2816 .bf16) (main_arg6 : FVec F S2816x1024 .bf16) : IVec S8192x2816 1 × IVec S2816x1024 1 × IVec S8192x1024 1 × IVec S1x1024 1 × IVec S8192x1024 1 × IVec S8192x2816 1 × IVec S2816x1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x2816 .bf16 := Host.absf main_arg5
  let main_cst_4 : FVec F S_ .bf16 := constant S_ .bf16 0x7F80#16
  let main_v16 : FVec F S8192x2816 .bf16 := broadcastInDim S8192x2816 ![] bcast_S_S8192x2816 main_cst_4
  let main_v17 : IVec S8192x2816 1 := cmpf .olt main_v15 main_v16
  fn_part1 (F := F) main_arg6 main_v2 main_v5 main_v8 main_v11 main_v14 main_v17
-- ==== Pre_finite_norm_head.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2816 .bf16) (main_arg1 : FVec F S2816x1024 .bf16) (main_arg2 : FVec F S8192x1024 .f32) (main_arg3 : FVec F S1x1024 .f32) (main_arg4 : FVec F S8192x1024 .f32) : IVec S8192x2816 1 × IVec S2816x1024 1 × IVec S8192x1024 1 × IVec S1x1024 1 × IVec S8192x1024 1 :=
  let main_v0 : FVec F S8192x2816 .bf16 := Host.absf main_arg0
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_swiglu.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .f32) (main_arg3 : FVec F S8192x2816 .f32) : IVec S8192x1024 1 × IVec S2816x1024 1 × IVec S8192x2816 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .f32 := Host.absf main_arg2
  let main_cst_1 : FVec F S_ .f32 := constant S_ .f32 0x7F800000#32
  let main_v7 : FVec F S8192x2816 .f32 := broadcastInDim S8192x2816 ![] bcast_S_S8192x2816 main_cst_1
  let main_v8 : IVec S8192x2816 1 := cmpf .olt main_v6 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  (main_v2, main_v5, main_v8, main_v11)
-- ==== Kernel.lean ====
abbrev S2x4096x4x128 : Shape := ⟨4, ![2, 4096, 4, 128]⟩
abbrev S2x4096x4 : Shape := ⟨3, ![2, 4096, 4]⟩
abbrev S2x4096x1x512 : Shape := ⟨4, ![2, 4096, 1, 512]⟩
abbrev S2x1x4096x512 : Shape := ⟨4, ![2, 1, 4096, 512]⟩
abbrev S2x1x4096x1536 : Shape := ⟨4, ![2, 1, 4096, 1536]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S2x4096x1x4x128 : Shape := ⟨5, ![2, 4096, 1, 4, 128]⟩
abbrev S2x1x4096x4x128 : Shape := ⟨5, ![2, 1, 4096, 4, 128]⟩
abbrev S2x1x32x128x4x128 : Shape := ⟨6, ![2, 1, 32, 128, 4, 128]⟩
abbrev S2x1x31x128x4x128 : Shape := ⟨6, ![2, 1, 31, 128, 4, 128]⟩
abbrev S2x1x32x256x4x128 : Shape := ⟨6, ![2, 1, 32, 256, 4, 128]⟩
abbrev S2x1x32x4x128x256 : Shape := ⟨6, ![2, 1, 32, 4, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S2x1x32x4x128 : Shape := ⟨5, ![2, 1, 32, 4, 128]⟩
abbrev S2x1x32x4x128x1 : Shape := ⟨6, ![2, 1, 32, 4, 128, 1]⟩
abbrev S2x1x32x128x4 : Shape := ⟨5, ![2, 1, 32, 128, 4]⟩
abbrev S2x1x32x4x128x128 : Shape := ⟨6, ![2, 1, 32, 4, 128, 128]⟩
abbrev S2x1x4096x4 : Shape := ⟨4, ![2, 1, 4096, 4]⟩
abbrev S2x4096x1x4 : Shape := ⟨4, ![2, 4096, 1, 4]⟩
abbrev S2x4096x4x1 : Shape := ⟨4, ![2, 4096, 4, 1]⟩
abbrev S1x1x256x512 : Shape := ⟨4, ![1, 1, 256, 512]⟩
abbrev S1x1x128x512 : Shape := ⟨4, ![1, 1, 128, 512]⟩
abbrev S256x384 : Shape := ⟨2, ![256, 384]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩
abbrev S384x128 : Shape := ⟨2, ![384, 128]⟩
abbrev S1x1x256x1 : Shape := ⟨4, ![1, 1, 256, 1]⟩
abbrev S256x1 : Shape := ⟨2, ![256, 1]⟩

abbrev nBuf : Space → Nat
  | .hbm => 142
  | .vmem => 18
  | .smem => 0
  | _ => 0

abbrev hbmTy0_0 (i : Nat) : BufTy := match i % 128 with
  | 0 => ⟨S2x4096x4x128, .f32⟩
  | 1 => ⟨S2x4096x4x128, .f32⟩
  | 2 => ⟨S2x4096x4x128, .f32⟩
  | 3 => ⟨S2x4096x4x128, .f32⟩
  | 4 => ⟨S2x4096x4, .f32⟩
  | 5 => ⟨S2x4096x4x128, .f32⟩
  | 6 => ⟨S2x4096x4, .f32⟩
  | 7 => ⟨S2x4096x4x128, .f32⟩
  | 8 => ⟨S2x4096x1x512, .f32⟩
  | 9 => ⟨S2x1x4096x512, .f32⟩
  | 10 => ⟨S2x4096x1x512, .f32⟩
  | 11 => ⟨S2x1x4096x512, .f32⟩
  | 12 => ⟨S2x4096x1x512, .f32⟩
  | 13 => ⟨S2x1x4096x512, .f32⟩
  | 14 => ⟨S2x1x4096x1536, .f32⟩
  | 15 => ⟨S2x1x4096x1536, .bf16⟩
  | 16 => ⟨S128, .i32⟩
  | 17 => ⟨S128x1, .i32⟩
  | 18 => ⟨S256, .i32⟩
  | 19 => ⟨S1x256, .i32⟩
  | 20 => ⟨S_, .i32⟩
  | 21 => ⟨S128x1, .i32⟩
  | 22 => ⟨S128x1, .i32⟩
  | 23 => ⟨S128x256, .i32⟩
  | 24 => ⟨S128x256, .i32⟩
  | 25 => ⟨S128x256, .i32⟩
  | 26 => ⟨S_, .i32⟩
  | 27 => ⟨S128x256, .i32⟩
  | 28 => ⟨S128x256, .i1⟩
  | 29 => ⟨S_, .i32⟩
  | 30 => ⟨S128x256, .i32⟩
  | 31 => ⟨S128x256, .i1⟩
  | 32 => ⟨S128x256, .i1⟩
  | 33 => ⟨S2x4096x1x4x128, .f32⟩
  | 34 => ⟨S2x1x4096x4x128, .f32⟩
  | 35 => ⟨S2x1x32x128x4x128, .f32⟩
  | 36 => ⟨S2x4096x1x4x128, .f32⟩
  | 37 => ⟨S2x1x4096x4x128, .f32⟩
  | 38 => ⟨S2x1x32x128x4x128, .f32⟩
  | 39 => ⟨S2x1x31x128x4x128, .f32⟩
  | 40 => ⟨S_, .i32⟩
  | 41 => ⟨S_, .f32⟩
  | 42 => ⟨S2x1x32x128x4x128, .f32⟩
  | 43 => ⟨S2x1x32x256x4x128, .f32⟩
  | 44 => ⟨S2x4096x1x4x128, .f32⟩
  | 45 => ⟨S2x1x4096x4x128, .f32⟩
  | 46 => ⟨S2x1x32x128x4x128, .f32⟩
  | 47 => ⟨S2x1x31x128x4x128, .f32⟩
  | 48 => ⟨S_, .i32⟩
  | 49 => ⟨S_, .f32⟩
  | 50 => ⟨S2x1x32x128x4x128, .f32⟩
  | 51 => ⟨S2x1x32x256x4x128, .f32⟩
  | 52 => ⟨S2x1x32x4x128x256, .f32⟩
  | 53 => ⟨S_, .f32⟩
  | 54 => ⟨S2x1x32x4x128x256, .f32⟩
  | 55 => ⟨S2x1x32x4x128x256, .f32⟩
  | 56 => ⟨S32, .i32⟩
  | 57 => ⟨S_, .i32⟩
  | 58 => ⟨S32, .i32⟩
  | 59 => ⟨S32, .i1⟩
  | 60 => ⟨S32x1x1, .i1⟩
  | 61 => ⟨S_, .i32⟩
  | 62 => ⟨S1x256, .i32⟩
  | 63 => ⟨S1x256, .i1⟩
  | 64 => ⟨S1x1x256, .i1⟩
  | 65 => ⟨S32x1x256, .i1⟩
  | 66 => ⟨S32x1x256, .i1⟩
  | 67 => ⟨S32x1x256, .i1⟩
  | 68 => ⟨S1x128x256, .i1⟩
  | 69 => ⟨S32x128x256, .i1⟩
  | 70 => ⟨S32x128x256, .i1⟩
  | 71 => ⟨S32x128x256, .i1⟩
  | 72 => ⟨S1x1x32x1x128x256, .i1⟩
  | 73 => ⟨S_, .f32⟩
  | 74 => ⟨S_, .f32⟩
  | 75 => ⟨S2x1x32x4x128x256, .i1⟩
  | 76 => ⟨S2x1x32x4x128x256, .f32⟩
  | 77 => ⟨S2x1x32x4x128x256, .f32⟩
  | 78 => ⟨S_, .f32⟩
  | 79 => ⟨S2x1x32x4x128, .f32⟩
  | 80 => ⟨S2x1x32x4x128x1, .f32⟩
  | 81 => ⟨S2x1x32x4x128x256, .f32⟩
  | 82 => ⟨S2x1x32x4x128x256, .f32⟩
  | 83 => ⟨S2x1x32x4x128x256, .f32⟩
  | 84 => ⟨S_, .f32⟩
  | 85 => ⟨S2x1x32x4x128, .f32⟩
  | 86 => ⟨S2x1x32x4x128x1, .f32⟩
  | 87 => ⟨S2x1x32x4x128x256, .f32⟩
  | 88 => ⟨S2x1x32x4x128x256, .f32⟩
  | 89 => ⟨S2x1x32x4x128x1, .f32⟩
  | 90 => ⟨S2x1x32x4x128x1, .f32⟩
  | 91 => ⟨S2x1x32x4x128, .f32⟩
  | 92 => ⟨S2x1x32x128x4, .f32⟩
  | 93 => ⟨S2x1x32x4x128x128, .f32⟩
  | 94 => ⟨S2x1x32x128x4x128, .f32⟩
  | 95 => ⟨S2x1x4096x4x128, .f32⟩
  | 96 => ⟨S2x4096x1x4x128, .f32⟩
  | 97 => ⟨S2x4096x4x128, .f32⟩
  | 98 => ⟨S2x1x4096x4, .f32⟩
  | 99 => ⟨S2x4096x1x4, .f32⟩
  | 100 => ⟨S2x4096x4, .f32⟩
  | 101 => ⟨S2x4096x4, .f32⟩
  | 102 => ⟨S2x4096x4, .f32⟩
  | 103 => ⟨S2x4096x4, .f32⟩
  | 104 => ⟨S2x4096x4, .f32⟩
  | 105 => ⟨S2x4096x4, .f32⟩
  | 106 => ⟨S2x4096x4, .f32⟩
  | 107 => ⟨S2x4096x4, .f32⟩
  | 108 => ⟨S2x4096x4, .f32⟩
  | 109 => ⟨S2x4096x4, .f32⟩
  | 110 => ⟨S2x4096x4, .f32⟩
  | 111 => ⟨S2x4096x4, .f32⟩
  | 112 => ⟨S2x4096x4, .f32⟩
  | 113 => ⟨S2x4096x4, .f32⟩
  | 114 => ⟨S2x4096x4x1, .f32⟩
  | 115 => ⟨S2x4096x4x128, .f32⟩
  | 116 => ⟨S2x4096x4x128, .f32⟩
  | 117 => ⟨S2x4096x4, .f32⟩
  | 118 => ⟨S2x4096x4x1, .f32⟩
  | 119 => ⟨S2x4096x4x128, .f32⟩
  | 120 => ⟨S2x4096x4x128, .f32⟩
  | 121 => ⟨S2x4096x4, .f32⟩
  | 122 => ⟨S2x4096x4x1, .f32⟩
  | 123 => ⟨S2x4096x4x128, .f32⟩
  | 124 => ⟨S2x4096x4x128, .f32⟩
  | 125 => ⟨S2x4096x4x128, .f32⟩
  | 126 => ⟨S2x4096x4x128, .f32⟩
  | 127 => ⟨S2x4096x4x128, .f32⟩
  | _ => ⟨S2x4096x4x128, .f32⟩

abbrev hbmTy0_1 (i : Nat) : BufTy := match i % 128 with
  | 0 => ⟨S_, .f32⟩
  | 1 => ⟨S2x4096x4, .f32⟩
  | 2 => ⟨S2x4096x1x512, .f32⟩
  | 3 => ⟨S2x1x4096x512, .f32⟩
  | 4 => ⟨S2x1x4096x512, .bf16⟩
  | 5 => ⟨S2x4096x4x1, .f32⟩
  | 6 => ⟨S2x4096x4x128, .f32⟩
  | 7 => ⟨S2x4096x1x512, .f32⟩
  | 8 => ⟨S2x1x4096x512, .f32⟩
  | 9 => ⟨S2x4096x4x1, .f32⟩
  | 10 => ⟨S2x4096x4x128, .f32⟩
  | 11 => ⟨S2x4096x1x512, .f32⟩
  | 12 => ⟨S2x1x4096x512, .f32⟩
  | 13 => ⟨S2x1x4096x512, .f32⟩
  | _ => ⟨S2x4096x4x128, .f32⟩

abbrev hbmTy (i : Nat) : BufTy := match i / 128 with
  | 0 => hbmTy0_0 i
  | 1 => hbmTy0_1 i
  | _ => ⟨S2x4096x4x128, .f32⟩

abbrev bufTy : (tb : Table) → Fin (tcTables nBuf tb) → BufTy
  | .hbm, ⟨i, _⟩ => hbmTy i
  | .local _ .vmem, ⟨0, _⟩ => ⟨S1x1x256x512, .bf16⟩
  | .local _ .vmem, ⟨1, _⟩ => ⟨S1x1x256x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x256x512, .bf16⟩
  | .local _ .vmem, ⟨9, _⟩ => ⟨S1x1x256x512, .bf16⟩
  | .local _ .vmem, ⟨10, _⟩ => ⟨S1x1x256x512, .bf16⟩
  | .local _ .vmem, ⟨11, _⟩ => ⟨S1x1x256x512, .bf16⟩
  | .local _ .vmem, ⟨12, _⟩ => ⟨S1x1x256x512, .f32⟩
  | .local _ .vmem, ⟨13, _⟩ => ⟨S1x1x256x512, .f32⟩
  | .local _ .vmem, ⟨14, _⟩ => ⟨S1x1x256x512, .f32⟩
  | .local _ .vmem, ⟨15, _⟩ => ⟨S1x1x256x512, .f32⟩
  | .local _ .vmem, ⟨16, _⟩ => ⟨S1x1x256x512, .f32⟩
  | .local _ .vmem, ⟨17, _⟩ => ⟨S1x1x256x512, .f32⟩
  | _, _ => ⟨S2x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_9 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c1_i32_0 : BitVec 32 := 1#32
  let c0_i32_1 : BitVec 32 := 0#32
  ![arg0.toNat, arg1.toNat, v3.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c2_i32_0 : BitVec 32 := 2#32
  let c0_i32_1 : BitVec 32 := 0#32
  ![arg0.toNat, arg1.toNat, v3.toNat, c2_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x4096x4x128 : Shape := ⟨4, ![2, 4096, 4, 128]⟩
abbrev S2x4096x4 : Shape := ⟨3, ![2, 4096, 4]⟩
abbrev S2x4096x1x4x128 : Shape := ⟨5, ![2, 4096, 1, 4, 128]⟩
abbrev S2x1x4096x4x128 : Shape := ⟨5, ![2, 1, 4096, 4, 128]⟩
abbrev S2x1x32x128x4x128 : Shape := ⟨6, ![2, 1, 32, 128, 4, 128]⟩
abbrev S2x1x31x128x4x128 : Shape := ⟨6, ![2, 1, 31, 128, 4, 128]⟩
abbrev S_ : Shape := ⟨0, ![]⟩
abbrev S2x1x32x256x4x128 : Shape := ⟨6, ![2, 1, 32, 256, 4, 128]⟩
abbrev S2x1x32x4x128x256 : Shape := ⟨6, ![2, 1, 32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S2x1x32x4x128 : Shape := ⟨5, ![2, 1, 32, 4, 128]⟩
abbrev S2x1x32x4x128x1 : Shape := ⟨6, ![2, 1, 32, 4, 128, 1]⟩
abbrev S2x1x32x4x128x128 : Shape := ⟨6, ![2, 1, 32, 4, 128, 128]⟩
abbrev S2x1x32x128x4 : Shape := ⟨5, ![2, 1, 32, 128, 4]⟩
abbrev S2x1x4096x4 : Shape := ⟨4, ![2, 1, 4096, 4]⟩
abbrev S2x4096x1x4 : Shape := ⟨4, ![2, 4096, 1, 4]⟩
abbrev S1x2x4096x4x128 : Shape := ⟨5, ![1, 2, 4096, 4, 128]⟩
abbrev S3x2x4096x4x128 : Shape := ⟨5, ![3, 2, 4096, 4, 128]⟩
abbrev S1x2x4096x4 : Shape := ⟨4, ![1, 2, 4096, 4]⟩
abbrev S3x2x4096x4 : Shape := ⟨4, ![3, 2, 4096, 4]⟩
abbrev S3x2x4096x4x1 : Shape := ⟨5, ![3, 2, 4096, 4, 1]⟩
abbrev S2x32x4x128 : Shape := ⟨4, ![2, 32, 4, 128]⟩
abbrev S2x1x4096x512 : Shape := ⟨4, ![2, 1, 4096, 512]⟩

abbrev nBuf : Space → Nat
  | .hbm => 250
  | .vmem => 0
  | .smem => 0
  | _ => 0

abbrev hbmTy0_0 (i : Nat) : BufTy := match i % 128 with
  | 0 => ⟨S2x4096x4x128, .f32⟩
  | 1 => ⟨S2x4096x4x128, .f32⟩
  | 2 => ⟨S2x4096x4x128, .f32⟩
  | 3 => ⟨S2x4096x4x128, .f32⟩
  | 4 => ⟨S2x4096x4, .f32⟩
  | 5 => ⟨S2x4096x4x128, .f32⟩
  | 6 => ⟨S2x4096x4, .f32⟩
  | 7 => ⟨S2x4096x4x128, .f32⟩
  | 8 => ⟨S2x4096x1x4x128, .f32⟩
  | 9 => ⟨S2x1x4096x4x128, .f32⟩
  | 10 => ⟨S2x1x32x128x4x128, .f32⟩
  | 11 => ⟨S2x4096x1x4x128, .f32⟩
  | 12 => ⟨S2x1x4096x4x128, .f32⟩
  | 13 => ⟨S2x1x32x128x4x128, .f32⟩
  | 14 => ⟨S2x1x31x128x4x128, .f32⟩
  | 15 => ⟨S_, .i32⟩
  | 16 => ⟨S_, .f32⟩
  | 17 => ⟨S2x1x32x128x4x128, .f32⟩
  | 18 => ⟨S2x1x32x256x4x128, .f32⟩
  | 19 => ⟨S2x4096x1x4x128, .f32⟩
  | 20 => ⟨S2x1x4096x4x128, .f32⟩
  | 21 => ⟨S2x1x32x128x4x128, .f32⟩
  | 22 => ⟨S2x1x31x128x4x128, .f32⟩
  | 23 => ⟨S_, .i32⟩
  | 24 => ⟨S_, .f32⟩
  | 25 => ⟨S2x1x32x128x4x128, .f32⟩
  | 26 => ⟨S2x1x32x256x4x128, .f32⟩
  | 27 => ⟨S2x1x32x4x128x256, .f32⟩
  | 28 => ⟨S_, .f32⟩
  | 29 => ⟨S2x1x32x4x128x256, .f32⟩
  | 30 => ⟨S2x1x32x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S32, .i32⟩
  | 49 => ⟨S_, .i32⟩
  | 50 => ⟨S32, .i32⟩
  | 51 => ⟨S32, .i1⟩
  | 52 => ⟨S32x1x1, .i1⟩
  | 53 => ⟨S_, .i32⟩
  | 54 => ⟨S1x256, .i32⟩
  | 55 => ⟨S1x256, .i1⟩
  | 56 => ⟨S1x1x256, .i1⟩
  | 57 => ⟨S32x1x256, .i1⟩
  | 58 => ⟨S32x1x256, .i1⟩
  | 59 => ⟨S32x1x256, .i1⟩
  | 60 => ⟨S1x128x256, .i1⟩
  | 61 => ⟨S32x128x256, .i1⟩
  | 62 => ⟨S32x128x256, .i1⟩
  | 63 => ⟨S32x128x256, .i1⟩
  | 64 => ⟨S1x1x32x1x128x256, .i1⟩
  | 65 => ⟨S_, .f32⟩
  | 66 => ⟨S_, .f32⟩
  | 67 => ⟨S2x1x32x4x128x256, .i1⟩
  | 68 => ⟨S2x1x32x4x128x256, .f32⟩
  | 69 => ⟨S2x1x32x4x128x256, .f32⟩
  | 70 => ⟨S_, .f32⟩
  | 71 => ⟨S2x1x32x4x128x256, .f32⟩
  | 72 => ⟨S_, .f32⟩
  | 73 => ⟨S2x1x32x4x128, .f32⟩
  | 74 => ⟨S2x1x32x4x128x1, .f32⟩
  | 75 => ⟨S2x1x32x4x128x256, .f32⟩
  | 76 => ⟨S2x1x32x4x128x256, .i1⟩
  | 77 => ⟨S2x1x32x4x128x256, .f32⟩
  | 78 => ⟨S_, .f32⟩
  | 79 => ⟨S2x1x32x4x128, .f32⟩
  | 80 => ⟨S2x1x32x4x128x1, .f32⟩
  | 81 => ⟨S2x1x32x4x128x256, .f32⟩
  | 82 => ⟨S2x1x32x4x128x256, .f32⟩
  | 83 => ⟨S2x1x32x4x128x256, .f32⟩
  | 84 => ⟨S_, .f32⟩
  | 85 => ⟨S2x1x32x4x128, .f32⟩
  | 86 => ⟨S2x1x32x4x128x1, .f32⟩
  | 87 => ⟨S2x1x32x4x128x256, .f32⟩
  | 88 => ⟨S2x1x32x4x128x256, .f32⟩
  | 89 => ⟨S2x1x32x4x128x1, .f32⟩
  | 90 => ⟨S_, .f32⟩
  | 91 => ⟨S2x1x32x4x128x1, .f32⟩
  | 92 => ⟨S2x1x32x4x128x1, .f32⟩
  | 93 => ⟨S2x1x32x4x128x128, .f32⟩
  | 94 => ⟨S2x1x32x128x4x128, .f32⟩
  | 95 => ⟨S2x1x32x4x128x1, .f32⟩
  | 96 => ⟨S2x1x32x4x128x1, .f32⟩
  | 97 => ⟨S2x1x32x4x128, .f32⟩
  | 98 => ⟨S2x1x32x128x4, .f32⟩
  | 99 => ⟨S2x1x4096x4x128, .f32⟩
  | 100 => ⟨S2x4096x1x4x128, .f32⟩
  | 101 => ⟨S2x4096x4x128, .f32⟩
  | 102 => ⟨S2x1x4096x4, .f32⟩
  | 103 => ⟨S2x4096x1x4, .f32⟩
  | 104 => ⟨S2x4096x4, .f32⟩
  | 105 => ⟨S1x2x4096x4x128, .f32⟩
  | 106 => ⟨S1x2x4096x4x128, .f32⟩
  | 107 => ⟨S1x2x4096x4x128, .f32⟩
  | 108 => ⟨S3x2x4096x4x128, .f32⟩
  | 109 => ⟨S_, .f32⟩
  | 110 => ⟨S2x4096x4x128, .f32⟩
  | 111 => ⟨S_, .f32⟩
  | 112 => ⟨S2x4096x4x128, .f32⟩
  | 113 => ⟨S1x2x4096x4, .f32⟩
  | 114 => ⟨S1x2x4096x4, .f32⟩
  | 115 => ⟨S1x2x4096x4, .f32⟩
  | 116 => ⟨S3x2x4096x4, .f32⟩
  | 117 => ⟨S_, .f32⟩
  | 118 => ⟨S2x4096x4, .f32⟩
  | 119 => ⟨S_, .f32⟩
  | 120 => ⟨S2x4096x4, .f32⟩
  | 121 => ⟨S_, .f32⟩
  | 122 => ⟨S2x4096x4, .f32⟩
  | 123 => ⟨S1x2x4096x4, .f32⟩
  | 124 => ⟨S3x2x4096x4, .f32⟩
  | 125 => ⟨S3x2x4096x4, .i1⟩
  | 126 => ⟨S3x2x4096x4, .f32⟩
  | 127 => ⟨S_, .f32⟩
  | _ => ⟨S2x4096x4x128, .f32⟩

abbrev hbmTy0_1 (i : Nat) : BufTy := match i % 128 with
  | 0 => ⟨S2x4096x4, .f32⟩
  | 1 => ⟨S_, .f32⟩
  | 2 => ⟨S2x4096x4, .f32⟩
  | 3 => ⟨S2x4096x4, .f32⟩
  | 4 => ⟨S_, .f32⟩
  | 5 => ⟨S2x4096x4, .f32⟩
  | 6 => ⟨S2x4096x4, .i1⟩
  | 7 => ⟨S_, .f32⟩
  | 8 => ⟨S2x4096x4, .f32⟩
  | 9 => ⟨S2x4096x4, .i1⟩
  | 10 => ⟨S_, .f32⟩
  | 11 => ⟨S2x4096x4, .f32⟩
  | 12 => ⟨S_, .f32⟩
  | 13 => ⟨S2x4096x4, .f32⟩
  | 14 => ⟨S_, .f32⟩
  | 15 => ⟨S2x4096x4, .f32⟩
  | 16 => ⟨S2x4096x4, .f32⟩
  | 17 => ⟨S2x4096x4, .f32⟩
  | 18 => ⟨S1x2x4096x4, .f32⟩
  | 19 => ⟨S3x2x4096x4, .f32⟩
  | 20 => ⟨S3x2x4096x4, .f32⟩
  | 21 => ⟨S3x2x4096x4, .f32⟩
  | 22 => ⟨S_, .f32⟩
  | 23 => ⟨S2x4096x4, .f32⟩
  | 24 => ⟨S1x2x4096x4, .f32⟩
  | 25 => ⟨S3x2x4096x4, .f32⟩
  | 26 => ⟨S3x2x4096x4, .f32⟩
  | 27 => ⟨S1x2x4096x4, .f32⟩
  | 28 => ⟨S_, .f32⟩
  | 29 => ⟨S1x2x4096x4, .f32⟩
  | 30 => ⟨S1x2x4096x4, .f32⟩
  | 31 => ⟨S3x2x4096x4x1, .f32⟩
  | 32 => ⟨S3x2x4096x4x128, .f32⟩
  | 33 => ⟨S3x2x4096x4x128, .f32⟩
  | 34 => ⟨S_, .f32⟩
  | 35 => ⟨S2x4096x4x128, .f32⟩
  | 36 => ⟨S3x2x4096x4x128, .f32⟩
  | 37 => ⟨S3x2x4096x4x128, .f32⟩
  | 38 => ⟨S3x2x4096x4x128, .f32⟩
  | 39 => ⟨S3x2x4096x4x128, .f32⟩
  | 40 => ⟨S_, .f32⟩
  | 41 => ⟨S3x2x4096x4, .f32⟩
  | 42 => ⟨S3x2x4096x4x1, .f32⟩
  | 43 => ⟨S_, .f32⟩
  | 44 => ⟨S3x2x4096x4, .f32⟩
  | 45 => ⟨S3x2x4096x4, .f32⟩
  | 46 => ⟨S3x2x4096x4, .f32⟩
  | 47 => ⟨S3x2x4096x4, .f32⟩
  | 48 => ⟨S_, .f32⟩
  | 49 => ⟨S2x4096x4, .f32⟩
  | 50 => ⟨S1x2x4096x4, .f32⟩
  | 51 => ⟨S1x2x4096x4, .f32⟩
  | 52 => ⟨S3x2x4096x4, .f32⟩
  | 53 => ⟨S3x2x4096x4, .f32⟩
  | 54 => ⟨S_, .f32⟩
  | 55 => ⟨S2x4096x4, .f32⟩
  | 56 => ⟨S3x2x4096x4, .f32⟩
  | 57 => ⟨S3x2x4096x4, .f32⟩
  | 58 => ⟨S3x2x4096x4, .f32⟩
  | 59 => ⟨S1x2x4096x4, .f32⟩
  | 60 => ⟨S2x4096x4, .f32⟩
  | 61 => ⟨S1x2x4096x4, .f32⟩
  | 62 => ⟨S2x4096x4, .f32⟩
  | 63 => ⟨S1x2x4096x4, .f32⟩
  | 64 => ⟨S2x4096x4, .f32⟩
  | 65 => ⟨S1x2x4096x4x128, .f32⟩
  | 66 => ⟨S2x4096x4x128, .f32⟩
  | 67 => ⟨S1x2x4096x4x128, .f32⟩
  | 68 => ⟨S2x4096x4x128, .f32⟩
  | 69 => ⟨S1x2x4096x4x128, .f32⟩
  | 70 => ⟨S2x4096x4x128, .f32⟩
  | 71 => ⟨S2x4096x1x4, .f32⟩
  | 72 => ⟨S2x1x4096x4, .f32⟩
  | 73 => ⟨S2x1x32x128x4, .f32⟩
  | 74 => ⟨S2x4096x1x4x128, .f32⟩
  | 75 => ⟨S2x1x4096x4x128, .f32⟩
  | 76 => ⟨S2x1x32x128x4x128, .f32⟩
  | 77 => ⟨S2x1x32x4x128, .f32⟩
  | 78 => ⟨S2x1x32x4x128x1, .f32⟩
  | 79 => ⟨S2x1x32x4x128x1, .f32⟩
  | 80 => ⟨S2x1x32x4x128x128, .f32⟩
  | 81 => ⟨S2x1x32x4x128x256, .f32⟩
  | 82 => ⟨S2x1x32x4x128x256, .f32⟩
  | 83 => ⟨S2x1x32x4x128x256, .f32⟩
  | 84 => ⟨S2x1x32x4x128x256, .f32⟩
  | 85 => ⟨S_, .f32⟩
  | 86 => ⟨S2x1x32x4x128, .f32⟩
  | 87 => ⟨S2x1x32x4x128x1, .f32⟩
  | 88 => ⟨S2x1x32x4x128x1, .f32⟩
  | 89 => ⟨S2x1x32x4x128x1, .f32⟩
  | 90 => ⟨S2x1x32x4x128x256, .f32⟩
  | 91 => ⟨S2x1x32x4x128x256, .f32⟩
  | 92 => ⟨S_, .f32⟩
  | 93 => ⟨S2x32x4x128, .f32⟩
  | 94 => ⟨S2x1x32x4x128, .f32⟩
  | 95 => ⟨S2x1x32x4x128x256, .f32⟩
  | 96 => ⟨S2x1x32x4x128x256, .f32⟩
  | 97 => ⟨S2x1x32x4x128x256, .f32⟩
  | 98 => ⟨S2x1x32x4x128x256, .f32⟩
  | 99 => ⟨S_, .f32⟩
  | 100 => ⟨S2x1x32x4x128, .f32⟩
  | 101 => ⟨S2x1x32x4x128x1, .f32⟩
  | 102 => ⟨S2x1x32x4x128x1, .f32⟩
  | 103 => ⟨S_, .f32⟩
  | 104 => ⟨S2x32x4x128, .f32⟩
  | 105 => ⟨S2x1x32x4x128, .f32⟩
  | 106 => ⟨S2x1x32x4x128, .f32⟩
  | 107 => ⟨S2x1x32x4x128x256, .f32⟩
  | 108 => ⟨S2x1x32x4x128x256, .f32⟩
  | 109 => ⟨S2x1x32x4x128x256, .f32⟩
  | 110 => ⟨S_, .f32⟩
  | 111 => ⟨S2x1x32x4x128x256, .f32⟩
  | 112 => ⟨S2x1x32x4x128x256, .f32⟩
  | 113 => ⟨S_, .f32⟩
  | 114 => ⟨S2x1x32x4x128x256, .f32⟩
  | 115 => ⟨S2x1x32x4x128x256, .f32⟩
  | 116 => ⟨S2x1x32x4x128x128, .f32⟩
  | 117 => ⟨S2x1x32x128x4x128, .f32⟩
  | 118 => ⟨S2x1x4096x4x128, .f32⟩
  | 119 => ⟨S2x4096x1x4x128, .f32⟩
  | 120 => ⟨S2x4096x4x128, .f32⟩
  | 121 => ⟨S2x1x4096x512, .f32⟩
  | _ => ⟨S2x4096x4x128, .f32⟩

abbrev hbmTy (i : Nat) : BufTy := match i / 128 with
  | 0 => hbmTy0_0 i
  | 1 => hbmTy0_1 i
  | _ => ⟨S2x4096x4x128, .f32⟩

abbrev bufTy : (tb : Table) → Fin (tcTables nBuf tb) → BufTy
  | .hbm, ⟨i, _⟩ => hbmTy i
  | _, _ => ⟨S2x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_call2_v0 : Ref sig .tc := ⟨.hbm, 66, rfl⟩
abbrev main_v47_1 : Ref sig .tc := ⟨.hbm, 67, rfl⟩
abbrev main_call2_v2 : Ref sig .tc := ⟨.hbm, 68, rfl⟩
abbrev main_v47_0 : Ref sig .tc := ⟨.hbm, 69, rfl⟩
abbrev main_call2_cst : Ref sig .tc := ⟨.hbm, 70, rfl⟩
abbrev main_v47_2 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_13 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_cst_15 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_cst_18 : Ref sig .tc := ⟨.hbm, 132, rfl⟩
abbrev main_v97 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_cst_20 : Ref sig .tc := ⟨.hbm, 138, rfl⟩
abbrev main_v101 : Ref sig .tc := ⟨.hbm, 139, rfl⟩
abbrev main_cst_21 : Ref sig .tc := ⟨.hbm, 140, rfl⟩
abbrev main_v102 : Ref sig .tc := ⟨.hbm, 141, rfl⟩
abbrev main_cst_22 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_23 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_24 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_25 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_26 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_28 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_29 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_30 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_31 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_32 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_33 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_call3_cst : Ref sig .tc := ⟨.hbm, 238, rfl⟩
abbrev main_call3_v0 : Ref sig .tc := ⟨.hbm, 239, rfl⟩
abbrev main_v187 : Ref sig .tc := ⟨.hbm, 240, rfl⟩
abbrev main_cst_34 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩

abbrev nD : Nat := 1
abbrev τ : Topo := Topo.v7x

variable {F : FTy → Type} [FloatOps F]
-- ==== Kernel2.lean ====
abbrev S8192x1024 : Shape := ⟨2, ![8192, 1024]⟩
abbrev S12288x1024 : Shape := ⟨2, ![12288, 1024]⟩
abbrev S8192x12288 : Shape := ⟨2, ![8192, 12288]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x12288, .bf16⟩
  | .hbm, ⟨3, _⟩ => ⟨S12288x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S12288x1024 : Shape := ⟨2, ![12288, 1024]⟩
abbrev S8192x12288 : Shape := ⟨2, ![8192, 12288]⟩
abbrev S1024x12288 : Shape := ⟨2, ![1024, 12288]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x12288, .bf16⟩
  | .hbm, ⟨3, _⟩ => ⟨S1024x12288, .bf16⟩
  | .hbm, ⟨4, _⟩ => ⟨S8192x1024, .f32⟩
  | .hbm, ⟨5, _⟩ => ⟨S1024x12288, .f32⟩
  | .hbm, ⟨6, _⟩ => ⟨S8192x12288, .f32⟩
  | .hbm, ⟨7, _⟩ => ⟨S8192x12288, .f32⟩
  | .hbm, ⟨8, _⟩ => ⟨S12288x1024, .f32⟩
  | .hbm, ⟨9, _⟩ => ⟨S1024x12288, .f32⟩
  | .hbm, ⟨10, _⟩ => ⟨S8192x1024, .f32⟩
  | .hbm, ⟨11, _⟩ => ⟨S12288x1024, .f32⟩
  | .hbm, ⟨12, _⟩ => ⟨S12288x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8192x1024 : Shape := ⟨2, ![8192, 1024]⟩
abbrev S12288x1024 : Shape := ⟨2, ![12288, 1024]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x12288, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S12288x1024 : Shape := ⟨2, ![12288, 1024]⟩
abbrev S8192x12288 : Shape := ⟨2, ![8192, 12288]⟩
abbrev S1024x12288 : Shape := ⟨2, ![1024, 12288]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x12288, .bf16⟩
  | .hbm, ⟨3, _⟩ => ⟨S1024x12288, .bf16⟩
  | .hbm, ⟨4, _⟩ => ⟨S8192x1024, .f32⟩
  | .hbm, ⟨5, _⟩ => ⟨S1024x12288, .f32⟩
  | .hbm, ⟨6, _⟩ => ⟨S8192x12288, .f32⟩
  | .hbm, ⟨7, _⟩ => ⟨S8192x12288, .f32⟩
  | .hbm, ⟨8, _⟩ => ⟨S12288x1024, .f32⟩
  | .hbm, ⟨9, _⟩ => ⟨S1024x12288, .f32⟩
  | .hbm, ⟨10, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S8192x2816 : Shape := ⟨2, ![8192, 2816]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S1024x2816, .bf16⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S2816x1024, .f32⟩
  | .hbm, ⟨12, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S8192x2048, .f32⟩
  | .hbm, ⟨10, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x512 : Shape := ⟨2, ![8192, 512]⟩
abbrev S1024x512 : Shape := ⟨2, ![1024, 512]⟩
abbrev S8192x1024 : Shape := ⟨2, ![8192, 1024]⟩
abbrev S2048x1024 : Shape := ⟨2, ![2048, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .hbm, ⟨3, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x512 : Shape := ⟨2, ![8192, 512]⟩
abbrev S1024x512 : Shape := ⟨2, ![1024, 512]⟩
abbrev S8192x1024 : Shape := ⟨2, ![8192, 1024]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .hbm, ⟨3, _⟩ => ⟨S512x1024, .bf16⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S1024x512, .f32⟩
  | .hbm, ⟨11, _⟩ => ⟨S1024x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .hbm, ⟨3, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x512 : Shape := ⟨2, ![8192, 512]⟩
abbrev S1024x512 : Shape := ⟨2, ![1024, 512]⟩
abbrev S8192x1024 : Shape := ⟨2, ![8192, 1024]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x1024, .bf16⟩
  | .hbm, ⟨3, _⟩ => ⟨S512x1024, .bf16⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S12288x1024 : Shape := ⟨2, ![12288, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S2048x1024, .bf16⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S12288x1024 : Shape := ⟨2, ![12288, 1024]⟩
abbrev S1024x12288 : Shape := ⟨2, ![1024, 12288]⟩
abbrev S8192x12288 : Shape := ⟨2, ![8192, 12288]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x1024, .f32⟩
  | .hbm, ⟨3, _⟩ => ⟨S12288x1024, .f32⟩
  | .hbm, ⟨4, _⟩ => ⟨S1024x12288, .f32⟩
  | .hbm, ⟨5, _⟩ => ⟨S8192x12288, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S12288x1024 : Shape := ⟨2, ![12288, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S3072x1024, .bf16⟩
  | .hbm, ⟨3, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S12288x1024 : Shape := ⟨2, ![12288, 1024]⟩
abbrev S1024x12288 : Shape := ⟨2, ![1024, 12288]⟩
abbrev S8192x12288 : Shape := ⟨2, ![8192, 12288]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x1024, .f32⟩
  | .hbm, ⟨3, _⟩ => ⟨S12288x1024, .f32⟩
  | .hbm, ⟨4, _⟩ => ⟨S1024x12288, .f32⟩
  | .hbm, ⟨5, _⟩ => ⟨S8192x12288, .f32⟩
  | .hbm, ⟨6, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S12288x1024 : Shape := ⟨2, ![12288, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S2048x1024, .bf16⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S12288x1024 : Shape := ⟨2, ![12288, 1024]⟩
abbrev S1024x12288 : Shape := ⟨2, ![1024, 12288]⟩
abbrev S8192x12288 : Shape := ⟨2, ![8192, 12288]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12288x1024, .bf16⟩
  | .hbm, ⟨2, _⟩ => ⟨S8192x1024, .f32⟩
  | .hbm, ⟨3, _⟩ => ⟨S12288x1024, .f32⟩
  | .hbm, ⟨4, _⟩ => ⟨S1024x12288, .f32⟩
  | .hbm, ⟨5, _⟩ => ⟨S8192x12288, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .f32⟩
  | .hbm, ⟨4, _⟩ => ⟨S8192x2816, .f32⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel15.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel16.lean ====
abbrev S8192x512 : Shape := ⟨2, ![8192, 512]⟩
abbrev S1024x512 : Shape := ⟨2, ![1024, 512]⟩
abbrev S8192x2048 : Shape := ⟨2, ![8192, 2048]⟩
abbrev S1x2048 : Shape := ⟨2, ![1, 2048]⟩
abbrev S8192x1024 : Shape := ⟨2, ![8192, 1024]⟩
abbrev S512x512 : Shape := ⟨2, ![512, 512]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S8192x512 : Shape := ⟨2, ![8192, 512]⟩
abbrev S1024x512 : Shape := ⟨2, ![1024, 512]⟩
abbrev S8192x2048 : Shape := ⟨2, ![8192, 2048]⟩
abbrev S1x2048 : Shape := ⟨2, ![1, 2048]⟩
abbrev S8192x1024 : Shape := ⟨2, ![8192, 1024]⟩
abbrev S512x1024 : Shape := ⟨2, ![512, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .bf16⟩
  | .hbm, ⟨2, _⟩ => ⟨S8192x2048, .f32⟩
  | .hbm, ⟨3, _⟩ => ⟨S1x2048, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S1x1024, .f32⟩
  | .hbm, ⟨9, _⟩ => ⟨S8192x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_10 : BitVec 32 := 0#32
  let v12 : BitVec 1 := Scalar.cmpi .eq arg1 c0_i32_10
  let v13 : BitVec 32 := Scalar.extui v12
  let c0_i32_11 : BitVec 32 := 0#32
  let v14 : BitVec 1 := Scalar.cmpi .ne v13 c0_i32_11
  v14

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference18Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S2816x1024, .f32⟩
  | .hbm, ⟨35, _⟩ => ⟨S1024x2816, .f32⟩
  | .hbm, ⟨36, _⟩ => ⟨S8192x1024, .f32⟩
  | .hbm, ⟨37, _⟩ => ⟨S2816x1024, .f32⟩
  | .hbm, ⟨38, _⟩ => ⟨S1024x2816, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel19.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x2816 : Shape := ⟨2, ![1024, 2816]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1024x2816, .f32⟩
  | .hbm, ⟨76, _⟩ => ⟨S2816x1024, .f32⟩
  | .hbm, ⟨77, _⟩ => ⟨S8192x2816, .f32⟩
  | .hbm, ⟨78, _⟩ => ⟨S1x128, .f32⟩
  | .hbm, ⟨79, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel20.lean ====
abbrev S8192x1024 : Shape := ⟨2, ![8192, 1024]⟩
abbrev S4608x1024 : Shape := ⟨2, ![4608, 1024]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S2x1x4096x1536 : Shape := ⟨4, ![2, 1, 4096, 1536]⟩
abbrev S2x4x1024x1536 : Shape := ⟨4, ![2, 4, 1024, 1536]⟩
abbrev S2x16x256x1536 : Shape := ⟨4, ![2, 16, 256, 1536]⟩
abbrev S1024x1024 : Shape := ⟨2, ![1024, 1024]⟩
abbrev S1024x128 : Shape := ⟨2, ![1024, 128]⟩
abbrev S1x1x1024x1536 : Shape := ⟨4, ![1, 1, 1024, 1536]⟩
abbrev S1x4x256x1536 : Shape := ⟨4, ![1, 4, 256, 1536]⟩
abbrev S1x16x64x1536 : Shape := ⟨4, ![1, 16, 64, 1536]⟩
abbrev S768x1024 : Shape := ⟨2, ![768, 1024]⟩
abbrev S1024x768 : Shape := ⟨2, ![1024, 768]⟩
abbrev S1x1x1024x128 : Shape := ⟨4, ![1, 1, 1024, 128]⟩
abbrev S256x128 : Shape := ⟨2, ![256, 128]⟩
abbrev S1x1x256x128 : Shape := ⟨4, ![1, 1, 256, 128]⟩
abbrev S64x128 : Shape := ⟨2, ![64, 128]⟩
abbrev S1x1x64x128 : Shape := ⟨4, ![1, 1, 64, 128]⟩

abbrev nBuf : Space → Nat
  | .hbm => 25
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S4608x1024, .bf16⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S4096, .i32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S2x1x4096x1536, .bf16⟩
  | .hbm, ⟨23, _⟩ => ⟨S2x4x1024x1536, .bf16⟩
  | .hbm, ⟨24, _⟩ => ⟨S2x16x256x1536, .bf16⟩
  | .local _ .vmem, ⟨0, _⟩ => ⟨S1024x1024, .bf16⟩
  | .local _ .vmem, ⟨1, _⟩ => ⟨S1024x1024, .bf16⟩
  | .local _ .vmem, ⟨2, _⟩ => ⟨S4608x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x1x1024x1536, .bf16⟩
  | .local _ .vmem, ⟨8, _⟩ => ⟨S1x1x1024x1536, .bf16⟩
  | .local _ .vmem, ⟨9, _⟩ => ⟨S1x4x256x1536, .bf16⟩
  | .local _ .vmem, ⟨10, _⟩ => ⟨S1x4x256x1536, .bf16⟩
  | .local _ .vmem, ⟨11, _⟩ => ⟨S1x16x64x1536, .bf16⟩
  | .local _ .vmem, ⟨12, _⟩ => ⟨S1x16x64x1536, .bf16⟩
  | .local _ .vmem, ⟨13, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18_0 : Ref sig .tc := ⟨.hbm, 22, rfl⟩
abbrev main_v18_1 : Ref sig .tc := ⟨.hbm, 23, rfl⟩
abbrev main_v18_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x1024 : Shape := ⟨2, ![8192, 1024]⟩
abbrev S4608x1024 : Shape := ⟨2, ![4608, 1024]⟩
abbrev S1024x4608 : Shape := ⟨2, ![1024, 4608]⟩
abbrev S8192x4608 : Shape := ⟨2, ![8192, 4608]⟩
abbrev S2x4096x3x12x128 : Shape := ⟨5, ![2, 4096, 3, 12, 128]⟩
abbrev S4096 : Shape := ⟨1, ![4096]⟩
abbrev S2x4096x1x12x128 : Shape := ⟨5, ![2, 4096, 1, 12, 128]⟩
abbrev S2x4096x12x128 : Shape := ⟨4, ![2, 4096, 12, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x12x64 : Shape := ⟨4, ![2, 4096, 12, 64]⟩
abbrev S2x4096x4x128 : Shape := ⟨4, ![2, 4096, 4, 128]⟩
abbrev S2x4096x1x512 : Shape := ⟨4, ![2, 4096, 1, 512]⟩
abbrev S2x4096x1x1536 : Shape := ⟨4, ![2, 4096, 1, 1536]⟩
abbrev S2x1x4096x1536 : Shape := ⟨4, ![2, 1, 4096, 1536]⟩
abbrev S2x1024x4x512 : Shape := ⟨4, ![2, 1024, 4, 512]⟩
abbrev S2x1024x4x1536 : Shape := ⟨4, ![2, 1024, 4, 1536]⟩
abbrev S2x4x1024x1536 : Shape := ⟨4, ![2, 4, 1024, 1536]⟩
abbrev S2x256x16x512 : Shape := ⟨4, ![2, 256, 16, 512]⟩
abbrev S2x256x16x1536 : Shape := ⟨4, ![2, 256, 16, 1536]⟩
abbrev S2x16x256x1536 : Shape := ⟨4, ![2, 16, 256, 1536]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4608x1024, .bf16⟩
  | .hbm, ⟨2, _⟩ => ⟨S8192x1024, .f32⟩
  | .hbm, ⟨3, _⟩ => ⟨S4608x1024, .f32⟩
  | .hbm, ⟨4, _⟩ => ⟨S1024x4608, .f32⟩
  | .hbm, ⟨5, _⟩ => ⟨S8192x4608, .f32⟩
  | .hbm, ⟨6, _⟩ => ⟨S2x4096x3x12x128, .f32⟩
  | .hbm, ⟨7, _⟩ => ⟨S4096, .i32⟩
  | .hbm, ⟨8, _⟩ => ⟨S2x4096x1x12x128, .f32⟩
  | .hbm, ⟨9, _⟩ => ⟨S2x4096x12x128, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S4096, .f32⟩
  | .hbm, ⟨19, _⟩ => ⟨S4096x1, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S1x4096x1x64, .f32⟩
  | .hbm, ⟨26, _⟩ => ⟨S4096x64, .f32⟩
  | .hbm, ⟨27, _⟩ => ⟨S1x4096x1x64, .f32⟩
  | .hbm, ⟨28, _⟩ => ⟨S2x4096x12x64, .f32⟩
  | .hbm, ⟨29, _⟩ => ⟨S2x4096x12x64, .f32⟩
  | .hbm, ⟨30, _⟩ => ⟨S2x4096x12x64, .f32⟩
  | .hbm, ⟨31, _⟩ => ⟨S2x4096x12x64, .f32⟩
  | .hbm, ⟨32, _⟩ => ⟨S2x4096x12x64, .f32⟩
  | .hbm, ⟨33, _⟩ => ⟨S2x4096x12x64, .f32⟩
  | .hbm, ⟨34, _⟩ => ⟨S2x4096x12x64, .f32⟩
  | .hbm, ⟨35, _⟩ => ⟨S2x4096x12x64, .f32⟩
  | .hbm, ⟨36, _⟩ => ⟨S2x4096x12x64, .f32⟩
  | .hbm, ⟨37, _⟩ => ⟨S2x4096x12x64, .f32⟩
  | .hbm, ⟨38, _⟩ => ⟨S2x4096x12x64, .f32⟩
  | .hbm, ⟨39, _⟩ => ⟨S2x4096x12x64, .f32⟩
  | .hbm, ⟨40, _⟩ => ⟨S2x4096x12x128, .f32⟩
  | .hbm, ⟨41, _⟩ => ⟨S2x4096x1x12x128, .f32⟩
  | .hbm, ⟨42, _⟩ => ⟨S2x4096x12x128, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S4096, .f32⟩
  | .hbm, ⟨52, _⟩ => ⟨S4096x1, .f32⟩
  | .hbm, ⟨53, _⟩ => ⟨S1x64, .f32⟩
  | .hbm, ⟨54, _⟩ => ⟨S4096x64, .f32⟩
  | .hbm, ⟨55, _⟩ => ⟨S4096x64, .f32⟩
  | .hbm, ⟨56, _⟩ => ⟨S4096x64, .f32⟩
  | .hbm, ⟨57, _⟩ => ⟨S4096x64, .f32⟩
  | .hbm, ⟨58, _⟩ => ⟨S1x4096x1x64, .f32⟩
  | .hbm, ⟨59, _⟩ => ⟨S4096x64, .f32⟩
  | .hbm, ⟨60, _⟩ => ⟨S1x4096x1x64, .f32⟩
  | .hbm, ⟨61, _⟩ => ⟨S2x4096x12x64, .f32⟩
  | .hbm, ⟨62, _⟩ => ⟨S2x4096x12x64, .f32⟩
  | .hbm, ⟨63, _⟩ => ⟨S2x4096x12x64, .f32⟩
  | .hbm, ⟨64, _⟩ => ⟨S2x4096x12x64, .f32⟩
  | .hbm, ⟨65, _⟩ => ⟨S2x4096x12x64, .f32⟩
  | .hbm, ⟨66, _⟩ => ⟨S2x4096x12x64, .f32⟩
  | .hbm, ⟨67, _⟩ => ⟨S2x4096x12x64, .f32⟩
  | .hbm, ⟨68, _⟩ => ⟨S2x4096x12x64, .f32⟩
  | .hbm, ⟨69, _⟩ => ⟨S2x4096x12x64, .f32⟩
  | .hbm, ⟨70, _⟩ => ⟨S2x4096x12x64, .f32⟩
  | .hbm, ⟨71, _⟩ => ⟨S2x4096x12x64, .f32⟩
  | .hbm, ⟨72, _⟩ => ⟨S2x4096x12x64, .f32⟩
  | .hbm, ⟨73, _⟩ => ⟨S2x4096x12x128, .f32⟩
  | .hbm, ⟨74, _⟩ => ⟨S2x4096x1x12x128, .f32⟩
  | .hbm, ⟨75, _⟩ => ⟨S2x4096x12x128, .f32⟩
  | .hbm, ⟨76, _⟩ => ⟨S2x4096x4x128, .f32⟩
  | .hbm, ⟨77, _⟩ => ⟨S2x4096x1x512, .f32⟩
  | .hbm, ⟨78, _⟩ => ⟨S2x4096x4x128, .f32⟩
  | .hbm, ⟨79, _⟩ => ⟨S2x4096x1x512, .f32⟩
  | .hbm, ⟨80, _⟩ => ⟨S2x4096x4x128, .f32⟩
  | .hbm, ⟨81, _⟩ => ⟨S2x4096x1x512, .f32⟩
  | .hbm, ⟨82, _⟩ => ⟨S2x4096x1x1536, .f32⟩
  | .hbm, ⟨83, _⟩ => ⟨S2x1x4096x1536, .f32⟩
  | .hbm, ⟨84, _⟩ => ⟨S2x1x4096x1536, .bf16⟩
  | .hbm, ⟨85, _⟩ => ⟨S2x4096x4x128, .f32⟩
  | .hbm, ⟨86, _⟩ => ⟨S2x1024x4x512, .f32⟩
  | .hbm, ⟨87, _⟩ => ⟨S2x4096x4x128, .f32⟩
  | .hbm, ⟨88, _⟩ => ⟨S2x1024x4x512, .f32⟩
  | .hbm, ⟨89, _⟩ => ⟨S2x4096x4x128, .f32⟩
  | .hbm, ⟨90, _⟩ => ⟨S2x1024x4x512, .f32⟩
  | .hbm, ⟨91, _⟩ => ⟨S2x1024x4x1536, .f32⟩
  | .hbm, ⟨92, _⟩ => ⟨S2x4x1024x1536, .f32⟩
  | .hbm, ⟨93, _⟩ => ⟨S2x4x1024x1536, .bf16⟩
  | .hbm, ⟨94, _⟩ => ⟨S2x4096x4x128, .f32⟩
  | .hbm, ⟨95, _⟩ => ⟨S2x256x16x512, .f32⟩
  | .hbm, ⟨96, _⟩ => ⟨S2x4096x4x128, .f32⟩
  | .hbm, ⟨97, _⟩ => ⟨S2x256x16x512, .f32⟩
  | .hbm, ⟨98, _⟩ => ⟨S2x4096x4x128, .f32⟩
  | .hbm, ⟨99, _⟩ => ⟨S2x256x16x512, .f32⟩
  | .hbm, ⟨100, _⟩ => ⟨S2x256x16x1536, .f32⟩
  | .hbm, ⟨101, _⟩ => ⟨S2x16x256x1536, .f32⟩
  | .hbm, ⟨102, _⟩ => ⟨S2x16x256x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩

abbrev nD : Nat := 1
abbrev τ : Topo := Topo.v7x

variable {F : FTy → Type} [FloatOps F]
-- ==== Proof.InDw.lean ====
/- The gradient of the input projection's weights: the version's product, added up block by block over the tokens
   in an accumulator that is carried from grid point to grid point, is the one product of whole arrays. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.InDw

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1024 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1024x1024.Idx) : EReal :=
  ∑ k : Fin 2048, left m c t (ix2 k (j 0)) * right m c t (ix2 k (j 1))

/-- The body's sum at an entry: the accumulator, and the product of the two blocks. -/
theorem sum_at (a : FVec Ideal S1024x1024 .f32) (x : FVec Ideal S2048x1024 .bf16) (y : FVec Ideal S2048x1024 .bf16) (j : S1024x1024.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1024x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1024x1024.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x12288 .bf16 := m ((c : Thread nD τ).loc main_arg2)

/-- The second factor, as launched. -/
def factor₂ : FVec Ideal S8192x1024 .bf16 := m ((c : Thread nD τ).loc main_arg0)

/-- The product of two whole arrays. -/
def product (x : FVec Ideal S8192x12288 .bf16) (y : FVec Ideal S8192x1024 .bf16) : FVec Ideal S12288x1024 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1024x1024.Idx) (i : S12288x1024.Idx)
    (h0 : (i 0).val = t.val / 4 * 1024 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x12288 .bf16) (y : FVec Ideal S8192x1024 .bf16) :
    truncf .bf16 (transpose Cert.Reference2Ideal.S12288x1024 [1, 0] (transpose Cert.Reference2Ideal.S1024x12288 [1, 0] (Host.dotGeneral Cert.Reference2Ideal.dot_S8192x12288_S8192x1024_S12288x1024_0_0_1_1_n_n none (extf .f32 x Cert.Reference2Ideal.Gen.bitsLt_bf16_f32) (extf .f32 y Cert.Reference2Ideal.Gen.bitsLt_bf16_f32)) Cert.Reference2Ideal.Gen.transposes_S12288x1024_S1024x12288_1_0) Cert.Reference2Ideal.Gen.transposes_S1024x12288_S12288x1024_1_0) Cert.Reference2Ideal.Gen.bitsLt_bf16_f32
      = product x y := by
  funext i
  unfold product
  pointwise

/-- The version's call returns the reference's gradient. -/
theorem algebraic : algebraic_Kernel2Ideal_Reference2Ideal (hKernel2Ideal := Cert.Kernel2Ideal.Gen.facts)
    (hReference2Ideal := Cert.Reference2Ideal.Gen.facts) := by
  intro m g m' g' _ hm
  refine ⟨fun c => product (factor₁ m c) (factor₂ m c),
    (θ_run _ _ _).mono (fun r h c => ⟨(h c).1.trans (final m c), (h c).2⟩) (Cert.Kernel2Ideal.Value.run_blocks m g), ?_⟩
  refine (θ_run _ _ _).mono (fun r h c => ⟨(h c).1.trans ?_, (h c).2⟩) (Cert.Reference2Ideal.Value.run m' g')
  obtain ⟨e0, e1, e2⟩ := hm c
  rw [e2, e0]
  exact reference_eq _ _

/-- The reference's program ends with its arguments untouched. -/
theorem reference_frame : quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

end Cert.Proof.InDw

end
-- ==== Proof.InDx.lean ====
/- The gradient of the input projection's input: the version's product, added up block by block over the features
   in an accumulator that is carried from grid point to grid point, is the one product of whole arrays. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.InDx

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S1024x2048 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1024x1024.Idx) : EReal :=
  ∑ k : Fin 2048, left m c t (ix2 (j 0) k) * right m c t (ix2 k (j 1))

/-- The body's sum at an entry: the accumulator, and the product of the two blocks. -/
theorem sum_at (a : FVec Ideal S1024x1024 .f32) (x : FVec Ideal S1024x2048 .bf16) (y : FVec Ideal S2048x1024 .bf16) (j : S1024x1024.Idx) :
    k0_pay2 a x y j = a j + ∑ k : Fin 2048, (x (ix2 (j 0) k) : EReal) * y (ix2 k (j 1)) := by
  unfold k0_pay2
  pointwise

/-- At the first point of a run the accumulator holds that point's part alone. -/
theorem first (t : Fin cfg0.N) (h : t.val % 6 = 0) (j : S1024x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 6 = 0) (j : S1024x1024.Idx) :
    (outsAt0 m c t.val t.isLt).2 j
      = ((outsAt0 m c (t.val - 1) (Nat.lt_of_le_of_lt (Nat.sub_le _ _) t.isLt)).2 j : EReal) + part m c t j := by
  by_cases h1 : t.val % 6 = 5
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 6 = 5) (j : S1024x1024.Idx) :
    (outsAt0 m c t.val t.isLt).1 j = (outsAt0 m c t.val t.isLt).2 j := by
  rw [outsAt0_C m c t (by omega) h]
  frame_out

/-- Which blocks the windows of a point are at. -/
theorem idx : ∀ t : Fin grid0.N, win0_0.index t = ![t.val / 6, t.val % 6] ∧ win0_1.index t = ![t.val % 6, 0]
    ∧ win0_2.index t = ![t.val / 6, 0] := by decide +kernel

/-- The first factor, as launched. -/
def factor₁ : FVec Ideal S8192x12288 .bf16 := m ((c : Thread nD τ).loc main_arg2)

/-- The second factor, as launched. -/
def factor₂ : FVec Ideal S12288x1024 .bf16 := m ((c : Thread nD τ).loc main_arg1)

/-- The product of two whole arrays. -/
def product (x : FVec Ideal S8192x12288 .bf16) (y : FVec Ideal S12288x1024 .bf16) : FVec Ideal S8192x1024 .f32 := fun i =>
  (∑ k : Fin 12288, x (ix2 (i 0) k) * y (ix2 k (i 1)) : EReal)

/-- A run's parts, summed, are the product at the run's entry. -/
theorem parts_sum (t : Fin cfg0.N) (h : t.val % 6 = 5) (j : S1024x1024.Idx) (i : S8192x1024.Idx)
    (h0 : (i 0).val = t.val / 6 * 1024 + (j 0).val) (h1 : (i 1).val = (j 1).val) :
    ∑ s : Fin 6, part m c ⟨6 * (t.val / 6) + s.val, Pipeline.run_point_lt_of_flush t h s⟩ j
      = product (factor₁ m c) (factor₂ m c) i := by
  unfold part product
  refine Fin.sum_mul_add_congr fun s k hl => ?_
  have e := idx ⟨6 * (t.val / 6) + s.val, Pipeline.run_point_lt_of_flush t h s⟩
  have e0 : (6 * (t.val / 6) + s.val) % 6 = s.val := by omega
  have e1 : (6 * (t.val / 6) + s.val) / 6 = t.val / 6 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 6 = 5 := (flush0_2 t).mp hf
  blk_simp
  rw [after0_2]
  refine (written m c t h y).trans ?_
  refine (Pipeline.eq_sum_fin_of_reset_step_apply_of_flush (fun n h => (outsAt0 m c n h).2) 6 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x12288 .bf16) (y : FVec Ideal S12288x1024 .bf16) :
    Host.dotGeneral Cert.Reference3Ideal.dot_S8192x12288_S1024x12288_S8192x1024_1_1_0_0_n_n none (extf .f32 x Cert.Reference3Ideal.Gen.bitsLt_bf16_f32) (extf .f32 (transpose Cert.Reference3Ideal.S1024x12288 [1, 0] y Cert.Reference3Ideal.Gen.transposes_S12288x1024_S1024x12288_1_0) Cert.Reference3Ideal.Gen.bitsLt_bf16_f32)
      = product x y := by
  funext i
  unfold product
  pointwise

/-- The version's call returns the reference's gradient. -/
theorem algebraic : algebraic_Kernel3Ideal_Reference3Ideal (hKernel3Ideal := Cert.Kernel3Ideal.Gen.facts)
    (hReference3Ideal := Cert.Reference3Ideal.Gen.facts) := by
  intro m g m' g' _ hm
  refine ⟨fun c => product (factor₁ m c) (factor₂ m c),
    (θ_run _ _ _).mono (fun r h c => ⟨(h c).1.trans (final m c), (h c).2⟩) (Cert.Kernel3Ideal.Value.run_blocks m g), ?_⟩
  refine (θ_run _ _ _).mono (fun r h c => ⟨(h c).1.trans ?_, (h c).2⟩) (Cert.Reference3Ideal.Value.run m' g')
  obtain ⟨e0, e1, e2⟩ := hm c
  rw [e2, e1]
  exact reference_eq _ _

/-- The reference's program ends with its arguments untouched. -/
theorem reference_frame : quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

end Cert.Proof.InDx

end
-- ==== Proof.DownDw.lean ====
/- The gradient of the feed-forward's second weights: the version's product, added up block by block over the tokens
   in an accumulator that is carried from grid point to grid point, is the one product of whole arrays. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.DownDw

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1408 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1408x1024.Idx) : EReal :=
  ∑ k : Fin 2048, left m c t (ix2 k (j 0)) * right m c t (ix2 k (j 1))

/-- The body's sum at an entry: the accumulator, and the product of the two blocks. -/
theorem sum_at (a : FVec Ideal S1408x1024 .f32) (x : FVec Ideal S2048x1408 .bf16) (y : FVec Ideal S2048x1024 .bf16) (j : S1408x1024.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1408x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1408x1024.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1408x1024.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x2816 .bf16 := m ((c : Thread nD τ).loc main_arg0)

/-- The second factor, as launched. -/
def factor₂ : FVec Ideal S8192x1024 .bf16 := m ((c : Thread nD τ).loc main_arg2)

/-- The product of two whole arrays. -/
def product (x : FVec Ideal S8192x2816 .bf16) (y : FVec Ideal S8192x1024 .bf16) : FVec Ideal S2816x1024 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1408x1024.Idx) (i : S2816x1024.Idx)
    (h0 : (i 0).val = t.val / 4 * 1408 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x2816 .bf16) (y : FVec Ideal S8192x1024 .bf16) :
    truncf .bf16 (transpose Cert.Reference4Ideal.S2816x1024 [1, 0] (Host.dotGeneral Cert.Reference4Ideal.dot_S8192x1024_S8192x2816_S1024x2816_0_0_1_1_n_n none (extf .f32 y Cert.Reference4Ideal.Gen.bitsLt_bf16_f32) (extf .f32 x Cert.Reference4Ideal.Gen.bitsLt_bf16_f32)) Cert.Reference4Ideal.Gen.transposes_S1024x2816_S2816x1024_1_0) Cert.Reference4Ideal.Gen.bitsLt_bf16_f32
      = product x y := by
  funext i
  unfold product
  pointwise
  exact Finset.sum_congr rfl fun k _ => mul_comm _ _

/-- The version's call returns the reference's gradient. -/
theorem algebraic : algebraic_Kernel4Ideal_Reference4Ideal (hKernel4Ideal := Cert.Kernel4Ideal.Gen.facts)
    (hReference4Ideal := Cert.Reference4Ideal.Gen.facts) := by
  intro m g m' g' _ hm
  refine ⟨fun c => product (factor₁ m c) (factor₂ m c),
    (θ_run _ _ _).mono (fun r h c => ⟨(h c).1.trans (final m c), (h c).2⟩) (Cert.Kernel4Ideal.Value.run_blocks m g), ?_⟩
  refine (θ_run _ _ _).mono (fun r h c => ⟨(h c).1.trans ?_, (h c).2⟩) (Cert.Reference4Ideal.Value.run m' g')
  obtain ⟨e0, e1, e2⟩ := hm c
  rw [e0, e2]
  exact reference_eq _ _

/-- The reference's program ends with its arguments untouched. -/
theorem reference_frame : quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

end Cert.Proof.DownDw

end
-- ==== Proof.GateDw.lean ====
/- The gradient of the feed-forward's first weights: the version's product, added up block by block over the tokens
   in an accumulator that is carried from grid point to grid point, is the one product of whole arrays. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.GateDw

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1408 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1408x1024.Idx) : EReal :=
  ∑ k : Fin 2048, left m c t (ix2 k (j 0)) * right m c t (ix2 k (j 1))

/-- The body's sum at an entry: the accumulator, and the product of the two blocks. -/
theorem sum_at (a : FVec Ideal S1408x1024 .f32) (x : FVec Ideal S2048x1408 .bf16) (y : FVec Ideal S2048x1024 .bf16) (j : S1408x1024.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1408x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1408x1024.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1408x1024.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x2816 .bf16 := m ((c : Thread nD τ).loc main_arg2)

/-- The second factor, as launched. -/
def factor₂ : FVec Ideal S8192x1024 .bf16 := m ((c : Thread nD τ).loc main_arg0)

/-- The product of two whole arrays. -/
def product (x : FVec Ideal S8192x2816 .bf16) (y : FVec Ideal S8192x1024 .bf16) : FVec Ideal S2816x1024 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1408x1024.Idx) (i : S2816x1024.Idx)
    (h0 : (i 0).val = t.val / 4 * 1408 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x2816 .bf16) (y : FVec Ideal S8192x1024 .bf16) :
    truncf .bf16 (transpose Cert.Reference5Ideal.S2816x1024 [1, 0] (transpose Cert.Reference5Ideal.S1024x2816 [1, 0] (Host.dotGeneral Cert.Reference5Ideal.dot_S8192x2816_S8192x1024_S2816x1024_0_0_1_1_n_n none (extf .f32 x Cert.Reference5Ideal.Gen.bitsLt_bf16_f32) (extf .f32 y Cert.Reference5Ideal.Gen.bitsLt_bf16_f32)) Cert.Reference5Ideal.Gen.transposes_S2816x1024_S1024x2816_1_0) Cert.Reference5Ideal.Gen.transposes_S1024x2816_S2816x1024_1_0) Cert.Reference5Ideal.Gen.bitsLt_bf16_f32
      = product x y := by
  funext i
  unfold product
  pointwise

/-- The version's call returns the reference's gradient. -/
theorem algebraic : algebraic_Kernel5Ideal_Reference5Ideal (hKernel5Ideal := Cert.Kernel5Ideal.Gen.facts)
    (hReference5Ideal := Cert.Reference5Ideal.Gen.facts) := by
  intro m g m' g' _ hm
  refine ⟨fun c => product (factor₁ m c) (factor₂ m c),
    (θ_run _ _ _).mono (fun r h c => ⟨(h c).1.trans (final m c), (h c).2⟩) (Cert.Kernel5Ideal.Value.run_blocks m g), ?_⟩
  refine (θ_run _ _ _).mono (fun r h c => ⟨(h c).1.trans ?_, (h c).2⟩) (Cert.Reference5Ideal.Value.run m' g')
  obtain ⟨e0, e1, e2⟩ := hm c
  rw [e2, e0]
  exact reference_eq _ _

/-- The reference's program ends with its arguments untouched. -/
theorem reference_frame : quiescent_Reference5Ideal (hReference5Ideal := Cert.Reference5Ideal.Gen.facts) := fun m ρ _ =>
  (θ_run _ _ _).mono (fun r h => ⟨fun c => (h c).2, sem_eq_zero_of_no_sems (by decide) r.2⟩)
    (Cert.Reference5Ideal.Value.run (F := Ideal) m ρ)

end Cert.Proof.GateDw

end
-- ==== Proof.SsmDw.lean ====
/- The gradient of the state-space branch's output weights: the version's product, added up block by block over the tokens
   in an accumulator that is carried from grid point to grid point, is the one product of whole arrays. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.SsmDw

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1024 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1024x1024.Idx) : EReal :=
  ∑ k : Fin 2048, left m c t (ix2 k (j 0)) * right m c t (ix2 k (j 1))

/-- The body's sum at an entry: the accumulator, and the product of the two blocks. -/
theorem sum_at (a : FVec Ideal S1024x1024 .f32) (x : FVec Ideal S2048x1024 .bf16) (y : FVec Ideal S2048x1024 .bf16) (j : S1024x1024.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1024x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1024x1024.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x2048 .bf16 := m ((c : Thread nD τ).loc main_arg0)

/-- The second factor, as launched. -/
def factor₂ : FVec Ideal S8192x1024 .bf16 := m ((c : Thread nD τ).loc main_arg2)

/-- The product of two whole arrays. -/
def product (x : FVec Ideal S8192x2048 .bf16) (y : FVec Ideal S8192x1024 .bf16) : FVec Ideal S2048x1024 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1024x1024.Idx) (i : S2048x1024.Idx)
    (h0 : (i 0).val = t.val / 4 * 1024 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x2048 .bf16) (y : FVec Ideal S8192x1024 .bf16) :
    truncf .bf16 (transpose Cert.Reference6Ideal.S2048x1024 [1, 0] (Host.dotGeneral Cert.Reference6Ideal.dot_S8192x1024_S8192x2048_S1024x2048_0_0_1_1_n_n none (extf .f32 y Cert.Reference6Ideal.Gen.bitsLt_bf16_f32) (extf .f32 x Cert.Reference6Ideal.Gen.bitsLt_bf16_f32)) Cert.Reference6Ideal.Gen.transposes_S1024x2048_S2048x1024_1_0) Cert.Reference6Ideal.Gen.bitsLt_bf16_f32
      = product x y := by
  funext i
  unfold product
  pointwise
  exact Finset.sum_congr rfl fun k _ => mul_comm _ _

/-- The version's call returns the reference's gradient. -/
theorem algebraic : algebraic_Kernel6Ideal_Reference6Ideal (hKernel6Ideal := Cert.Kernel6Ideal.Gen.facts)
    (hReference6Ideal := Cert.Reference6Ideal.Gen.facts) := by
  intro m g m' g' _ hm
  refine ⟨fun c => product (factor₁ m c) (factor₂ m c),
    (θ_run _ _ _).mono (fun r h c => ⟨(h c).1.trans (final m c), (h c).2⟩) (Cert.Kernel6Ideal.Value.run_blocks m g), ?_⟩
  refine (θ_run _ _ _).mono (fun r h c => ⟨(h c).1.trans ?_, (h c).2⟩) (Cert.Reference6Ideal.Value.run m' g')
  obtain ⟨e0, e1, e2⟩ := hm c
  rw [e0, e2]
  exact reference_eq _ _

/-- The reference's program ends with its arguments untouched. -/
theorem reference_frame : quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

end Cert.Proof.SsmDw

end
-- ==== Proof.MixDw.lean ====
/- The gradient of the mixed branches' output weights: the version's product, added up block by block over the tokens
   in an accumulator that is carried from grid point to grid point, is the one product of whole arrays. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.MixDw

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1024 .bf16 := iblk m c 0 t

/-- The second factor's block that point `t` stages. -/
def right (t : Fin cfg0.N) : FVec Ideal S2048x1024 .bf16 := iblk m c 1 t

/-- What point `t` adds at an entry of the accumulator. -/
def part (t : Fin cfg0.N) (j : S1024x1024.Idx) : EReal :=
  ∑ k : Fin 2048, left m c t (ix2 k (j 0)) * right m c t (ix2 k (j 1))

/-- The body's sum at an entry: the accumulator, and the product of the two blocks. -/
theorem sum_at (a : FVec Ideal S1024x1024 .f32) (x : FVec Ideal S2048x1024 .bf16) (y : FVec Ideal S2048x1024 .bf16) (j : S1024x1024.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1024x1024.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1024x1024.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x1024 .bf16 := m ((c : Thread nD τ).loc main_arg0)

/-- The second factor, as launched. -/
def factor₂ : FVec Ideal S8192x1024 .bf16 := m ((c : Thread nD τ).loc main_arg2)

/-- The product of two whole arrays. -/
def product (x : FVec Ideal S8192x1024 .bf16) (y : FVec Ideal S8192x1024 .bf16) : FVec Ideal S1024x1024 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1024x1024.Idx) (i : S1024x1024.Idx)
    (h0 : (i 0).val = t.val / 4 * 1024 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x1024 .bf16) (y : FVec Ideal S8192x1024 .bf16) :
    truncf .bf16 (transpose Cert.Reference7Ideal.S1024x1024 [1, 0] (Host.dotGeneral Cert.Reference7Ideal.dot_S8192x1024_S8192x1024_S1024x1024_0_0_1_1_n_n none (extf .f32 y Cert.Reference7Ideal.Gen.bitsLt_bf16_f32) (extf .f32 x Cert.Reference7Ideal.Gen.bitsLt_bf16_f32)) Cert.Reference7Ideal.Gen.transposes_S1024x1024_S1024x1024_1_0) Cert.Reference7Ideal.Gen.bitsLt_bf16_f32
      = product x y := by
  funext i
  unfold product
  pointwise
  exact Finset.sum_congr rfl fun k _ => mul_comm _ _

/-- The version's call returns the reference's gradient. -/
theorem algebraic : algebraic_Kernel7Ideal_Reference7Ideal (hKernel7Ideal := Cert.Kernel7Ideal.Gen.facts)
    (hReference7Ideal := Cert.Reference7Ideal.Gen.facts) := by
  intro m g m' g' _ hm
  refine ⟨fun c => product (factor₁ m c) (factor₂ m c),
    (θ_run _ _ _).mono (fun r h c => ⟨(h c).1.trans (final m c), (h c).2⟩) (Cert.Kernel7Ideal.Value.run_blocks m g), ?_⟩
  refine (θ_run _ _ _).mono (fun r h c => ⟨(h c).1.trans ?_, (h c).2⟩) (Cert.Reference7Ideal.Value.run m' g')
  obtain ⟨e0, e1, e2⟩ := hm c
  rw [e0, e2]
  exact reference_eq _ _

/-- The reference's program ends with its arguments untouched. -/
theorem reference_frame : quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

end Cert.Proof.MixDw

end
-- ==== Proof.AttDw.lean ====
/- The gradient of the attention branch's output weights: the version's product, added up block by block over the tokens
   in an accumulator that is carried from grid point to grid point, is the one product of whole arrays. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.AttDw

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The first factor's block that point `t` stages. -/
def left (t : Fin cfg0.N) : FVec Ideal S2048x1024 .bf16 := iblk m c 0 t

/-- The second factor's block that point `t` stages. -/
def right (t : Fin cfg0.N) : FVec Ideal S2048x512 .f32 := iblk m c 1 t

/-- What point `t` adds at an entry of the accumulator. -/
def part (t : Fin cfg0.N) (j : S1024x512.Idx) : EReal :=
  ∑ k : Fin 2048, left m c t (ix2 k (j 0)) * right m c t (ix2 k (j 1))

/-- The body's sum at an entry: the accumulator, and the product of the two blocks. -/
theorem sum_at (a : FVec Ideal S1024x512 .f32) (x : FVec Ideal S2048x1024 .bf16) (y : FVec Ideal S2048x512 .f32) (j : S1024x512.Idx) :
    k0_pay2 a x y j = a j + ∑ k : Fin 2048, (x (ix2 k (j 0)) : EReal) * y (ix2 k (j 1)) := by
  unfold k0_pay2
  pointwise

/-- At the first point of a run the accumulator holds that point's part alone. -/
theorem first (t : Fin cfg0.N) (h : t.val % 4 = 0) (j : S1024x512.Idx) :
    (outsAt0 m c t.val t.isLt).2 j = (0 : EReal) + part m c t j := by
  rw [outsAt0_A m c t h (by omega)]
  frame_out
  refine (sum_at _ _ _ j).trans (congrArg₂ (· + ·) ?_ rfl)
  unfold k0_pay1
  pointwise

/-- At a later point the accumulator holds what the point before left, and this point's part. -/
theorem next (t : Fin cfg0.N) (h : ¬t.val % 4 = 0) (j : S1024x512.Idx) :
    (outsAt0 m c t.val t.isLt).2 j
      = ((outsAt0 m c (t.val - 1) (Nat.lt_of_le_of_lt (Nat.sub_le _ _) t.isLt)).2 j : EReal) + part m c t j := by
  by_cases h1 : t.val % 4 = 3
  · rw [outsAt0_C m c t h h1]
    frame_out
    simp only [read_unread_whole]
    exact sum_at _ _ _ j
  · rw [outsAt0_B m c t h h1]
    frame_out
    simp only [read_unread_whole]
    exact sum_at _ _ _ j

/-- The last point of a run writes out the accumulator. -/
theorem written (t : Fin cfg0.N) (h : t.val % 4 = 3) (j : S1024x512.Idx) :
    (outsAt0 m c t.val t.isLt).1 j = (outsAt0 m c t.val t.isLt).2 j := by
  rw [outsAt0_C m c t (by omega) h]
  frame_out
  rfl

/-- Which blocks the windows of a point are at. -/
theorem idx : ∀ t : Fin grid0.N, win0_0.index t = ![t.val % 4, t.val / 4] ∧ win0_1.index t = ![t.val % 4, 0]
    ∧ win0_2.index t = ![t.val / 4, 0] := by decide +kernel

/-- The first factor, as launched. -/
def factor₁ : FVec Ideal S8192x1024 .bf16 := m ((c : Thread nD τ).loc main_arg2)

/-- The second factor, as launched. -/
def factor₂ : FVec Ideal S8192x512 .f32 := m ((c : Thread nD τ).loc main_arg0)

/-- The product of two whole arrays. -/
def product (x : FVec Ideal S8192x1024 .bf16) (y : FVec Ideal S8192x512 .f32) : FVec Ideal S1024x512 .bf16 := fun i =>
  (∑ k : Fin 8192, x (ix2 k (i 0)) * y (ix2 k (i 1)) : EReal)

/-- A run's parts, summed, are the product at the run's entry. -/
theorem parts_sum (t : Fin cfg0.N) (h : t.val % 4 = 3) (j : S1024x512.Idx) (i : S1024x512.Idx)
    (h0 : (i 0).val = t.val / 4 * 1024 + (j 0).val) (h1 : (i 1).val = (j 1).val) :
    ∑ s : Fin 4, part m c ⟨4 * (t.val / 4) + s.val, Pipeline.run_point_lt_of_flush t h s⟩ j
      = product (factor₁ m c) (factor₂ m c) i := by
  unfold part product
  refine Fin.sum_mul_add_congr fun s k hl => ?_
  have e := idx ⟨4 * (t.val / 4) + s.val, Pipeline.run_point_lt_of_flush t h s⟩
  have e0 : (4 * (t.val / 4) + s.val) % 4 = s.val := by omega
  have e1 : (4 * (t.val / 4) + s.val) / 4 = t.val / 4 := by omega
  rw [e0, e1] at e
  obtain ⟨a0, a1, -⟩ := e
  congr 1
  · unfold left factor₁
    blk_ext [iblk, V, a0]
  · unfold right factor₂
    blk_ext [iblk, V, a1]

/-- What the result's array holds after the run. -/
theorem final : (dats m 0 c).arrAt 2 cfg0.N = product (factor₁ m c) (factor₂ m c) := by
  refine (dats m 0 c).arrAt_eq_of_covers 2 _ (by decide +kernel) fun t hf y => ?_
  have h : t.val % 4 = 3 := (flush0_2 t).mp hf
  blk_simp
  rw [after0_2]
  refine (written m c t h y).trans ?_
  refine (Pipeline.eq_sum_fin_of_reset_step_apply_of_flush (fun n h => (outsAt0 m c n h).2) 4 (fun _ => (0 : EReal)) (part m c)
    (first m c) (next m c) t h y).trans ?_
  refine (zero_add _).trans (parts_sum m c t h y _ ?_ ?_)
  · blk_simp [(idx t).2.2]
  · blk_simp [(idx t).2.2]

/-- The reference's term is the product. -/
theorem reference_eq (x : FVec Ideal S8192x1024 .bf16) (y : FVec Ideal S8192x512 .f32) :
    truncf .bf16 (transpose Cert.Reference8Ideal.S1024x512 [1, 0] (transpose Cert.Reference8Ideal.S512x1024 [1, 0] (Host.dotGeneral Cert.Reference8Ideal.dot_S8192x1024_S8192x512_S1024x512_0_0_1_1_n_n none (extf .f32 x Cert.Reference8Ideal.Gen.bitsLt_bf16_f32) y) Cert.Reference8Ideal.Gen.transposes_S1024x512_S512x1024_1_0) Cert.Reference8Ideal.Gen.transposes_S512x1024_S1024x512_1_0) Cert.Reference8Ideal.Gen.bitsLt_bf16_f32
      = product x y := by
  funext i
  unfold product
  pointwise

/-- The version's call returns the reference's gradient. -/
theorem algebraic : algebraic_Kernel8Ideal_Reference8Ideal (hKernel8Ideal := Cert.Kernel8Ideal.Gen.facts)
    (hReference8Ideal := Cert.Reference8Ideal.Gen.facts) := by
  intro m g m' g' _ hm
  refine ⟨fun c => product (factor₁ m c) (factor₂ m c),
    (θ_run _ _ _).mono (fun r h c => ⟨(h c).1.trans (final m c), (h c).2⟩) (Cert.Kernel8Ideal.Value.run_blocks m g), ?_⟩
  refine (θ_run _ _ _).mono (fun r h c => ⟨(h c).1.trans ?_, (h c).2⟩) (Cert.Reference8Ideal.Value.run m' g')
  obtain ⟨e0, e1, e2⟩ := hm c
  rw [e2, e0]
  exact reference_eq _ _

/-- The reference's program ends with its arguments untouched. -/
theorem reference_frame : quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

end Cert.Proof.AttDw

end
-- ==== Proof.AttDx.lean ====
/- The gradient of the attention branch's projected rows: the version's product, taken block of rows by block of
   rows, is the one product of whole arrays. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.AttDx

open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The rows' block that point `t` stages. -/
def left (t : Fin cfg0.N) : FVec Ideal S1024x1024 .bf16 := iblk m c 0 t

/-- The weights' block that point `t` stages. -/
def right (t : Fin cfg0.N) : FVec Ideal S1024x512 .bf16 := iblk m c 1 t

/-- The body's product at an entry. -/
theorem product_at (x : FVec Ideal S1024x1024 .bf16) (y : FVec Ideal S1024x512 .bf16) (j : S1024x512.Idx) :
    out0_2 (F := Ideal) x y j = (∑ k : Fin 1024, x (ix2 (j 0) k) * y (ix2 k (j 1)) : EReal) := by
  frame_out
  unfold k0_pay1
  pointwise

/-- Which blocks the windows of a point are at. -/
theorem idx : ∀ t : Fin grid0.N, win0_0.index t = ![t.val, 0] ∧ win0_1.index t = ![0, 0] ∧ win0_2.index t = ![t.val, 0] := by decide +kernel

/-- The rows, as launched. -/
def factor₁ : FVec Ideal S8192x1024 .bf16 := m ((c : Thread nD τ).loc main_arg2)

/-- The weights, as launched. -/
def factor₂ : FVec Ideal S1024x512 .bf16 := m ((c : Thread nD τ).loc main_arg1)

/-- The product of two whole arrays. -/
def product (x : FVec Ideal S8192x1024 .bf16) (w : FVec Ideal S1024x512 .bf16) : FVec Ideal S8192x512 .f32 := fun i =>
  (∑ k : Fin 1024, x (ix2 (i 0) k) * w (ix2 k (i 1)) : EReal)

/-- What the result's array holds after the run. -/
theorem final : (dats m 0 c).arrAt 2 cfg0.N = product (factor₁ m c) (factor₂ m c) := by
  refine (dats m 0 c).arrAt_eq_of_covers 2 _ (by decide +kernel) fun t hf y => ?_
  obtain ⟨a0, a1, a2⟩ := idx t
  blk_simp
  rw [after0_2]
  refine (product_at (left m c t) (right m c t) y).trans ?_
  unfold product
  refine Finset.sum_congr rfl fun k _ => ?_
  congr 1
  · unfold left factor₁
    blk_ext [iblk, V, a0, a2]
  · unfold right factor₂
    blk_ext [iblk, V, a1, a2]

/-- The reference's term is the product. -/
theorem reference_eq (x : FVec Ideal S8192x1024 .bf16) (y : FVec Ideal S1024x512 .bf16) :
    Host.dotGeneral Cert.Reference9Ideal.dot_S8192x1024_S512x1024_S8192x512_1_1_0_0_n_n none (extf .f32 x Cert.Reference9Ideal.Gen.bitsLt_bf16_f32) (extf .f32 (transpose Cert.Reference9Ideal.S512x1024 [1, 0] y Cert.Reference9Ideal.Gen.transposes_S1024x512_S512x1024_1_0) Cert.Reference9Ideal.Gen.bitsLt_bf16_f32)
      = product x y := by
  funext i
  unfold product
  pointwise

/-- The version's call returns what the reference does. -/
theorem algebraic : algebraic_Kernel9Ideal_Reference9Ideal (hKernel9Ideal := Cert.Kernel9Ideal.Gen.facts)
    (hReference9Ideal := Cert.Reference9Ideal.Gen.facts) := by
  intro m g m' g' _ hm
  refine ⟨fun c => product (factor₁ m c) (factor₂ m c),
    (θ_run _ _ _).mono (fun r h c => ⟨(h c).1.trans (final m c), (h c).2⟩) (Cert.Kernel9Ideal.Value.run_blocks m g), ?_⟩
  refine (θ_run _ _ _).mono (fun r h c => ⟨(h c).1.trans ?_, (h c).2⟩) (Cert.Reference9Ideal.Value.run m' g')
  obtain ⟨e0, e1, e2⟩ := hm c
  rw [e2, e1]
  exact reference_eq _ _

/-- The reference's program ends with its arguments untouched. -/
theorem reference_frame : quiescent_Reference9Ideal (hReference9Ideal := Cert.Reference9Ideal.Gen.facts) := fun m ρ _ =>
  (θ_run _ _ _).mono (fun r h => ⟨fun c => (h c).2, sem_eq_zero_of_no_sems (by decide) r.2⟩)
    (Cert.Reference9Ideal.Value.run (F := Ideal) m ρ)

end Cert.Proof.AttDx

end
-- ==== Proof.SsmOut.lean ====
/- The state-space branch's output projection: the version's product, taken block of rows by block of
   rows, is the one product of whole arrays. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.SsmOut

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The rows' block that point `t` stages. -/
def left (t : Fin cfg0.N) : FVec Ideal S1024x2048 .bf16 := iblk m c 0 t

/-- The weights' block that point `t` stages. -/
def right (t : Fin cfg0.N) : FVec Ideal S2048x1024 .bf16 := iblk m c 1 t

/-- The body's product at an entry. -/
theorem product_at (x : FVec Ideal S1024x2048 .bf16) (y : FVec Ideal S2048x1024 .bf16) (j : S1024x1024.Idx) :
    out0_2 (F := Ideal) x y j = (∑ k : Fin 2048, x (ix2 (j 0) k) * y (ix2 k (j 1)) : EReal) := by
  frame_out
  unfold k0_pay1
  pointwise

/-- Which blocks the windows of a point are at. -/
theorem idx : ∀ t : Fin grid0.N, win0_0.index t = ![t.val, 0] ∧ win0_1.index t = ![0, 0] ∧ win0_2.index t = ![t.val, 0] := by decide +kernel

/-- The rows, as launched. -/
def factor₁ : FVec Ideal S8192x2048 .bf16 := m ((c : Thread nD τ).loc main_arg0)

/-- The weights, as launched. -/
def factor₂ : FVec Ideal S2048x1024 .bf16 := m ((c : Thread nD τ).loc main_arg1)

/-- The product of two whole arrays. -/
def product (x : FVec Ideal S8192x2048 .bf16) (w : FVec Ideal S2048x1024 .bf16) : FVec Ideal S8192x1024 .f32 := fun i =>
  (∑ k : Fin 2048, x (ix2 (i 0) k) * w (ix2 k (i 1)) : EReal)

/-- What the result's array holds after the run. -/
theorem final : (dats m 0 c).arrAt 2 cfg0.N = product (factor₁ m c) (factor₂ m c) := by
  refine (dats m 0 c).arrAt_eq_of_covers 2 _ (by decide +kernel) fun t hf y => ?_
  obtain ⟨a0, a1, a2⟩ := idx t
  blk_simp
  rw [after0_2]
  refine (product_at (left m c t) (right m c t) y).trans ?_
  unfold product
  refine Finset.sum_congr rfl fun k _ => ?_
  congr 1
  · unfold left factor₁
    blk_ext [iblk, V, a0, a2]
  · unfold right factor₂
    blk_ext [iblk, V, a1, a2]

/-- The reference's term is the product. -/
theorem reference_eq (x : FVec Ideal S8192x2048 .bf16) (y : FVec Ideal S2048x1024 .bf16) :
    Host.dotGeneral Cert.Reference10Ideal.dot_S8192x2048_S2048x1024_S8192x1024_1_0_0_1_n_n none (extf .f32 x Cert.Reference10Ideal.Gen.bitsLt_bf16_f32) (extf .f32 y Cert.Reference10Ideal.Gen.bitsLt_bf16_f32)
      = product x y := by
  funext i
  unfold product
  pointwise

/-- The version's call returns what the reference does. -/
theorem algebraic : algebraic_Kernel10Ideal_Reference10Ideal (hKernel10Ideal := Cert.Kernel10Ideal.Gen.facts)
    (hReference10Ideal := Cert.Reference10Ideal.Gen.facts) := by
  intro m g m' g' _ hm
  refine ⟨fun c => product (factor₁ m c) (factor₂ m c),
    (θ_run _ _ _).mono (fun r h c => ⟨(h c).1.trans (final m c), (h c).2⟩) (Cert.Kernel10Ideal.Value.run_blocks m g), ?_⟩
  refine (θ_run _ _ _).mono (fun r h c => ⟨(h c).1.trans ?_, (h c).2⟩) (Cert.Reference10Ideal.Value.run m' g')
  obtain ⟨e0, e1⟩ := hm c
  rw [e0, e1]
  exact reference_eq _ _

/-- The reference's program ends with its arguments untouched. -/
theorem reference_frame : quiescent_Reference10Ideal (hReference10Ideal := Cert.Reference10Ideal.Gen.facts) := fun m ρ _ =>
  (θ_run _ _ _).mono (fun r h => ⟨fun c => (h c).2, sem_eq_zero_of_no_sems (by decide) r.2⟩)
    (Cert.Reference10Ideal.Value.run (F := Ideal) m ρ)

end Cert.Proof.SsmOut

end
-- ==== Proof.InZ.lean ====
/- The input projection's columns of the state-space branch's gate: the version cuts the rows of the weights it
   needs out first and multiplies block by block, the reference cuts the columns out of the product of everything. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.InZ

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The rows' block that point `t` stages. -/
def left (t : Fin cfg0.N) : FVec Ideal S1024x1024 .bf16 := iblk m c 0 t

/-- The weights' block that point `t` stages. -/
def right (t : Fin cfg0.N) : FVec Ideal S1024x1024 .bf16 := iblk m c 1 t

/-- The body's product at an entry. -/
theorem product_at (x : FVec Ideal S1024x1024 .bf16) (y : FVec Ideal S1024x1024 .bf16) (j : S1024x1024.Idx) :
    out0_2 (F := Ideal) x y j = (∑ k : Fin 1024, x (ix2 (j 0) k) * y (ix2 (j 1) k) : EReal) := by
  frame_out
  unfold k0_pay1
  pointwise

/-- Which blocks the windows of a point are at. -/
theorem idx : ∀ t : Fin grid0.N, win0_0.index t = ![t.val / 2, 0] ∧ win0_1.index t = ![t.val % 2, 0]
    ∧ win0_2.index t = ![t.val / 2, t.val % 2] := by decide +kernel

/-- The rows, as launched. -/
def factor₁ : FVec Ideal S8192x1024 .bf16 := m ((c : Thread nD τ).loc main_arg0)

/-- The weights, as launched. -/
def factor₂ : FVec Ideal S12288x1024 .bf16 := m ((c : Thread nD τ).loc main_arg1)

/-- The product of two whole arrays. -/
def product (x : FVec Ideal S8192x1024 .bf16) (w : FVec Ideal S12288x1024 .bf16) : FVec Ideal S8192x2048 .f32 := fun i =>
  (∑ k : Fin 1024, x (ix2 (i 0) k) * w (ix2 ⟨8192 + (i 1).val, lt_of_lt_of_le (Nat.add_lt_add_left (i 1).isLt 8192) (by decide)⟩ k) : EReal)

/-- The rows cut out of the weights, as the region finds them. -/
theorem cut : V m c main_v0 = extractStridedSlice S2048x1024 ![8192, 0] (factor₂ m c) slices_S12288x1024_S2048x1024_8192_0 := by
  unfold factor₂
  entry_read
  rfl

/-- What the result's array holds after the run. -/
theorem final : (dats m 0 c).arrAt 2 cfg0.N = product (factor₁ m c) (factor₂ m c) := by
  refine (dats m 0 c).arrAt_eq_of_covers 2 _ (by decide +kernel) fun t hf y => ?_
  obtain ⟨a0, a1, a2⟩ := idx t
  blk_simp
  rw [after0_2]
  refine (product_at (left m c t) (right m c t) y).trans ?_
  unfold product
  refine Finset.sum_congr rfl fun k _ => ?_
  congr 1
  · unfold left factor₁
    blk_ext [iblk, V, a0, a2]
  · unfold right
    refine (congrFun (cut m c) _).trans ?_
    pointwise
    blk_ext [a1, a2]

/-- The reference's term is the product. -/
theorem reference_eq (x : FVec Ideal S8192x1024 .bf16) (y : FVec Ideal S12288x1024 .bf16) :
    extractStridedSlice Cert.Reference11Ideal.S8192x2048 ![0, 8192] (Host.dotGeneral Cert.Reference11Ideal.dot_S8192x1024_S1024x12288_S8192x12288_1_0_0_1_n_n none (extf .f32 x Cert.Reference11Ideal.Gen.bitsLt_bf16_f32) (transpose Cert.Reference11Ideal.S1024x12288 [1, 0] (extf .f32 y Cert.Reference11Ideal.Gen.bitsLt_bf16_f32) Cert.Reference11Ideal.Gen.transposes_S12288x1024_S1024x12288_1_0)) Cert.Reference11Ideal.Gen.slices_S8192x12288_S8192x2048_0_8192
      = product x y := by
  funext i
  unfold product
  pointwise

/-- The version's call returns what the reference does. -/
theorem algebraic : algebraic_Kernel11Ideal_Reference11Ideal (hKernel11Ideal := Cert.Kernel11Ideal.Gen.facts)
    (hReference11Ideal := Cert.Reference11Ideal.Gen.facts) := by
  intro m g m' g' _ hm
  refine ⟨fun c => product (factor₁ m c) (factor₂ m c),
    (θ_run _ _ _).mono (fun r h c => ⟨(h c).1.trans (final m c), (h c).2⟩) (Cert.Kernel11Ideal.Value.run_blocks m g), ?_⟩
  refine (θ_run _ _ _).mono (fun r h c => ⟨(h c).1.trans ?_, (h c).2⟩) (Cert.Reference11Ideal.Value.run m' g')
  obtain ⟨e0, e1⟩ := hm c
  rw [e0, e1]
  exact reference_eq _ _

/-- The reference's program ends with its arguments untouched. -/
theorem reference_frame : quiescent_Reference11Ideal (hReference11Ideal := Cert.Reference11Ideal.Gen.facts) := fun m ρ _ =>
  (θ_run _ _ _).mono (fun r h => ⟨fun c => (h c).2, sem_eq_zero_of_no_sems (by decide) r.2⟩)
    (Cert.Reference11Ideal.Value.run (F := Ideal) m ρ)

end Cert.Proof.InZ

end
-- ==== Proof.InXbc.lean ====
/- The input projection's columns of the convolution's channels: the version cuts the rows of the weights it
   needs out first and multiplies block by block, the reference cuts the columns out of the product of everything. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.InXbc

open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- The rows' block that point `t` stages. -/
def left (t : Fin cfg0.N) : FVec Ideal S1024x1024 .bf16 := iblk m c 0 t

/-- The weights' block that point `t` stages. -/
def right (t : Fin cfg0.N) : FVec Ideal S1024x1024 .bf16 := iblk m c 1 t

/-- The body's product at an entry. -/
theorem product_at (x : FVec Ideal S1024x1024 .bf16) (y : FVec Ideal S1024x1024 .bf16) (j : S1024x1024.Idx) :
    out0_2 (F := Ideal) x y j = (∑ k : Fin 1024, x (ix2 (j 0) k) * y (ix2 (j 1) k) : EReal) := by
  frame_out
  unfold k0_pay1
  pointwise

/-- Which blocks the windows of a point are at. -/
theorem idx : ∀ t : Fin grid0.N, win0_0.index t = ![t.val / 3, 0] ∧ win0_1.index t = ![t.val % 3, 0]
    ∧ win0_2.index t = ![t.val / 3, t.val % 3] := by decide +kernel

/-- The rows, as launched. -/
def factor₁ : FVec Ideal S8192x1024 .bf16 := m ((c : Thread nD τ).loc main_arg0)

/-- The weights, as launched. -/
def factor₂ : FVec Ideal S12288x1024 .bf16 := m ((c : Thread nD τ).loc main_arg1)

/-- The product of two whole arrays. -/
def product (x : FVec Ideal S8192x1024 .bf16) (w : FVec Ideal S12288x1024 .bf16) : FVec Ideal S8192x3072 .f32 := fun i =>
  (∑ k : Fin 1024, x (ix2 (i 0) k) * w (ix2 ⟨4608 + (i 1).val, lt_of_lt_of_le (Nat.add_lt_add_left (i 1).isLt 4608) (by decide)⟩ k) : EReal)

/-- The rows cut out of the weights, as the region finds them. -/
theorem cut : V m c main_v0 = extractStridedSlice S3072x1024 ![4608, 0] (factor₂ m c) slices_S12288x1024_S3072x1024_4608_0 := by
  unfold factor₂
  entry_read
  rfl

/-- What the result's array holds after the run. -/
theorem final : (dats m 0 c).arrAt 2 cfg0.N = product (factor₁ m c) (factor₂ m c) := by
  refine (dats m 0 c).arrAt_eq_of_covers 2 _ (by decide +kernel) fun t hf y => ?_
  obtain ⟨a0, a1, a2⟩ := idx t
  blk_simp
  rw [after0_2]
  refine (product_at (left m c t) (right m c t) y).trans ?_
  unfold product
  refine Finset.sum_congr rfl fun k _ => ?_
  congr 1
  · unfold left factor₁
    blk_ext [iblk, V, a0, a2]
  · unfold right
    refine (congrFun (cut m c) _).trans ?_
    pointwise
    blk_ext [a1, a2]

/-- The reference's term is the product. -/
theorem reference_eq (x : FVec Ideal S8192x1024 .bf16) (y : FVec Ideal S12288x1024 .bf16) :
    extractStridedSlice Cert.Reference12Ideal.S8192x3072 ![0, 4608] (Host.dotGeneral Cert.Reference12Ideal.dot_S8192x1024_S1024x12288_S8192x12288_1_0_0_1_n_n none (extf .f32 x Cert.Reference12Ideal.Gen.bitsLt_bf16_f32) (transpose Cert.Reference12Ideal.S1024x12288 [1, 0] (extf .f32 y Cert.Reference12Ideal.Gen.bitsLt_bf16_f32) Cert.Reference12Ideal.Gen.transposes_S12288x1024_S1024x12288_1_0)) Cert.Reference12Ideal.Gen.slices_S8192x12288_S8192x3072_0_4608
      = product x y := by
  funext i
  unfold product
  pointwise

/-- The version's call returns what the reference does. -/
theorem algebraic : algebraic_Kernel12Ideal_Reference12Ideal (hKernel12Ideal := Cert.Kernel12Ideal.Gen.facts)
    (hReference12Ideal := Cert.Reference12Ideal.Gen.facts) := by
  intro m g m' g' _ hm
  refine ⟨fun c => product (factor₁ m c) (factor₂ m c),
    (θ_run _ _ _).mono (fun r h c => ⟨(h c).1.trans (final m c), (h c).2⟩) (Cert.Kernel12Ideal.Value.run_blocks m g), ?_⟩
  refine (θ_run _ _ _).mono (fun r h c => ⟨(h c).1.trans ?_, (h c).2⟩) (Cert.Reference12Ideal.Value.run m' g')
  obtain ⟨e0, e1⟩ := hm c
  rw [e0, e1]
  exact reference_eq _ _

/-- The reference's program ends with its arguments untouched. -/
theorem reference_frame : quiescent_Reference12Ideal (hReference12Ideal := Cert.Reference12Ideal.Gen.facts) := fun m ρ _ =>
  (θ_run _ _ _).mono (fun r h => ⟨fun c => (h c).2, sem_eq_zero_of_no_sems (by decide) r.2⟩)
    (Cert.Reference12Ideal.Value.run (F := Ideal) m ρ)

end Cert.Proof.InXbc

end
-- ==== Proof.InGate.lean ====
/- The input projection's columns of the branches' mixing gates: the version cuts the rows of the weights it
   needs out first and multiplies block by block, the reference cuts the columns out of the product of everything. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.InGate

open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- The rows' block that point `t` stages. -/
def left (t : Fin cfg0.N) : FVec Ideal S1024x1024 .bf16 := iblk m c 0 t

/-- The weights' block that point `t` stages. -/
def right (t : Fin cfg0.N) : FVec Ideal S1024x1024 .bf16 := iblk m c 1 t

/-- The body's product at an entry. -/
theorem product_at (x : FVec Ideal S1024x1024 .bf16) (y : FVec Ideal S1024x1024 .bf16) (j : S1024x1024.Idx) :
    out0_2 (F := Ideal) x y j = (∑ k : Fin 1024, x (ix2 (j 0) k) * y (ix2 (j 1) k) : EReal) := by
  frame_out
  unfold k0_pay1
  pointwise

/-- Which blocks the windows of a point are at. -/
theorem idx : ∀ t : Fin grid0.N, win0_0.index t = ![t.val / 2, 0] ∧ win0_1.index t = ![t.val % 2, 0]
    ∧ win0_2.index t = ![t.val / 2, t.val % 2] := by decide +kernel

/-- The rows, as launched. -/
def factor₁ : FVec Ideal S8192x1024 .bf16 := m ((c : Thread nD τ).loc main_arg0)

/-- The weights, as launched. -/
def factor₂ : FVec Ideal S12288x1024 .bf16 := m ((c : Thread nD τ).loc main_arg1)

/-- The product of two whole arrays. -/
def product (x : FVec Ideal S8192x1024 .bf16) (w : FVec Ideal S12288x1024 .bf16) : FVec Ideal S8192x2048 .f32 := fun i =>
  (∑ k : Fin 1024, x (ix2 (i 0) k) * w (ix2 ⟨10240 + (i 1).val, lt_of_lt_of_le (Nat.add_lt_add_left (i 1).isLt 10240) (by decide)⟩ k) : EReal)

/-- The rows cut out of the weights, as the region finds them. -/
theorem cut : V m c main_v0 = extractStridedSlice S2048x1024 ![10240, 0] (factor₂ m c) slices_S12288x1024_S2048x1024_10240_0 := by
  unfold factor₂
  entry_read
  rfl

/-- What the result's array holds after the run. -/
theorem final : (dats m 0 c).arrAt 2 cfg0.N = product (factor₁ m c) (factor₂ m c) := by
  refine (dats m 0 c).arrAt_eq_of_covers 2 _ (by decide +kernel) fun t hf y => ?_
  obtain ⟨a0, a1, a2⟩ := idx t
  blk_simp
  rw [after0_2]
  refine (product_at (left m c t) (right m c t) y).trans ?_
  unfold product
  refine Finset.sum_congr rfl fun k _ => ?_
  congr 1
  · unfold left factor₁
    blk_ext [iblk, V, a0, a2]
  · unfold right
    refine (congrFun (cut m c) _).trans ?_
    pointwise
    blk_ext [a1, a2]

/-- The reference's term is the product. -/
theorem reference_eq (x : FVec Ideal S8192x1024 .bf16) (y : FVec Ideal S12288x1024 .bf16) :
    extractStridedSlice Cert.Reference13Ideal.S8192x2048 ![0, 10240] (Host.dotGeneral Cert.Reference13Ideal.dot_S8192x1024_S1024x12288_S8192x12288_1_0_0_1_n_n none (extf .f32 x Cert.Reference13Ideal.Gen.bitsLt_bf16_f32) (transpose Cert.Reference13Ideal.S1024x12288 [1, 0] (extf .f32 y Cert.Reference13Ideal.Gen.bitsLt_bf16_f32) Cert.Reference13Ideal.Gen.transposes_S12288x1024_S1024x12288_1_0)) Cert.Reference13Ideal.Gen.slices_S8192x12288_S8192x2048_0_10240
      = product x y := by
  funext i
  unfold product
  pointwise

/-- The version's call returns what the reference does. -/
theorem algebraic : algebraic_Kernel13Ideal_Reference13Ideal (hKernel13Ideal := Cert.Kernel13Ideal.Gen.facts)
    (hReference13Ideal := Cert.Reference13Ideal.Gen.facts) := by
  intro m g m' g' _ hm
  refine ⟨fun c => product (factor₁ m c) (factor₂ m c),
    (θ_run _ _ _).mono (fun r h c => ⟨(h c).1.trans (final m c), (h c).2⟩) (Cert.Kernel13Ideal.Value.run_blocks m g), ?_⟩
  refine (θ_run _ _ _).mono (fun r h c => ⟨(h c).1.trans ?_, (h c).2⟩) (Cert.Reference13Ideal.Value.run m' g')
  obtain ⟨e0, e1⟩ := hm c
  rw [e0, e1]
  exact reference_eq _ _

/-- The reference's program ends with its arguments untouched. -/
theorem reference_frame : quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

end Cert.Proof.InGate

end
-- ==== Proof.Sigmoid.lean ====
/- The version's sigmoid, 1/2 · tanh(x/2) + 1/2, is 1 / (1 + exp(−x)): on the reals, and at both infinities. -/
module

public import Idealize.ShloMosaic.PureOps.Ideal
public import Mathlib.Analysis.SpecialFunctions.Trigonometric.DerivHyp

@[expose] public section

namespace Cert.Swiglu

open Idealize.ShloMosaic

/-- The logistic function. -/
noncomputable def sg (x : ℝ) : ℝ := 1 / (1 + Real.exp (-x))

/-- The logistic function over the extended reals, as the reference computes it. -/
noncomputable def sigma (x : EReal) : EReal := Ideal.div 1 (1 + Ideal.exp (-x))

/-- Over a real the logistic is the real one. -/
theorem sigma_coe (x : ℝ) : sigma x = (sg x : EReal) := by
  have h : (0 : ℝ) < 1 + Real.exp (-x) := by positivity
  have e : (1 : EReal) + Ideal.exp (-(x : EReal)) = ((1 + Real.exp (-x) : ℝ) : EReal) := by
    rw [← EReal.coe_neg, Ideal.exp_coe, EReal.coe_add, EReal.coe_one]
  unfold sigma Ideal.div sg
  rw [e, if_neg (by exact_mod_cast h.ne'), ← EReal.coe_inv, one_mul, one_div]

/-- The identity on the reals. -/
theorem tanh_half (x : ℝ) : (1 / 2) * Real.tanh (1 / 2 * x) + 1 / 2 = sg x := by
  have h : Real.exp (-x) = Real.exp (-(1 / 2 * x)) * Real.exp (-(1 / 2 * x)) := by
    rw [← Real.exp_add]; congr 1; ring
  have h1 : Real.exp (1 / 2 * x) * Real.exp (-(1 / 2 * x)) = 1 := by
    rw [← Real.exp_add, add_neg_cancel, Real.exp_zero]
  have p := Real.exp_pos (1 / 2 * x)
  have p' := Real.exp_pos (-(1 / 2 * x))
  unfold sg
  rw [Real.tanh_eq_sinh_div_cosh, Real.sinh_eq, Real.cosh_eq, h]
  generalize Real.exp (1 / 2 * x) = a at *
  generalize Real.exp (-(1 / 2 * x)) = b at *
  have hb : b = a⁻¹ := eq_inv_of_mul_eq_one_right h1
  subst hb
  field_simp
  ring

/-- The version's sigmoid is the logistic, at every extended real. -/
theorem sigmoid_eq (x : EReal) :
    ((1 / 2 : ℝ) : EReal) * Ideal.tanh (((1 / 2 : ℝ) : EReal) * x) + ((1 / 2 : ℝ) : EReal) = sigma x := by
  induction x with
  | bot =>
    rw [EReal.coe_mul_bot_of_pos (by norm_num), Ideal.tanh_bot]
    unfold sigma Ideal.div
    rw [EReal.neg_bot, Ideal.exp_top, EReal.add_top_of_ne_bot (by decide), if_neg (by decide), EReal.inv_top, mul_zero, mul_neg, mul_one,
      ← EReal.coe_neg, ← EReal.coe_add, neg_add_cancel, EReal.coe_zero]
  | top =>
    rw [EReal.coe_mul_top_of_pos (by norm_num), Ideal.tanh_top]
    unfold sigma Ideal.div
    rw [EReal.neg_top, Ideal.exp_bot, add_zero, if_neg one_ne_zero, mul_one, ← EReal.coe_add]
    norm_num
  | coe x =>
    rw [sigma_coe, ← EReal.coe_mul, Ideal.tanh_coe, ← EReal.coe_mul, ← EReal.coe_add, tanh_half]

/-- The word of one half. -/
theorem half_word : Ideal.ofBits .f32 0x3F000000#32 = (((1 / 2 : ℝ)) : EReal) := by
  have h : (8388608 : ℝ) * (2 ^ 24)⁻¹ = 2⁻¹ := by norm_num
  simp [Ideal.ofBits, Ideal.ieee, -EReal.coe_mul]
  exact_mod_cast h

/-- The word of one. -/
theorem one_word : Ideal.ofBits .f32 0x3F800000#32 = (1 : EReal) := by
  have h : (8388608 : ℝ) * (2 ^ 23)⁻¹ = 1 := by norm_num
  simp [Ideal.ofBits, Ideal.ieee, -EReal.coe_mul]
  exact_mod_cast h

/-- The gradient through silu: the version's product and the reference's sum of two terms agree over the reals. -/
theorem bwd_real (d u g s : ℝ) :
    ((d : EReal) * u) * (s * (1 + g * (1 - (s : EReal)))) = ((d : EReal) * u) * s + ((g : EReal) * (d * u)) * (s * (1 - (s : EReal))) := by
  rw [← EReal.coe_one]
  simp only [← EReal.coe_mul, ← EReal.coe_add, ← EReal.coe_sub]
  congr 1
  ring

end Cert.Swiglu
-- ==== Proof.GateUp.lean ====
/- The forward feed-forward: the version's one call computes both products and silu(gate) · up, block by block; its arrays are
   the whole products, and the logistic of the reference. -/
module

public import proofs.«01_k».proof.Defs
public import proofs.«01_k».proof.Proof.Sigmoid
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.GateUp

open Cert.Kernel14Ideal Cert.Kernel14Ideal.Gen Cert.Swiglu Idealize.ShloMosaic Idealize.ShloMosaic.TcCoe Idealize.SL.Sem

variable (m : (ℓ : Loc nD τ sig) → Buf (Elt Ideal) ℓ) (c : Dev nD)

/-- The rows of tokens that point `t` stages. -/
def rows (t : Fin cfg0.N) : FVec Ideal S512x1024 .bf16 := iblk m c 0 t

/-- The gate's weights that point `t` stages. -/
def gateW (t : Fin cfg0.N) : FVec Ideal S1408x1024 .bf16 := iblk m c 1 t

/-- The second product's weights that point `t` stages. -/
def upW (t : Fin cfg0.N) : FVec Ideal S1408x1024 .bf16 := iblk m c 2 t

/-- A block's product at an entry. -/
def dot (x : FVec Ideal S512x1024 .bf16) (w : FVec Ideal S1408x1024 .bf16) (j : S512x1408.Idx) : EReal :=
  ∑ k : Fin 1024, x (ix2 (j 0) k) * w (ix2 (j 1) k)

theorem pay1_at (x : FVec Ideal S512x1024 .bf16) (w : FVec Ideal S1408x1024 .bf16) (j : S512x1408.Idx) :
    k0_pay1 (F := Ideal) x w j = dot x w j := by
  unfold k0_pay1 dot
  pointwise

theorem pay2_at (x : FVec Ideal S512x1024 .bf16) (w : FVec Ideal S1408x1024 .bf16) (j : S512x1408.Idx) :
    k0_pay2 (F := Ideal) x w j = dot x w j := by
  unfold k0_pay2 dot
  pointwise

/-- The block's activation at an entry. -/
theorem pay3_at (x : FVec Ideal S512x1024 .bf16) (w u : FVec Ideal S1408x1024 .bf16) (j : S512x1408.Idx) :
    k0_pay3 (F := Ideal) x w u j = ((dot x w j * sigma (dot x w j)) * dot x u j : EReal) := by
  unfold k0_pay3
  rw [← sigmoid_eq, ← half_word, ← pay1_at x w j, ← pay2_at x u j]
  rfl

theorem gate_at (x : FVec Ideal S512x1024 .bf16) (w u : FVec Ideal S1408x1024 .bf16) (j : S512x1408.Idx) :
    out0_3 (F := Ideal) x w u j = dot x w j := by
  frame_out
  exact pay1_at x w j

theorem up_at (x : FVec Ideal S512x1024 .bf16) (w u : FVec Ideal S1408x1024 .bf16) (j : S512x1408.Idx) :
    out0_4 (F := Ideal) x w u j = dot x u j := by
  frame_out
  exact pay2_at x u j

theorem act_at (x : FVec Ideal S512x1024 .bf16) (w u : FVec Ideal S1408x1024 .bf16) (j : S512x1408.Idx) :
    out0_5 (F := Ideal) x w u j = ((dot x w j * sigma (dot x w j)) * dot x u j : EReal) := by
  frame_out
  exact pay3_at x w u j

/-- Which blocks the windows of a point are at. -/
theorem idx : ∀ t : Fin grid0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2]
    ∧ win0_5.index t = ![t.val / 2, t.val % 2] := by decide +kernel

/-- The tokens, as launched. -/
def tokens : FVec Ideal S8192x1024 .bf16 := m ((c : Thread nD τ).loc main_arg0)

/-- The gate's weights, as launched. -/
def gates : FVec Ideal S2816x1024 .bf16 := m ((c : Thread nD τ).loc main_arg1)

/-- The second product's weights, as launched. -/
def ups : FVec Ideal S2816x1024 .bf16 := m ((c : Thread nD τ).loc main_arg2)

/-- The product of whole arrays, the weights' rows being features. -/
def product (x : FVec Ideal S8192x1024 .bf16) (w : FVec Ideal S2816x1024 .bf16) : FVec Ideal S8192x2816 .f32 := fun i =>
  (∑ k : Fin 1024, x (ix2 (i 0) k) * w (ix2 (i 1) k) : EReal)

/-- silu(gate) · up. -/
def act (x : FVec Ideal S8192x1024 .bf16) (w u : FVec Ideal S2816x1024 .bf16) : FVec Ideal S8192x2816 .bf16 := fun i =>
  ((product x w i * sigma (product x w i)) * product x u i : EReal)

/-- A block's product is the whole one's, where the block is: the gate. -/
theorem gate_block (t : Fin cfg0.N) (y : S512x1408.Idx) (i : S8192x2816.Idx) (h0 : (i 0).val = t.val / 2 * 512 + (y 0).val)
    (h1 : (i 1).val = t.val % 2 * 1408 + (y 1).val) : dot (rows m c t) (gateW m c t) y = product (tokens m c) (gates m c) i := by
  obtain ⟨a0, a1, a2, -⟩ := idx t
  unfold dot product
  refine Finset.sum_congr rfl fun k _ => ?_
  congr 1
  · unfold rows tokens
    blk_ext [iblk, V, a0]
  · unfold gateW gates
    blk_ext [iblk, V, a1]

/-- A block's product is the whole one's, where the block is: the second product. -/
theorem up_block (t : Fin cfg0.N) (y : S512x1408.Idx) (i : S8192x2816.Idx) (h0 : (i 0).val = t.val / 2 * 512 + (y 0).val)
    (h1 : (i 1).val = t.val % 2 * 1408 + (y 1).val) : dot (rows m c t) (upW m c t) y = product (tokens m c) (ups m c) i := by
  obtain ⟨a0, a1, a2, -⟩ := idx t
  unfold dot product
  refine Finset.sum_congr rfl fun k _ => ?_
  congr 1
  · unfold rows tokens
    blk_ext [iblk, V, a0]
  · unfold upW ups
    blk_ext [iblk, V, a2]

theorem gate_final : (dats m 0 c).arrAt 3 cfg0.N = product (tokens m c) (gates m c) := by
  refine (dats m 0 c).arrAt_eq_of_covers 3 _ (by decide +kernel) fun t hf y => ?_
  blk_simp
  rw [after0_3]
  refine (gate_at (rows m c t) (gateW m c t) (upW m c t) y).trans (gate_block m c t y _ ?_ ?_)
  · blk_simp [(idx t).2.2.2.1]
  · blk_simp [(idx t).2.2.2.1]

theorem up_final : (dats m 0 c).arrAt 4 cfg0.N = product (tokens m c) (ups m c) := by
  refine (dats m 0 c).arrAt_eq_of_covers 4 _ (by decide +kernel) fun t hf y => ?_
  blk_simp
  rw [after0_4]
  refine (up_at (rows m c t) (gateW m c t) (upW m c t) y).trans (up_block m c t y _ ?_ ?_)
  · blk_simp [(idx t).2.2.2.2.1]
  · blk_simp [(idx t).2.2.2.2.1]

theorem act_final : (dats m 0 c).arrAt 5 cfg0.N = act (tokens m c) (gates m c) (ups m c) := by
  refine (dats m 0 c).arrAt_eq_of_covers 5 _ (by decide +kernel) fun t hf y => ?_
  blk_simp
  rw [after0_5]
  refine (act_at (rows m c t) (gateW m c t) (upW m c t) y).trans ?_
  unfold act
  rw [gate_block m c t y _ ?_ ?_, up_block m c t y _ ?_ ?_]
  · blk_simp [(idx t).2.2.2.2.2]
  · blk_simp [(idx t).2.2.2.2.2]
  · blk_simp [(idx t).2.2.2.2.2]
  · blk_simp [(idx t).2.2.2.2.2]

/-- The reference's product. -/
theorem reference_product (x : FVec Ideal S8192x1024 .bf16) (y : FVec Ideal S2816x1024 .bf16) :
    Host.dotGeneral Cert.Reference14Ideal.dot_S8192x1024_S1024x2816_S8192x2816_1_0_0_1_n_n none (extf .f32 x Cert.Reference14Ideal.Gen.bitsLt_bf16_f32) (transpose Cert.Reference14Ideal.S1024x2816 [1, 0] (extf .f32 y Cert.Reference14Ideal.Gen.bitsLt_bf16_f32) Cert.Reference14Ideal.Gen.transposes_S2816x1024_S1024x2816_1_0)
      = product x y := by
  funext i
  unfold product
  pointwise

/-- The reference's activation. -/
theorem reference_act (x : FVec Ideal S8192x1024 .bf16) (y z : FVec Ideal S2816x1024 .bf16) :
    truncf .bf16 (mulf (mulf (Host.dotGeneral Cert.Reference14Ideal.dot_S8192x1024_S1024x2816_S8192x2816_1_0_0_1_n_n none (extf .f32 x Cert.Reference14Ideal.Gen.bitsLt_bf16_f32) (transpose Cert.Reference14Ideal.S1024x2816 [1, 0] (extf .f32 y Cert.Reference14Ideal.Gen.bitsLt_bf16_f32) Cert.Reference14Ideal.Gen.transposes_S2816x1024_S1024x2816_1_0)) (Host.divf (broadcastInDim Cert.Reference14Ideal.S8192x2816 ![] Cert.Reference14Ideal.Gen.bcast_S_S8192x2816 (constant Cert.Reference14Ideal.S_ .f32 0x3F800000#32)) (addf (broadcastInDim Cert.Reference14Ideal.S8192x2816 ![] Cert.Reference14Ideal.Gen.bcast_S_S8192x2816 (constant Cert.Reference14Ideal.S_ .f32 0x3F800000#32)) (Host.exp (Host.negf (Host.dotGeneral Cert.Reference14Ideal.dot_S8192x1024_S1024x2816_S8192x2816_1_0_0_1_n_n none (extf .f32 x Cert.Reference14Ideal.Gen.bitsLt_bf16_f32) (transpose Cert.Reference14Ideal.S1024x2816 [1, 0] (extf .f32 y Cert.Reference14Ideal.Gen.bitsLt_bf16_f32) Cert.Reference14Ideal.Gen.transposes_S2816x1024_S1024x2816_1_0))))))) (Host.dotGeneral Cert.Reference14Ideal.dot_S8192x1024_S1024x2816_S8192x2816_1_0_0_1_n_n none (extf .f32 x Cert.Reference14Ideal.Gen.bitsLt_bf16_f32) (transpose Cert.Reference14Ideal.S1024x2816 [1, 0] (extf .f32 z Cert.Reference14Ideal.Gen.bitsLt_bf16_f32) Cert.Reference14Ideal.Gen.transposes_S2816x1024_S1024x2816_1_0))) Cert.Reference14Ideal.Gen.bitsLt_bf16_f32
      = act x y z := by
  rw [reference_product, reference_product]
  funext i
  unfold act sigma
  rw [← one_word]
  rfl

/-- The version's call returns what the reference does. -/
theorem algebraic : algebraic_Kernel14Ideal_Reference14Ideal (hKernel14Ideal := Cert.Kernel14Ideal.Gen.facts)
    (hReference14Ideal := Cert.Reference14Ideal.Gen.facts) := by
  intro m g m' g' _ hm
  refine ⟨fun c => product (tokens m c) (gates m c), fun c => product (tokens m c) (ups m c),
    fun c => act (tokens m c) (gates m c) (ups m c),
    (θ_run _ _ _).mono (fun r h c => ⟨(h c).1.trans (gate_final m c), (h c).2.1.trans (up_final m c), (h c).2.2.1.trans (act_final m c),
      (h c).2.2.2⟩) (Cert.Kernel14Ideal.Value.run_blocks m g), ?_⟩
  refine (θ_run _ _ _).mono (fun r h c => ⟨(h c).1.trans ?_, (h c).2.1.trans ?_, (h c).2.2.1.trans ?_, (h c).2.2.2⟩)
    (Cert.Reference14Ideal.Value.run m' g')
  all_goals obtain ⟨e0, e1, e2⟩ := hm c
  · rw [e0, e1]
    exact reference_product _ _
  · rw [e0, e2]
    exact reference_product _ _
  · rw [e0, e1, e2]
    exact reference_act _ _ _

/-- The reference's program ends with its arguments untouched. -/
theorem reference_frame : quiescent_Reference14Ideal (hReference14Ideal := Cert.Reference14Ideal.Gen.facts) := fun m ρ _ =>
  (θ_run _ _ _).mono (fun r h => ⟨fun c => (h c).2.2.2, sem_eq_zero_of_no_sems (by decide) r.2⟩)
    (Cert.Reference14Ideal.Value.run (F := Ideal) m ρ)

end Cert.Proof.GateUp

end
-- ==== Proof.Real.lean ====
/- Real arithmetic behind the attention gradient: when every operand is a real number, an operation on extended
   reals is the operation on reals; and the softmax identities of one query row. -/
module

public import Idealize.ShloMosaic.Lib.Pointwise

@[expose] public section

noncomputable section

namespace Cert.Att

open Idealize.ShloMosaic

/-! ## Operations on reals seen as extended reals -/

theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem coe_div {y : ℝ} (h : y ≠ 0) (x : ℝ) : Ideal.div (x : EReal) (y : EReal) = ((x / y : ℝ) : EReal) := by
  rw [Ideal.div_coe h, ← EReal.coe_mul, mul_one_div]

theorem coe_log {y : ℝ} (h : 0 < y) : Ideal.log (y : EReal) = ((Real.log y : ℝ) : EReal) := by
  rw [Ideal.log_coe, if_neg (not_le.mpr h)]

theorem coe_max (x y : ℝ) : max (x : EReal) (y : EReal) = ((max x y : ℝ) : EReal) :=
  (EReal.coe_strictMono.monotone.map_max).symm

theorem real_of_abs_lt_top {x : EReal} (h : max x (-x) < ⊤) : ((x.toReal : ℝ) : EReal) = x := by
  refine EReal.coe_toReal ?_ ?_
  · rintro rfl; simp at h
  · rintro rfl; simp at h

/-! ## The largest of finitely many scores -/

/-- The maximum from `⊥` over a finite set of a family that is `⊥` outside the mask and real inside, with a kept member, is
    real and attained. -/
theorem fold_max_on {I : Type*} (A : Finset I) (mk : I → Prop) [DecidablePred mk] (S : I → ℝ) (f : I → EReal)
    (hf : ∀ x ∈ A, f x = if mk x then (S x : EReal) else ⊥) (x₀ : I) (h₀ : x₀ ∈ A) (h₁ : mk x₀) :
    ∃ m : ℝ, A.fold max (⊥ : EReal) f = (m : EReal) ∧ ∃ x ∈ A, mk x ∧ S x = m := by
  classical
  have hne : (A.filter mk).Nonempty := ⟨x₀, by simp [h₀, h₁]⟩
  obtain ⟨j, hj, hmax⟩ := Finset.exists_max_image _ S hne
  obtain ⟨hjA, hjk⟩ := Finset.mem_filter.mp hj
  refine ⟨S j, ?_, j, hjA, hjk, rfl⟩
  refine le_antisymm ?_ ?_
  · rw [Finset.fold_max_le]
    refine ⟨bot_le, fun k hk => ?_⟩
    rw [hf k hk]
    split
    · next h => exact EReal.coe_le_coe_iff.mpr (hmax k (Finset.mem_filter.mpr ⟨hk, h⟩))
    · exact bot_le
  · rw [Finset.le_fold_max]
    exact Or.inr ⟨j, hjA, by rw [hf j hjA, if_pos hjk]⟩

/-! ## One query row

`S` are the scaled scores of the row against `J` keys, `mk` says which keys the row attends to, `v` are the values,
`g` the incoming gradient of the row, and `u` the exponentials of the log-sums of the other two groups. -/

section Row

variable {J D : Type*} [Fintype J] [Fintype D] (mk : J → Prop) [DecidablePred mk] (S : J → ℝ) (v : J → D → ℝ)

/-- The exponential of a score, zero outside the mask. -/
def ex (j : J) : ℝ := if mk j then Real.exp (S j) else 0

/-- The row's sum of exponentials. -/
def tot : ℝ := ∑ j, ex mk S j

/-- The row's attention output. -/
def out (d : D) : ℝ := (∑ j, v j d * ex mk S j) / tot mk S

theorem ex_nonneg (j : J) : 0 ≤ ex mk S j := by
  unfold ex; split <;> positivity

theorem tot_pos (j₀ : J) (h₀ : mk j₀) : 0 < tot mk S := by
  refine Finset.sum_pos' (fun j _ => ex_nonneg mk S j) ⟨j₀, Finset.mem_univ _, ?_⟩
  unfold ex; rw [if_pos h₀]; exact Real.exp_pos _

/-- The exponential taken relative to any `m` is the exponential times `exp (-m)`. -/
theorem ex_shift (m : ℝ) (j : J) : (if mk j then Real.exp (S j - m) else 0) = ex mk S j * Real.exp (-m) := by
  unfold ex; split
  · rw [← Real.exp_add, sub_eq_add_neg]
  · simp

theorem tot_shift (m : ℝ) : ∑ j, ex mk S j * Real.exp (-m) = tot mk S * Real.exp (-m) := by
  rw [tot, Finset.sum_mul]

theorem log_shift {z : ℝ} (hz : 0 < z) (m : ℝ) : m + Real.log (z * Real.exp (-m)) = Real.log z := by
  rw [Real.log_mul hz.ne' (Real.exp_pos _).ne', Real.log_exp]; ring

/-- The product of the incoming gradient with the row's output, over the keys. -/
theorem dot_out (g : D → ℝ) : ∑ d, g d * out mk S v d = (∑ j, (∑ d, g d * v j d) * ex mk S j) / tot mk S := by
  unfold out
  simp only [Finset.sum_div, Finset.mul_sum, Finset.sum_mul]
  rw [Finset.sum_comm]
  exact Finset.sum_congr rfl fun j _ => Finset.sum_congr rfl fun d _ => by ring

end Row

end Cert.Att

end
-- ==== Proof.Spec.lean ====
/- The banded attention of one group (dilation 1) and its merge with the two other groups, over real arrays: what both
   programs compute, and the gradient in `q`. A key is named by its position plus 128, so that the block of zeros
   before the first position has names too. -/
module

public import proofs.«01_k».proof.Proof.Real

@[expose] public section

noncomputable section

namespace Cert.Att

open Idealize.ShloMosaic

/-- A real array `batch × position × head × feature`. -/
abbrev Arr := Fin 2 → Fin 4096 → Fin 4 → Fin 128 → ℝ

/-- A real array `batch × position × head`. -/
abbrev Row := Fin 2 → Fin 4096 → Fin 4 → ℝ

/-- A real array as the program's array. -/
abbrev up (X : Arr) : FVec Ideal ⟨4, ![2, 4096, 4, 128]⟩ .f32 := fun i => ((X (i 0) (i 1) (i 2) (i 3) : ℝ) : EReal)

/-- A real array of log-sums as the program's array. -/
abbrev up3 (X : Row) : FVec Ideal ⟨3, ![2, 4096, 4]⟩ .f32 := fun i => ((X (i 0) (i 1) (i 2) : ℝ) : EReal)

/-- The scale `128 ^ (-1/2)` as both programs round it. -/
def scale : ℝ := (Ideal.ofBits .f32 0x3DB504F3#32).toReal

theorem coe_scale : Ideal.ofBits .f32 0x3DB504F3#32 = ((scale : ℝ) : EReal) := by
  have h : ∃ r : ℝ, Ideal.ofBits .f32 0x3DB504F3#32 = (r : EReal) := by
    simp [Ideal.ofBits, Ideal.ieee, -EReal.coe_mul]
  obtain ⟨r, hr⟩ := h
  rw [scale, hr, EReal.toReal_coe]

/-- Position `128 n + i`. -/
abbrev pos (n : Fin 32) (i : Fin 128) : Fin 4096 := ⟨n.val * 128 + i.val, by omega⟩

/-- The block of a position, and its place in the block. -/
abbrev blk (s : Fin 4096) : Fin 32 := ⟨s.val / 128, by omega⟩
abbrev off (s : Fin 4096) : Fin 128 := ⟨s.val % 128, by omega⟩

theorem blk_pos (n : Fin 32) (i : Fin 128) : blk (pos n i) = n := Fin.ext (by simp only [blk, pos]; omega)
theorem off_pos (n : Fin 32) (i : Fin 128) : off (pos n i) = i := Fin.ext (by simp only [off, pos]; omega)
theorem pos_blk_off (s : Fin 4096) : pos (blk s) (off s) = s := Fin.ext (by simp only [blk, off, pos]; omega)

/-- The row of `X` at the key named `p` (its position plus 128); zero before the first position. -/
def look (X : Arr) (b : Fin 2) (h : Fin 4) (p : ℕ) (d : Fin 128) : ℝ :=
  if hp : 128 ≤ p ∧ p < 4224 then X b ⟨p - 128, by omega⟩ h d else 0

/-- Row `s` attends to the key named `p`. -/
def mk (s p : ℕ) : Prop := s ≤ p ∧ p ≤ s + 128 ∧ 128 ≤ p

instance (s p : ℕ) : Decidable (mk s p) := by unfold mk; infer_instance

/-- The scaled score of row `s` against the key named `p`. -/
def score (Q K : Arr) (b : Fin 2) (s : Fin 4096) (h : Fin 4) (p : ℕ) : ℝ :=
  (∑ d, Q b s h d * look K b h p d) * scale

/-- The row's own key is always attended to. -/
theorem mk_self (n : Fin 32) (i : Fin 128) : mk (pos n i) (n.val * 128 + (⟨i.val + 128, by omega⟩ : Fin 256).val) := by
  simp only [mk, pos]; omega

/-! ## The group's row and the merge, the row's keys read as the two blocks at hand (`j < 256`) -/

section

variable (Q K V : Arr)

/-- The row's sum of exponentials. -/
def Z (b : Fin 2) (n : Fin 32) (i : Fin 128) (h : Fin 4) : ℝ :=
  tot (fun j : Fin 256 => mk (pos n i) (n.val * 128 + j.val)) (fun j => score Q K b (pos n i) h (n.val * 128 + j.val))

/-- The row's output. -/
def O (b : Fin 2) (n : Fin 32) (i : Fin 128) (h : Fin 4) (d : Fin 128) : ℝ :=
  out (fun j : Fin 256 => mk (pos n i) (n.val * 128 + j.val)) (fun j => score Q K b (pos n i) h (n.val * 128 + j.val))
    (fun j d => look V b h (n.val * 128 + j.val) d) d

theorem Z_pos (b : Fin 2) (n : Fin 32) (i : Fin 128) (h : Fin 4) : 0 < Z Q K b n i h :=
  tot_pos _ _ ⟨i.val + 128, by omega⟩ (mk_self n i)

variable (L4 L16 : Row)

/-- The merged sum of exponentials of the three groups. -/
def T (b : Fin 2) (s : Fin 4096) (h : Fin 4) : ℝ :=
  Z Q K b (blk s) (off s) h + Real.exp (L4 b s h) + Real.exp (L16 b s h)

theorem T_pos (b : Fin 2) (s : Fin 4096) (h : Fin 4) : 0 < T Q K L4 L16 b s h := by
  have := Z_pos Q K b (blk s) (off s) h
  unfold T; positivity

variable (O4 O16 G : Arr)

/-- The incoming gradient times the merged output, summed over the features. -/
def delta (b : Fin 2) (s : Fin 4096) (h : Fin 4) : ℝ :=
  (Z Q K b (blk s) (off s) h * (∑ d, G b s h d * O Q K V b (blk s) (off s) h d)
    + Real.exp (L4 b s h) * (∑ d, G b s h d * O4 b s h d) + Real.exp (L16 b s h) * (∑ d, G b s h d * O16 b s h d))
    / T Q K L4 L16 b s h

/-- What the key named `p` contributes to the gradient of row `s` in `q`, feature `d`. -/
def term (b : Fin 2) (s : Fin 4096) (h : Fin 4) (d : Fin 128) (p : ℕ) : ℝ :=
  (if mk s p then Real.exp (score Q K b s h p) else 0) / T Q K L4 L16 b s h
    * ((∑ e, G b s h e * look V b h p e) - delta Q K V L4 L16 O4 O16 G b s h) * look K b h p d

/-- The gradient in `q` through this group. -/
def dq (b : Fin 2) (s : Fin 4096) (h : Fin 4) (d : Fin 128) : ℝ :=
  (∑ j : Fin 256, term Q K V L4 L16 O4 O16 G b s h d ((blk s).val * 128 + j.val)) * scale

theorem term_zero (b : Fin 2) (s : Fin 4096) (h : Fin 4) (d : Fin 128) (p : ℕ) (hp : ¬ (s.val ≤ p ∧ p < s.val + 129)) :
    term Q K V L4 L16 O4 O16 G b s h d p = 0 := by
  have : ¬ mk s p := by unfold mk; omega
  simp [term, this]

end

/-- A sum over a run of names that holds the row's band is the sum over the band. -/
theorem sum_window (f : ℕ → ℝ) (s a N : ℕ) (h₁ : a ≤ s) (h₂ : s + 129 ≤ a + N) (hf : ∀ p, ¬ (s ≤ p ∧ p < s + 129) → f p = 0) :
    ∑ j : Fin N, f (a + j.val) = ∑ p ∈ Finset.Ico s (s + 129), f p := by
  rw [Fin.sum_univ_eq_sum_range (fun j => f (a + j)) N]
  have e : ∑ j ∈ Finset.range N, f (a + j) = ∑ p ∈ Finset.Ico a (a + N), f p := by
    rw [Finset.sum_Ico_eq_sum_range, Nat.add_sub_cancel_left]
  rw [e]
  refine (Finset.sum_subset ?_ ?_).symm
  · intro p hp
    rw [Finset.mem_Ico] at hp ⊢
    omega
  · intro p _ hp
    refine hf p fun h => hp ?_
    rw [Finset.mem_Ico]; omega

end Cert.Att

end
-- ==== Proof.Finite.lean ====
/- What the precondition says of one argument: every element is a real number. -/
module

public import proofs.«01_k».proof.Proof.Spec
public import proofs.«01_k».proof.Proof.Gen.Pre_finite
public import Idealize.ShloMosaic.Lib.Pointwise

@[expose] public section

set_option maxRecDepth 16384

noncomputable section

namespace Cert.Att

open Idealize.ShloMosaic Cert.Pre_finite

theorem ofBits_inf : Ideal.ofBits .f32 0x7F800000#32 = (⊤ : EReal) := by
  simp [Ideal.ofBits, Ideal.ieee]

theorem real_of_test (x : EReal) (h : BitVec.ofBool (decide (max x (-x) < Ideal.ofBits .f32 0x7F800000#32)) = 1#1) :
    x = ((x.toReal : ℝ) : EReal) := by
  rw [ofBits_inf] at h
  by_cases hx : max x (-x) < ⊤
  · exact (real_of_abs_lt_top hx).symm
  · simp [hx] at h

variable [Facts]

theorem rows_real (x : FVec Ideal S2x4096x4x128 .f32)
    (h : cmpf .olt (Host.absf x) (broadcastInDim S2x4096x4x128 ![] Facts.bcast_S_S2x4096x4x128 (constant S_ .f32 0x7F800000#32)) = fun _ => 1#1) :
    x = up (fun b s h d => (x (ix4 b s h d)).toReal) := by
  funext i
  have e : ix4 (i 0) (i 1) (i 2) (i 3) = i := by
    funext a
    match a with
    | 0 => rfl
    | 1 => rfl
    | 2 => rfl
    | 3 => rfl
  exact (real_of_test (x i) (congrFun h i)).trans (congrArg (fun i => (((x i).toReal : ℝ) : EReal)) e.symm)

theorem sums_real (x : FVec Ideal S2x4096x4 .f32)
    (h : cmpf .olt (Host.absf x) (broadcastInDim S2x4096x4 ![] Facts.bcast_S_S2x4096x4 (constant S_ .f32 0x7F800000#32)) = fun _ => 1#1) :
    x = up3 (fun b s h => (x (ix3 b s h)).toReal) := by
  funext i
  have e : ix3 (i 0) (i 1) (i 2) = i := by
    funext a
    match a with
    | 0 => rfl
    | 1 => rfl
    | 2 => rfl
  exact (real_of_test (x i) (congrFun h i)).trans (congrArg (fun i => (((x i).toReal : ℝ) : EReal)) e.symm)

end Cert.Att

end
-- ==== Proof.DownDx.lean ====
/- The backward pass of the feed-forward's activation: the version's one call computes the product with w_down and both gradients
   of silu(gate) · up, block by block; over the reals they are the derivative that the reference takes. -/
module

public import proofs.«01_k».proof.Defs
public import proofs.«01_k».proof.Proof.Sigmoid
public import proofs.«01_k».proof.Proof.Finite
public import proofs.«01_k».proof.Proof.Gen.Pre_finite_swiglu
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.DownDx

open Cert.Kernel15Ideal Cert.Kernel15Ideal.Gen Cert.Swiglu Idealize.ShloMosaic Idealize.ShloMosaic.TcCoe Idealize.SL.Sem

variable (m : (ℓ : Loc nD τ sig) → Buf (Elt Ideal) ℓ) (c : Dev nD)

/-- The rows of the cotangent that point `t` stages. -/
def rows (t : Fin cfg0.N) : FVec Ideal S512x1024 .bf16 := iblk m c 0 t

/-- The weights that point `t` stages. -/
def weights (t : Fin cfg0.N) : FVec Ideal S1408x1024 .bf16 := iblk m c 1 t

/-- The gate's block that point `t` stages. -/
def gateB (t : Fin cfg0.N) : FVec Ideal S512x1408 .f32 := iblk m c 2 t

/-- The block of the second product that point `t` stages. -/
def upB (t : Fin cfg0.N) : FVec Ideal S512x1408 .f32 := iblk m c 3 t

/-- A block's product at an entry. -/
def dot (x : FVec Ideal S512x1024 .bf16) (w : FVec Ideal S1408x1024 .bf16) (j : S512x1408.Idx) : EReal :=
  ∑ k : Fin 1024, x (ix2 (j 0) k) * w (ix2 (j 1) k)

theorem pay1_at (x : FVec Ideal S512x1024 .bf16) (w : FVec Ideal S1408x1024 .bf16) (j : S512x1408.Idx) :
    k0_pay1 (F := Ideal) x w j = dot x w j := by
  unfold k0_pay1 dot
  pointwise

theorem pay2_at (g : FVec Ideal S512x1408 .f32) (j : S512x1408.Idx) : k0_pay2 (F := Ideal) g j = sigma (g j) := by
  unfold k0_pay2
  rw [← sigmoid_eq, ← half_word]
  rfl

/-- The gate's gradient in a block, at an entry. -/
theorem gate_at (x : FVec Ideal S512x1024 .bf16) (w : FVec Ideal S1408x1024 .bf16) (g u : FVec Ideal S512x1408 .f32) (j : S512x1408.Idx) :
    out0_4 (F := Ideal) x w g u j = ((dot x w j * u j) * (sigma (g j) * (1 + g j * (1 - sigma (g j)))) : EReal) := by
  frame_out
  unfold k0_pay3
  rw [← one_word, ← pay1_at x w j, ← pay2_at g j]
  rfl

/-- The second product's gradient in a block, at an entry. -/
theorem up_at (x : FVec Ideal S512x1024 .bf16) (w : FVec Ideal S1408x1024 .bf16) (g u : FVec Ideal S512x1408 .f32) (j : S512x1408.Idx) :
    out0_5 (F := Ideal) x w g u j = (dot x w j * (g j * sigma (g j)) : EReal) := by
  frame_out
  unfold k0_pay4
  rw [← pay1_at x w j, ← pay2_at g j]
  rfl

/-- Which blocks the windows of a point are at. -/
theorem idx : ∀ t : Fin grid0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2] := by decide +kernel

/-- The cotangent, as launched. -/
def cots : FVec Ideal S8192x1024 .bf16 := m ((c : Thread nD τ).loc main_arg0)

/-- The weights, as launched. -/
def downs : FVec Ideal S2816x1024 .bf16 := m ((c : Thread nD τ).loc main_arg1)

/-- The gate, as launched. -/
def gates : FVec Ideal S8192x2816 .f32 := m ((c : Thread nD τ).loc main_arg2)

/-- The second product, as launched. -/
def ups : FVec Ideal S8192x2816 .f32 := m ((c : Thread nD τ).loc main_arg3)

/-- The activation's cotangent: the product of whole arrays. -/
def product (x : FVec Ideal S8192x1024 .bf16) (w : FVec Ideal S2816x1024 .bf16) : FVec Ideal S8192x2816 .f32 := fun i =>
  (∑ k : Fin 1024, x (ix2 (i 0) k) * w (ix2 (i 1) k) : EReal)

/-- The gate's gradient as the version computes it. -/
def dgate (x : FVec Ideal S8192x1024 .bf16) (w : FVec Ideal S2816x1024 .bf16) (g u : FVec Ideal S8192x2816 .f32) :
    FVec Ideal S8192x2816 .bf16 := fun i =>
  ((product x w i * u i) * (sigma (g i) * (1 + g i * (1 - sigma (g i)))) : EReal)

/-- The second product's gradient. -/
def dup (x : FVec Ideal S8192x1024 .bf16) (w : FVec Ideal S2816x1024 .bf16) (g : FVec Ideal S8192x2816 .f32) :
    FVec Ideal S8192x2816 .bf16 := fun i => (product x w i * (g i * sigma (g i)) : EReal)

/-- A block's product is the whole one's, where the block is. -/
theorem dot_block (t : Fin cfg0.N) (y : S512x1408.Idx) (i : S8192x2816.Idx) (h0 : (i 0).val = t.val / 2 * 512 + (y 0).val)
    (h1 : (i 1).val = t.val % 2 * 1408 + (y 1).val) : dot (rows m c t) (weights m c t) y = product (cots m c) (downs m c) i := by
  obtain ⟨a0, a1, -⟩ := idx t
  unfold dot product
  refine Finset.sum_congr rfl fun k _ => ?_
  congr 1
  · unfold rows cots
    blk_ext [iblk, V, a0]
  · unfold weights downs
    blk_ext [iblk, V, a1]

theorem gate_block (t : Fin cfg0.N) (y : S512x1408.Idx) (i : S8192x2816.Idx) (h0 : (i 0).val = t.val / 2 * 512 + (y 0).val)
    (h1 : (i 1).val = t.val % 2 * 1408 + (y 1).val) : gateB m c t y = gates m c i := by
  obtain ⟨-, -, a2, -⟩ := idx t
  unfold gateB gates
  blk_ext [iblk, V, a2]

theorem up_block (t : Fin cfg0.N) (y : S512x1408.Idx) (i : S8192x2816.Idx) (h0 : (i 0).val = t.val / 2 * 512 + (y 0).val)
    (h1 : (i 1).val = t.val % 2 * 1408 + (y 1).val) : upB m c t y = ups m c i := by
  obtain ⟨-, -, -, a3, -⟩ := idx t
  unfold upB ups
  blk_ext [iblk, V, a3]

theorem gate_final : (dats m 0 c).arrAt 4 cfg0.N = dgate (cots m c) (downs m c) (gates m c) (ups m c) := by
  refine (dats m 0 c).arrAt_eq_of_covers 4 _ (by decide +kernel) fun t hf y => ?_
  blk_simp
  rw [after0_4]
  refine (gate_at (rows m c t) (weights m c t) (gateB m c t) (upB m c t) y).trans ?_
  unfold dgate
  rw [dot_block m c t y _ ?_ ?_, gate_block m c t y _ ?_ ?_, up_block m c t y _ ?_ ?_]
  all_goals blk_simp [(idx t).2.2.2.2.1]

theorem up_final : (dats m 0 c).arrAt 5 cfg0.N = dup (cots m c) (downs m c) (gates m c) := by
  refine (dats m 0 c).arrAt_eq_of_covers 5 _ (by decide +kernel) fun t hf y => ?_
  blk_simp
  rw [after0_5]
  refine (up_at (rows m c t) (weights m c t) (gateB m c t) (upB m c t) y).trans ?_
  unfold dup
  rw [dot_block m c t y _ ?_ ?_, gate_block m c t y _ ?_ ?_]
  all_goals blk_simp [(idx t).2.2.2.2.2]

/-- An array of reals. -/
def IsReal {s : Shape} {φ : FTy} (x : FVec Ideal s φ) : Prop := ∀ i, ∃ r : ℝ, (x i : EReal) = r

/-- A product of real arrays is real. -/
theorem product_real (x : FVec Ideal S8192x1024 .bf16) (w : FVec Ideal S2816x1024 .bf16) (hx : IsReal x) (hw : IsReal w) :
    IsReal (product x w) := by
  intro i
  choose p hp using hx
  choose q hq using hw
  refine ⟨∑ k : Fin 1024, p (ix2 (i 0) k) * q (ix2 (i 1) k), ?_⟩
  unfold product
  rw [← Cert.Att.coe_sum]
  exact Finset.sum_congr rfl fun k _ => (congrArg₂ (· * ·) (hp _) (hq _)).trans (EReal.coe_mul _ _).symm

/-- The reference's product. -/
theorem reference_product (x : FVec Ideal S8192x1024 .bf16) (y : FVec Ideal S2816x1024 .bf16) :
    Host.dotGeneral (F := Ideal) Cert.Reference15Ideal.dot_S8192x1024_S2816x1024_S8192x2816_1_1_0_0_n_n none (extf .f32 x Cert.Reference15Ideal.Gen.bitsLt_bf16_f32) (extf .f32 y Cert.Reference15Ideal.Gen.bitsLt_bf16_f32)
      = product x y := by
  funext i
  unfold product
  pointwise

/-- The reference's gradient of the gate, over real arrays. -/
theorem reference_gate (x : FVec Ideal S8192x1024 .bf16) (y : FVec Ideal S2816x1024 .bf16) (z w : FVec Ideal S8192x2816 .f32)
    (hx : IsReal x) (hy : IsReal y) (hz : IsReal z) (hw : IsReal w) :
    truncf .bf16 (addf (mulf (mulf (Host.dotGeneral Cert.Reference15Ideal.dot_S8192x1024_S2816x1024_S8192x2816_1_1_0_0_n_n none (extf .f32 x Cert.Reference15Ideal.Gen.bitsLt_bf16_f32) (extf .f32 y Cert.Reference15Ideal.Gen.bitsLt_bf16_f32)) w) (Host.divf (broadcastInDim Cert.Reference15Ideal.S8192x2816 ![] Cert.Reference15Ideal.Gen.bcast_S_S8192x2816 (constant Cert.Reference15Ideal.S_ .f32 0x3F800000#32)) (addf (broadcastInDim Cert.Reference15Ideal.S8192x2816 ![] Cert.Reference15Ideal.Gen.bcast_S_S8192x2816 (constant Cert.Reference15Ideal.S_ .f32 0x3F800000#32)) (Host.exp (Host.negf z))))) (mulf (mulf z (mulf (Host.dotGeneral Cert.Reference15Ideal.dot_S8192x1024_S2816x1024_S8192x2816_1_1_0_0_n_n none (extf .f32 x Cert.Reference15Ideal.Gen.bitsLt_bf16_f32) (extf .f32 y Cert.Reference15Ideal.Gen.bitsLt_bf16_f32)) w)) (mulf (Host.divf (broadcastInDim Cert.Reference15Ideal.S8192x2816 ![] Cert.Reference15Ideal.Gen.bcast_S_S8192x2816 (constant Cert.Reference15Ideal.S_ .f32 0x3F800000#32)) (addf (broadcastInDim Cert.Reference15Ideal.S8192x2816 ![] Cert.Reference15Ideal.Gen.bcast_S_S8192x2816 (constant Cert.Reference15Ideal.S_ .f32 0x3F800000#32)) (Host.exp (Host.negf z)))) (subf (broadcastInDim Cert.Reference15Ideal.S8192x2816 ![] Cert.Reference15Ideal.Gen.bcast_S_S8192x2816 (constant Cert.Reference15Ideal.S_ .f32 0x3F800000#32)) (Host.divf (broadcastInDim Cert.Reference15Ideal.S8192x2816 ![] Cert.Reference15Ideal.Gen.bcast_S_S8192x2816 (constant Cert.Reference15Ideal.S_ .f32 0x3F800000#32)) (addf (broadcastInDim Cert.Reference15Ideal.S8192x2816 ![] Cert.Reference15Ideal.Gen.bcast_S_S8192x2816 (constant Cert.Reference15Ideal.S_ .f32 0x3F800000#32)) (Host.exp (Host.negf z)))))))) Cert.Reference15Ideal.Gen.bitsLt_bf16_f32
      = dgate x y z w := by
  rw [reference_product]
  funext i
  obtain ⟨d, hd⟩ := product_real x y hx hy i
  obtain ⟨g, hg⟩ := hz i
  obtain ⟨u, hu⟩ := hw i
  have e := bwd_real d u g (sg g)
  rw [← sigma_coe, ← hg, ← hd, ← hu] at e
  refine Eq.trans ?_ e.symm
  unfold sigma
  rw [← one_word]
  rfl

/-- The reference's gradient of the second product. -/
theorem reference_up (x : FVec Ideal S8192x1024 .bf16) (y : FVec Ideal S2816x1024 .bf16) (z : FVec Ideal S8192x2816 .f32) :
    truncf .bf16 (mulf (mulf z (Host.divf (broadcastInDim Cert.Reference15Ideal.S8192x2816 ![] Cert.Reference15Ideal.Gen.bcast_S_S8192x2816 (constant Cert.Reference15Ideal.S_ .f32 0x3F800000#32)) (addf (broadcastInDim Cert.Reference15Ideal.S8192x2816 ![] Cert.Reference15Ideal.Gen.bcast_S_S8192x2816 (constant Cert.Reference15Ideal.S_ .f32 0x3F800000#32)) (Host.exp (Host.negf z))))) (Host.dotGeneral Cert.Reference15Ideal.dot_S8192x1024_S2816x1024_S8192x2816_1_1_0_0_n_n none (extf .f32 x Cert.Reference15Ideal.Gen.bitsLt_bf16_f32) (extf .f32 y Cert.Reference15Ideal.Gen.bitsLt_bf16_f32))) Cert.Reference15Ideal.Gen.bitsLt_bf16_f32
      = dup x y z := by
  rw [reference_product]
  funext i
  unfold dup
  refine Eq.trans ?_ (mul_comm _ _)
  unfold sigma
  rw [← one_word]
  rfl

/-- The word of infinity in the short format. -/
theorem short_inf : Ideal.ofBits .bf16 0x7F80#16 = (⊤ : EReal) := by
  simp [Ideal.ofBits, Ideal.ieee]

/-- What the precondition says of an entry of a short array. -/
theorem real_of_short (x : EReal) (h : BitVec.ofBool (decide (max x (-x) < Ideal.ofBits .bf16 0x7F80#16)) = 1#1) :
    x = ((x.toReal : ℝ) : EReal) := by
  rw [short_inf, ← Cert.Att.ofBits_inf] at h
  exact Cert.Att.real_of_test x h

/-- The version's call returns the reference's gradients, over real arguments. -/
theorem algebraic : algebraic_Kernel15Ideal_Reference15Ideal_pre_finite_swiglu (hKernel15Ideal := Cert.Kernel15Ideal.Gen.facts)
    (hReference15Ideal := Cert.Reference15Ideal.Gen.facts) (hPre_finite_swiglu := Cert.Pre_finite_swiglu.Gen.facts) := by
  intro m g m' g' hpre hm
  refine ⟨fun c => dgate (cots m c) (downs m c) (gates m c) (ups m c), fun c => dup (cots m c) (downs m c) (gates m c),
    (θ_run _ _ _).mono (fun r h c => ⟨(h c).1.trans (gate_final m c), (h c).2.1.trans (up_final m c), (h c).2.2⟩)
      (Cert.Kernel15Ideal.Value.run_blocks m g), ?_⟩
  refine (θ_run _ _ _).mono (fun r h c => ⟨(h c).1.trans ?_, (h c).2.1.trans ?_, (h c).2.2⟩) (Cert.Reference15Ideal.Value.run m' g')
  all_goals obtain ⟨e0, e1, e2, e3⟩ := hm c
  · rw [e0, e1, e2, e3]
    obtain ⟨h0, h1, h2, h3⟩ := hpre c
    exact reference_gate _ _ _ _ (fun i => ⟨_, real_of_short _ (congrFun h0 i)⟩) (fun i => ⟨_, real_of_short _ (congrFun h1 i)⟩)
      (fun i => ⟨_, Cert.Att.real_of_test _ (congrFun h2 i)⟩) (fun i => ⟨_, Cert.Att.real_of_test _ (congrFun h3 i)⟩)
  · rw [e0, e1, e2]
    exact reference_up _ _ _

/-- The reference's program ends with its arguments untouched. -/
theorem reference_frame : quiescent_Reference15Ideal (hReference15Ideal := Cert.Reference15Ideal.Gen.facts) := fun m ρ _ =>
  (θ_run _ _ _).mono (fun r h => ⟨fun c => (h c).2.2, sem_eq_zero_of_no_sems (by decide) r.2⟩)
    (Cert.Reference15Ideal.Value.run (F := Ideal) m ρ)

end Cert.Proof.DownDx

end
-- ==== Proof.AttMix.lean ====
/- The attention branch's output projection, and the mix of the two branches by their gates: the version's one call computes both,
   block by block. -/
module

public import proofs.«01_k».proof.Defs
public import proofs.«01_k».proof.Proof.Sigmoid
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.AttMix

open Cert.Kernel16Ideal Cert.Kernel16Ideal.Gen Cert.Swiglu Idealize.ShloMosaic Idealize.ShloMosaic.TcCoe Idealize.SL.Sem

variable (m : (ℓ : Loc nD τ sig) → Buf (Elt Ideal) ℓ) (c : Dev nD)

/-- The attention's rows that point `t` stages. -/
def rows (t : Fin cfg0.N) : FVec Ideal S512x512 .f32 := iblk m c 0 t

/-- The weights that point `t` stages. -/
def weightB (t : Fin cfg0.N) : FVec Ideal S1024x512 .bf16 := iblk m c 1 t

/-- The gates' rows that point `t` stages. -/
def gateB (t : Fin cfg0.N) : FVec Ideal S512x2048 .f32 := iblk m c 2 t

/-- The gates' offsets that point `t` stages. -/
def offB (t : Fin cfg0.N) : FVec Ideal S1x2048 .f32 := iblk m c 3 t

/-- The other branch's rows that point `t` stages. -/
def otherB (t : Fin cfg0.N) : FVec Ideal S512x1024 .f32 := iblk m c 4 t

/-- A column of the first gate. -/
def low (k : Fin 1024) : Fin 2048 := ⟨k.val, by omega⟩

/-- A column of the second gate. -/
def high (k : Fin 1024) : Fin 2048 := ⟨1024 + k.val, by omega⟩

/-- A block's product at an entry. -/
def dot (x : FVec Ideal S512x512 .f32) (w : FVec Ideal S1024x512 .bf16) (j : S512x1024.Idx) : EReal :=
  ∑ k : Fin 512, x (ix2 (j 0) k) * w (ix2 (j 1) k)

theorem pay1_at (x : FVec Ideal S512x512 .f32) (w : FVec Ideal S1024x512 .bf16) (j : S512x1024.Idx) :
    k0_pay1 (F := Ideal) x w j = dot x w j := by
  unfold k0_pay1 dot
  pointwise

/-- The body's mix at an entry. -/
theorem pay2_at (x : FVec Ideal S512x512 .f32) (w : FVec Ideal S1024x512 .bf16) (a : FVec Ideal S512x1024 .f32) (b : FVec Ideal S1x1024 .f32)
    (d : FVec Ideal S512x1024 .f32) (e : FVec Ideal S1x1024 .f32) (s : FVec Ideal S512x1024 .f32) (j : S512x1024.Idx) :
    k0_pay2 (F := Ideal) x w a b d e s j
      = (sigma (a j + b (ix2 0 (j 1))) * s j + sigma (d j + e (ix2 0 (j 1))) * dot x w j : EReal) := by
  unfold k0_pay2
  rw [← sigmoid_eq, ← sigmoid_eq, ← half_word, ← pay1_at x w j]
  pointwise

theorem product_at (x : FVec Ideal S512x512 .f32) (w : FVec Ideal S1024x512 .bf16) (a : FVec Ideal S512x2048 .f32)
    (b : FVec Ideal S1x2048 .f32) (s : FVec Ideal S512x1024 .f32) (j : S512x1024.Idx) : out0_5 (F := Ideal) x w a b s j = dot x w j := by
  frame_out
  exact pay1_at x w j

theorem mix_at (x : FVec Ideal S512x512 .f32) (w : FVec Ideal S1024x512 .bf16) (a : FVec Ideal S512x2048 .f32)
    (b : FVec Ideal S1x2048 .f32) (s : FVec Ideal S512x1024 .f32) (j : S512x1024.Idx) :
    out0_6 (F := Ideal) x w a b s j
      = (sigma (a (ix2 (j 0) (low (j 1))) + b (ix2 0 (low (j 1)))) * s j
        + sigma (a (ix2 (j 0) (high (j 1))) + b (ix2 0 (high (j 1)))) * dot x w j : EReal) := by
  frame_out
  refine (pay2_at x w _ _ _ _ s j).trans ?_
  refine congrArg₂ (· + ·) (congrArg₂ (· * ·) (congrArg sigma (congrArg₂ (· + ·) ?_ ?_)) rfl)
    (congrArg₂ (· * ·) (congrArg sigma (congrArg₂ (· + ·) ?_ ?_)) rfl)
  all_goals exact View.ld_unit_apply_of _ _ _ _ _ _ (by intro a; fin_cases a <;> simp [low, high])

/-- Which blocks the windows of a point are at. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] := by
  decide +kernel

/-- The attention's output, as launched. -/
def attended : FVec Ideal S8192x512 .f32 := m ((c : Thread nD τ).loc main_arg0)

/-- The weights, as launched. -/
def weights : FVec Ideal S1024x512 .bf16 := m ((c : Thread nD τ).loc main_arg1)

/-- The gates before the logistic, as launched. -/
def gates : FVec Ideal S8192x2048 .f32 := m ((c : Thread nD τ).loc main_arg2)

/-- The gates' offsets, as launched. -/
def offsets : FVec Ideal S1x2048 .f32 := m ((c : Thread nD τ).loc main_arg3)

/-- The other branch, as launched. -/
def other : FVec Ideal S8192x1024 .f32 := m ((c : Thread nD τ).loc main_arg4)

/-- The product of whole arrays. -/
def product (x : FVec Ideal S8192x512 .f32) (w : FVec Ideal S1024x512 .bf16) : FVec Ideal S8192x1024 .f32 := fun i =>
  (∑ k : Fin 512, x (ix2 (i 0) k) * w (ix2 (i 1) k) : EReal)

/-- Two branches, mixed by their gates. -/
def mix (a : FVec Ideal S8192x2048 .f32) (b : FVec Ideal S1x2048 .f32) (s p : FVec Ideal S8192x1024 .f32) : FVec Ideal S8192x1024 .bf16 :=
  fun i => (sigma (a (ix2 (i 0) (low (i 1))) + b (ix2 0 (low (i 1)))) * s i
    + sigma (a (ix2 (i 0) (high (i 1))) + b (ix2 0 (high (i 1)))) * p i : EReal)

/-- A block's product is the whole one's, where the block is. -/
theorem block (t : Fin cfg0.N) (y : S512x1024.Idx) (i : S8192x1024.Idx) (h0 : (i 0).val = t.val * 512 + (y 0).val)
    (h1 : (i 1).val = (y 1).val) : dot (rows m c t) (weightB m c t) y = product (attended m c) (weights m c) i := by
  obtain ⟨a0, a1, -⟩ := idx t
  unfold dot product
  refine Finset.sum_congr rfl fun k _ => congrArg₂ (· * ·) ?_ ?_
  · unfold rows attended
    blk_ext [iblk, V, a0]
  · unfold weightB weights
    blk_ext [iblk, V, a1]

theorem gate_block (t : Fin cfg0.N) (y : S512x2048.Idx) (i : S8192x2048.Idx) (h0 : (i 0).val = t.val * 512 + (y 0).val)
    (h1 : (i 1).val = (y 1).val) : gateB m c t y = gates m c i := by
  obtain ⟨-, -, a2, -⟩ := idx t
  unfold gateB gates
  blk_ext [iblk, V, a2]

theorem off_block (t : Fin cfg0.N) (y : S1x2048.Idx) (i : S1x2048.Idx) (h1 : (i 1).val = (y 1).val) : offB m c t y = offsets m c i := by
  obtain ⟨-, -, -, a3, -⟩ := idx t
  unfold offB offsets
  blk_ext [iblk, V, a3]

theorem other_block (t : Fin cfg0.N) (y : S512x1024.Idx) (i : S8192x1024.Idx) (h0 : (i 0).val = t.val * 512 + (y 0).val)
    (h1 : (i 1).val = (y 1).val) : otherB m c t y = other m c i := by
  obtain ⟨-, -, -, -, a4, -⟩ := idx t
  unfold otherB other
  blk_ext [iblk, V, a4]

theorem product_final : (dats m 0 c).arrAt 5 cfg0.N = product (attended m c) (weights m c) := by
  refine (dats m 0 c).arrAt_eq_of_covers 5 _ (by decide +kernel) fun t hf y => ?_
  blk_simp
  rw [after0_5]
  refine (product_at (rows m c t) (weightB m c t) (gateB m c t) (offB m c t) (otherB m c t) y).trans (block m c t y _ ?_ ?_)
  all_goals blk_simp [(idx t).2.2.2.2.2.1]

theorem mix_final : (dats m 0 c).arrAt 6 cfg0.N = mix (gates m c) (offsets m c) (other m c) (product (attended m c) (weights m c)) := by
  refine (dats m 0 c).arrAt_eq_of_covers 6 _ (by decide +kernel) fun t hf y => ?_
  blk_simp
  rw [after0_6]
  refine (mix_at (rows m c t) (weightB m c t) (gateB m c t) (offB m c t) (otherB m c t) y).trans ?_
  unfold mix
  rw [block m c t y _ ?_ ?_, other_block m c t y _ ?_ ?_, gate_block m c t _ _ ?_ ?_, gate_block m c t _ _ ?_ ?_, off_block m c t _ _ ?_,
    off_block m c t _ _ ?_]
  all_goals blk_simp [(idx t).2.2.2.2.2.2, low, high]

/-- The reference's product. -/
theorem reference_product (x : FVec Ideal S8192x512 .f32) (y : FVec Ideal S1024x512 .bf16) :
    Host.dotGeneral Cert.Reference16Ideal.dot_S8192x512_S512x1024_S8192x1024_1_0_0_1_n_n none x (transpose Cert.Reference16Ideal.S512x1024 [1, 0] (extf .f32 y Cert.Reference16Ideal.Gen.bitsLt_bf16_f32) Cert.Reference16Ideal.Gen.transposes_S1024x512_S512x1024_1_0)
      = product x y := by
  funext i
  unfold product
  pointwise

/-- The reference's mix, with any second branch. -/
theorem reference_mix (z : FVec Ideal S8192x2048 .f32) (w : FVec Ideal S1x2048 .f32) (u p : FVec Ideal S8192x1024 .f32) :
    truncf .bf16 (addf (mulf (extractStridedSlice Cert.Reference16Ideal.S8192x1024 ![0, 0] (Host.divf (broadcastInDim Cert.Reference16Ideal.S8192x2048 ![] Cert.Reference16Ideal.Gen.bcast_S_S8192x2048 (constant Cert.Reference16Ideal.S_ .f32 0x3F800000#32)) (addf (broadcastInDim Cert.Reference16Ideal.S8192x2048 ![] Cert.Reference16Ideal.Gen.bcast_S_S8192x2048 (constant Cert.Reference16Ideal.S_ .f32 0x3F800000#32)) (Host.exp (Host.negf (addf z (broadcastInDim Cert.Reference16Ideal.S8192x2048 ![0, 1] Cert.Reference16Ideal.Gen.bcast_S1x2048_S8192x2048_0_1 w)))))) Cert.Reference16Ideal.Gen.slices_S8192x2048_S8192x1024_0_0) u) (mulf (extractStridedSlice Cert.Reference16Ideal.S8192x1024 ![0, 1024] (Host.divf (broadcastInDim Cert.Reference16Ideal.S8192x2048 ![] Cert.Reference16Ideal.Gen.bcast_S_S8192x2048 (constant Cert.Reference16Ideal.S_ .f32 0x3F800000#32)) (addf (broadcastInDim Cert.Reference16Ideal.S8192x2048 ![] Cert.Reference16Ideal.Gen.bcast_S_S8192x2048 (constant Cert.Reference16Ideal.S_ .f32 0x3F800000#32)) (Host.exp (Host.negf (addf z (broadcastInDim Cert.Reference16Ideal.S8192x2048 ![0, 1] Cert.Reference16Ideal.Gen.bcast_S1x2048_S8192x2048_0_1 w)))))) Cert.Reference16Ideal.Gen.slices_S8192x2048_S8192x1024_0_1024) p)) Cert.Reference16Ideal.Gen.bitsLt_bf16_f32
      = mix z w u p := by
  funext i
  unfold mix sigma low high
  rw [← one_word]
  pointwise

/-- The version's call returns what the reference does. -/
theorem algebraic : algebraic_Kernel16Ideal_Reference16Ideal (hKernel16Ideal := Cert.Kernel16Ideal.Gen.facts)
    (hReference16Ideal := Cert.Reference16Ideal.Gen.facts) := by
  intro m g m' g' _ hm
  refine ⟨fun c => product (attended m c) (weights m c),
    fun c => mix (gates m c) (offsets m c) (other m c) (product (attended m c) (weights m c)),
    (θ_run _ _ _).mono (fun r h c => ⟨(h c).1.trans (product_final m c), (h c).2.1.trans (mix_final m c), (h c).2.2⟩)
      (Cert.Kernel16Ideal.Value.run_blocks m g), ?_⟩
  refine (θ_run _ _ _).mono (fun r h c => ⟨(h c).1.trans ?_, (h c).2.1.trans ?_, (h c).2.2⟩) (Cert.Reference16Ideal.Value.run m' g')
  all_goals obtain ⟨e0, e1, e2, e3, e4⟩ := hm c
  · rw [e0, e1]
    exact reference_product _ _
  · rw [e0, e1, e2, e3, e4]
    refine (reference_mix _ _ _ _).trans ?_
    exact congrArg (mix _ _ _) (reference_product _ _)

/-- The reference's program ends with its arguments untouched. -/
theorem reference_frame : quiescent_Reference16Ideal (hReference16Ideal := Cert.Reference16Ideal.Gen.facts) := fun m ρ _ =>
  (θ_run _ _ _).mono (fun r h => ⟨fun c => (h c).2.2, sem_eq_zero_of_no_sems (by decide) r.2⟩)
    (Cert.Reference16Ideal.Value.run (F := Ideal) m ρ)

end Cert.Proof.AttMix

end
-- ==== Proof.Norm.lean ====
/- The normalisation by the root mean square: the factor of a row of 1024 entries, over the extended reals. -/
module

public import Idealize.ShloMosaic.Lib.Pointwise

@[expose] public section

noncomputable section

namespace Cert.Norm

open Idealize.ShloMosaic

/-- The mean of a row's squares, and the small number added to it. -/
def meanSq (row : Fin 1024 → EReal) : EReal :=
  Ideal.div (∑ k, row k * row k) (Ideal.ofBits .f32 0x44800000#32) + Ideal.ofBits .f32 0x358637BD#32

/-- The factor that a row is multiplied by. -/
def scale (row : Fin 1024 → EReal) : EReal := Ideal.rsqrt (meanSq row)

end Cert.Norm

end
-- ==== Proof.MixNorm.lean ====
/- The mixer's output projection with its residual, and the norm after it: the version's one call computes both, block by block. -/
module

public import proofs.«01_k».proof.Defs
public import proofs.«01_k».proof.Proof.Norm
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.MixNorm

open Cert.Kernel17Ideal Cert.Kernel17Ideal.Gen Cert.Norm Idealize.ShloMosaic Idealize.ShloMosaic.TcCoe Idealize.SL.Sem

variable (m : (ℓ : Loc nD τ sig) → Buf (Elt Ideal) ℓ) (c : Dev nD)

/-- The rows of the mixed branches that point `t` stages. -/
def rows (t : Fin cfg0.N) : FVec Ideal S1024x1024 .bf16 := iblk m c 0 t

/-- The weights that point `t` stages. -/
def weightB (t : Fin cfg0.N) : FVec Ideal S1024x1024 .bf16 := iblk m c 1 t

/-- The residual's rows that point `t` stages. -/
def resB (t : Fin cfg0.N) : FVec Ideal S1024x1024 .f32 := iblk m c 2 t

/-- The norm's weights that point `t` stages. -/
def normB (t : Fin cfg0.N) : FVec Ideal S1x1024 .f32 := iblk m c 3 t

/-- The residual and a block's product, at an entry. -/
def added (x w : FVec Ideal S1024x1024 .bf16) (r : FVec Ideal S1024x1024 .f32) (j : S1024x1024.Idx) : EReal :=
  r j + ∑ k : Fin 1024, x (ix2 (j 0) k) * w (ix2 k (j 1))

theorem pay1_at (x w : FVec Ideal S1024x1024 .bf16) (r : FVec Ideal S1024x1024 .f32) (j : S1024x1024.Idx) :
    k0_pay1 (F := Ideal) r x w j = added x w r j := by
  unfold k0_pay1 added
  pointwise

/-- The body's norm at an entry, from the entries of its row. -/
theorem pay2_at (x w : FVec Ideal S1024x1024 .bf16) (r : FVec Ideal S1024x1024 .f32) (g : FVec Ideal S1x1024 .f32) (j : S1024x1024.Idx) :
    k0_pay2 (F := Ideal) r x w g j
      = ((k0_pay1 (F := Ideal) r x w j * scale fun k => k0_pay1 (F := Ideal) r x w (ix2 (j 0) k)) * g (ix2 0 (j 1)) : EReal) := by
  unfold k0_pay2
  generalize k0_pay1 (F := Ideal) r x w = p
  unfold scale meanSq
  pointwise

theorem sum_at (x w : FVec Ideal S1024x1024 .bf16) (r : FVec Ideal S1024x1024 .f32) (g : FVec Ideal S1x1024 .f32) (j : S1024x1024.Idx) :
    out0_4 (F := Ideal) x w r g j = added x w r j := by
  frame_out
  exact pay1_at x w r j

theorem norm_at (x w : FVec Ideal S1024x1024 .bf16) (r : FVec Ideal S1024x1024 .f32) (g : FVec Ideal S1x1024 .f32) (j : S1024x1024.Idx) :
    out0_5 (F := Ideal) x w r g j = ((added x w r j * scale fun k => added x w r (ix2 (j 0) k)) * g (ix2 0 (j 1)) : EReal) := by
  frame_out
  refine (pay2_at x w r g j).trans ?_
  simp only [pay1_at]

/-- Which blocks the windows of a point are at. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by decide +kernel

/-- The mixed branches, as launched. -/
def mixed : FVec Ideal S8192x1024 .bf16 := m ((c : Thread nD τ).loc main_arg0)

/-- The weights, as launched. -/
def weights : FVec Ideal S1024x1024 .bf16 := m ((c : Thread nD τ).loc main_arg1)

/-- The residual, as launched. -/
def residual : FVec Ideal S8192x1024 .f32 := m ((c : Thread nD τ).loc main_arg2)

/-- The norm's weights, as launched. -/
def normW : FVec Ideal S1x1024 .f32 := m ((c : Thread nD τ).loc main_arg3)

/-- The residual and the product of whole arrays. -/
def stream (x : FVec Ideal S8192x1024 .bf16) (w : FVec Ideal S1024x1024 .bf16) (r : FVec Ideal S8192x1024 .f32) :
    FVec Ideal S8192x1024 .f32 := fun i => (r i + ∑ k : Fin 1024, x (ix2 (i 0) k) * w (ix2 k (i 1)) : EReal)

/-- The norm of an array's rows. -/
def normed (p : FVec Ideal S8192x1024 .f32) (g : FVec Ideal S1x1024 .f32) : FVec Ideal S8192x1024 .bf16 := fun i =>
  ((p i * scale fun k => p (ix2 (i 0) k)) * g (ix2 0 (i 1)) : EReal)

/-- A block's sum is the whole one's, where the block is. -/
theorem block (t : Fin cfg0.N) (y : S1024x1024.Idx) (i : S8192x1024.Idx) (h0 : (i 0).val = t.val * 1024 + (y 0).val)
    (h1 : (i 1).val = (y 1).val) :
    added (rows m c t) (weightB m c t) (resB m c t) y = stream (mixed m c) (weights m c) (residual m c) i := by
  obtain ⟨a0, a1, a2, -⟩ := idx t
  unfold added stream
  refine congrArg₂ (· + ·) ?_ (Finset.sum_congr rfl fun k _ => congrArg₂ (· * ·) ?_ ?_)
  · unfold resB residual
    blk_ext [iblk, V, a2]
  · unfold rows mixed
    blk_ext [iblk, V, a0]
  · unfold weightB weights
    blk_ext [iblk, V, a1]

theorem norm_block (t : Fin cfg0.N) (y : S1024x1024.Idx) (i : S8192x1024.Idx) (h1 : (i 1).val = (y 1).val) :
    normB m c t (ix2 0 (y 1)) = normW m c (ix2 0 (i 1)) := by
  obtain ⟨-, -, -, a3, -⟩ := idx t
  unfold normB normW
  blk_ext [iblk, V, a3]

theorem sum_final : (dats m 0 c).arrAt 4 cfg0.N = stream (mixed m c) (weights m c) (residual m c) := by
  refine (dats m 0 c).arrAt_eq_of_covers 4 _ (by decide +kernel) fun t hf y => ?_
  blk_simp
  rw [after0_4]
  refine (sum_at (rows m c t) (weightB m c t) (resB m c t) (normB m c t) y).trans (block m c t y _ ?_ ?_)
  all_goals blk_simp [(idx t).2.2.2.2.1]

theorem norm_final : (dats m 0 c).arrAt 5 cfg0.N = normed (stream (mixed m c) (weights m c) (residual m c)) (normW m c) := by
  refine (dats m 0 c).arrAt_eq_of_covers 5 _ (by decide +kernel) fun t hf y => ?_
  blk_simp
  rw [after0_5]
  refine (norm_at (rows m c t) (weightB m c t) (resB m c t) (normB m c t) y).trans ?_
  unfold normed
  refine congrArg₂ (· * ·) (congrArg₂ (· * ·) (block m c t y _ ?_ ?_) (congrArg scale (funext fun k => block m c t _ _ ?_ ?_)))
    (norm_block m c t y _ ?_)
  all_goals blk_simp [(idx t).2.2.2.2.2]

/-- The reference's sum. -/
theorem reference_sum (x : FVec Ideal S8192x1024 .bf16) (y : FVec Ideal S1024x1024 .bf16) (z : FVec Ideal S8192x1024 .f32) :
    addf z (Host.dotGeneral Cert.Reference17Ideal.dot_S8192x1024_S1024x1024_S8192x1024_1_0_0_1_n_n none (extf .f32 x Cert.Reference17Ideal.Gen.bitsLt_bf16_f32) (extf .f32 y Cert.Reference17Ideal.Gen.bitsLt_bf16_f32))
      = stream x y z := by
  funext i
  unfold stream
  pointwise

/-- The reference's norm, of any array. -/
theorem reference_norm (p : FVec Ideal S8192x1024 .f32) (w : FVec Ideal S1x1024 .f32) :
    truncf .bf16 (mulf (mulf p (broadcastInDim Cert.Reference17Ideal.S8192x1024 ![0, 1] Cert.Reference17Ideal.Gen.bcast_S8192x1_S8192x1024_0_1 (Host.rsqrt (addf (Host.divf (broadcastInDim Cert.Reference17Ideal.S8192x1 ![0] Cert.Reference17Ideal.Gen.bcast_S8192_S8192x1_0 (Host.reduceAdd (mulf p p) (constant Cert.Reference17Ideal.S_ .f32 0x00000000#32) Cert.Reference17Ideal.Gen.reducesTo_S8192x1024_S8192_d1 Cert.Reference17Ideal.Gen.h_S_)) (broadcastInDim Cert.Reference17Ideal.S8192x1 ![] Cert.Reference17Ideal.Gen.bcast_S_S8192x1 (constant Cert.Reference17Ideal.S_ .f32 0x44800000#32))) (broadcastInDim Cert.Reference17Ideal.S8192x1 ![] Cert.Reference17Ideal.Gen.bcast_S_S8192x1 (constant Cert.Reference17Ideal.S_ .f32 0x358637BD#32)))))) (broadcastInDim Cert.Reference17Ideal.S8192x1024 ![0, 1] Cert.Reference17Ideal.Gen.bcast_S1x1024_S8192x1024_0_1 w)) Cert.Reference17Ideal.Gen.bitsLt_bf16_f32
      = normed p w := by
  funext i
  unfold normed scale meanSq
  pointwise

/-- The version's call returns what the reference does. -/
theorem algebraic : algebraic_Kernel17Ideal_Reference17Ideal (hKernel17Ideal := Cert.Kernel17Ideal.Gen.facts)
    (hReference17Ideal := Cert.Reference17Ideal.Gen.facts) := by
  intro m g m' g' _ hm
  refine ⟨fun c => stream (mixed m c) (weights m c) (residual m c),
    fun c => normed (stream (mixed m c) (weights m c) (residual m c)) (normW m c),
    (θ_run _ _ _).mono (fun r h c => ⟨(h c).1.trans (sum_final m c), (h c).2.1.trans (norm_final m c), (h c).2.2⟩)
      (Cert.Kernel17Ideal.Value.run_blocks m g), ?_⟩
  refine (θ_run _ _ _).mono (fun r h c => ⟨(h c).1.trans ?_, (h c).2.1.trans ?_, (h c).2.2⟩) (Cert.Reference17Ideal.Value.run m' g')
  all_goals obtain ⟨e0, e1, e2, e3⟩ := hm c
  · rw [e0, e1, e2]
    exact reference_sum _ _ _
  · rw [e0, e1, e2, e3]
    refine (reference_norm _ _).trans ?_
    exact congrArg (fun p => normed p _) (reference_sum _ _ _)

/-- The reference's program ends with its arguments untouched. -/
theorem reference_frame : quiescent_Reference17Ideal (hReference17Ideal := Cert.Reference17Ideal.Gen.facts) := fun m ρ _ =>
  (θ_run _ _ _).mono (fun r h => ⟨fun c => (h c).2.2, sem_eq_zero_of_no_sems (by decide) r.2⟩)
    (Cert.Reference17Ideal.Value.run (F := Ideal) m ρ)

end Cert.Proof.MixNorm

end
-- ==== Proof.NormReal.lean ====
/- The derivative of the normalisation by the root mean square, at an entry of a row: the form the version computes and the form
   the reference takes agree over the reals. -/
module

public import proofs.«01_k».proof.Proof.Norm
public import proofs.«01_k».proof.Proof.Real

@[expose] public section

noncomputable section

namespace Cert.Norm

open Idealize.ShloMosaic

/-- The stream's gradient at an entry of a row, as the version computes it: `z`, `d` and `g` are the row of the stream, of the norm's
    cotangent and of the norm's weights; `u`, `x`, `p` and `w` are the entry's residual cotangent, stream, cotangent and weight. -/
def entry (z d g : Fin 1024 → EReal) (u x p w : EReal) : EReal :=
  u + scale z * (p * w - (x * scale z) * Ideal.div (∑ k, (d k * g k) * (z k * scale z)) (Ideal.ofBits .f32 0x44800000#32))

/-- What the reference adds twice: the derivative by the mean of the squares. -/
def bump (z d g : Fin 1024 → EReal) (a : EReal) : EReal :=
  Ideal.div ((∑ k, z k * (d k * g k)) * (Ideal.ofBits .f32 0xBF000000#32 * Ideal.div (Ideal.rsqrt a) a)) (Ideal.ofBits .f32 0x44800000#32)

/-- The stream's gradient at an entry of a row, as the reference takes it, from the row's mean square `a`. -/
def entry' (z d g : Fin 1024 → EReal) (a u x p w : EReal) : EReal :=
  ((u + (p * w) * Ideal.rsqrt a) + x * bump z d g a) + bump z d g a * x

theorem width_word : Ideal.ofBits .f32 0x44800000#32 = ((1024 : ℝ) : EReal) := by
  have h : (8388608 : ℝ) * (2 ^ 13)⁻¹ = 1024 := by norm_num
  simp [Ideal.ofBits, Ideal.ieee, -EReal.coe_mul]
  exact_mod_cast h

theorem minus_half_word : Ideal.ofBits .f32 0xBF000000#32 = ((-(1 / 2) : ℝ) : EReal) := by
  have h : (8388608 : ℝ) * (2 ^ 24)⁻¹ = 2⁻¹ := by norm_num
  simp [Ideal.ofBits, Ideal.ieee, -EReal.coe_mul]
  exact_mod_cast h

/-- The small number added to the mean is a positive real. -/
theorem eps_word : ∃ e : ℝ, 0 < e ∧ Ideal.ofBits .f32 0x358637BD#32 = (e : EReal) := by
  refine ⟨8796093 * (2 ^ 43)⁻¹, by norm_num, ?_⟩
  simp [Ideal.ofBits, Ideal.ieee, -EReal.coe_mul]

/-- The mean square of a row of reals is a positive real, and its inverse square root is the real one. -/
theorem meanSq_real (z : Fin 1024 → ℝ) : ∃ a r : ℝ, a ≠ 0 ∧ r * r * a = 1 ∧ meanSq (fun k => (z k : EReal)) = (a : EReal)
    ∧ Ideal.rsqrt (a : EReal) = (r : EReal) := by
  obtain ⟨e, he, hw⟩ := eps_word
  have hs : 0 ≤ ∑ k, z k * z k := Finset.sum_nonneg fun k _ => mul_self_nonneg _
  have ha : 0 < (∑ k, z k * z k) / 1024 + e := by positivity
  refine ⟨(∑ k, z k * z k) / 1024 + e, (Real.sqrt ((∑ k, z k * z k) / 1024 + e))⁻¹, ha.ne', ?_, ?_, ?_⟩
  · rw [← mul_inv, Real.mul_self_sqrt ha.le, inv_mul_cancel₀ ha.ne']
  · unfold meanSq
    rw [hw, width_word, EReal.coe_add, ← Cert.Att.coe_div (by norm_num), ← Cert.Att.coe_sum]
    simp only [EReal.coe_mul]
  · rw [Ideal.rsqrt_coe, if_neg (not_lt.mpr ha.le), if_neg ha.ne']

/-- The identity over the reals. -/
theorem real_eq (z d g : Fin 1024 → ℝ) (u x p w a r : ℝ) (ha : a ≠ 0) (hr : r * r * a = 1) :
    ((u + (p * w) * r) + x * ((∑ k, z k * (d k * g k)) * (-(1 / 2) * (r / a)) / 1024))
        + ((∑ k, z k * (d k * g k)) * (-(1 / 2) * (r / a)) / 1024) * x
      = u + r * (p * w - (x * r) * ((∑ k, (d k * g k) * (z k * r)) / 1024)) := by
  have h : r / a = r * r * r := by
    rw [div_eq_iff ha]
    linear_combination (-r) * hr
  have hsum : ∑ k, (d k * g k) * (z k * r) = (∑ k, z k * (d k * g k)) * r := by
    rw [Finset.sum_mul]
    exact Finset.sum_congr rfl fun k _ => by ring
  rw [h, hsum]
  ring

/-- The two forms agree over the reals. -/
theorem entry_eq (z d g : Fin 1024 → ℝ) (u x p w : ℝ) :
    entry' (fun k => (z k : EReal)) (fun k => (d k : EReal)) (fun k => (g k : EReal)) (meanSq fun k => (z k : EReal)) u x p w
      = entry (fun k => (z k : EReal)) (fun k => (d k : EReal)) (fun k => (g k : EReal)) u x p w := by
  obtain ⟨a, r, ha, hr, hm, hs⟩ := meanSq_real z
  have h := congrArg (fun q : ℝ => (q : EReal)) (real_eq z d g u x p w a r ha hr)
  unfold entry' entry bump scale
  rw [hm, hs, width_word, minus_half_word, Cert.Att.coe_div ha]
  simp only [← EReal.coe_mul, Cert.Att.coe_sum, Cert.Att.coe_div (show (1024 : ℝ) ≠ 0 by norm_num), ← EReal.coe_add, ← EReal.coe_sub]
  exact h

end Cert.Norm

end
-- ==== Proof.NormBwd.lean ====
/- The gradient through the two products of the feed-forward and the norm before them: the version's one call computes the gradient of
   the stream, block by block, and adds up the gradient of the norm's weights in a result that is carried from grid point to grid
   point; over the reals they are the derivative that the reference takes. -/
module

public import proofs.«01_k».proof.Defs
public import proofs.«01_k».proof.Proof.NormReal
public import proofs.«01_k».proof.Proof.DownDx
public import proofs.«01_k».proof.Proof.Gen.Pre_finite_norm
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.NormBwd

open Cert.Kernel18Ideal Cert.Kernel18Ideal.Gen Cert.Norm Idealize.ShloMosaic Idealize.ShloMosaic.TcCoe Idealize.SL.Sem

variable (m : (ℓ : Loc nD τ sig) → Buf (Elt Ideal) ℓ) (c : Dev nD)

/-- The rows of the second product's cotangent that point `t` stages. -/
def upB (t : Fin cfg0.N) : FVec Ideal S256x2816 .bf16 := iblk m c 0 t

/-- The second product's weights that point `t` stages. -/
def upWB (t : Fin cfg0.N) : FVec Ideal S2816x1024 .bf16 := iblk m c 1 t

/-- The stream's rows that point `t` stages. -/
def rows (t : Fin cfg0.N) : FVec Ideal S256x1024 .f32 := iblk m c 2 t

/-- The norm's weights that point `t` stages. -/
def normB (t : Fin cfg0.N) : FVec Ideal S1x1024 .f32 := iblk m c 3 t

/-- The residual's cotangent that point `t` stages. -/
def resB (t : Fin cfg0.N) : FVec Ideal S256x1024 .f32 := iblk m c 4 t

/-- The rows of the gate's cotangent that point `t` stages. -/
def gateB (t : Fin cfg0.N) : FVec Ideal S256x2816 .bf16 := iblk m c 5 t

/-- The gate's weights that point `t` stages. -/
def gateWB (t : Fin cfg0.N) : FVec Ideal S2816x1024 .bf16 := iblk m c 6 t

/-- The norm's cotangent in a block: the sum of two products. -/
def dots (x : FVec Ideal S256x2816 .bf16) (y : FVec Ideal S2816x1024 .bf16) (v : FVec Ideal S256x2816 .bf16)
    (t : FVec Ideal S2816x1024 .bf16) (j : S256x1024.Idx) : EReal :=
  ∑ k : Fin 2816, x (ix2 (j 0) k) * y (ix2 k (j 1)) + ∑ k : Fin 2816, v (ix2 (j 0) k) * t (ix2 k (j 1))

theorem pay2_at (x : FVec Ideal S256x2816 .bf16) (y : FVec Ideal S2816x1024 .bf16) (v : FVec Ideal S256x2816 .bf16)
    (t : FVec Ideal S2816x1024 .bf16) (j : S256x1024.Idx) : k0_pay2 (F := Ideal) x y v t j = dots x y v t j := by
  unfold k0_pay2 dots
  pointwise

theorem pay3_at (z : FVec Ideal S256x1024 .f32) (j : S256x1.Idx) :
    k0_pay3 (F := Ideal) z j = scale fun k => z (ix2 (j 0) k) := by
  unfold k0_pay3 scale meanSq
  pointwise

theorem pay4_at (z : FVec Ideal S256x1024 .f32) (j : S256x1024.Idx) :
    k0_pay4 (F := Ideal) z j = (z j * scale fun k => z (ix2 (j 0) k) : EReal) := by
  have h3 : k0_pay3 (F := Ideal) z (ix2 (j 0) 0) = scale fun k => z (ix2 (j 0) k) := pay3_at z _
  rw [← h3]
  unfold k0_pay4
  generalize k0_pay3 (F := Ideal) z = s
  pointwise

/-- The stream's gradient in a block, at an entry. -/
theorem pay5_at (x : FVec Ideal S256x2816 .bf16) (y : FVec Ideal S2816x1024 .bf16) (v : FVec Ideal S256x2816 .bf16)
    (t : FVec Ideal S2816x1024 .bf16) (z : FVec Ideal S256x1024 .f32) (g : FVec Ideal S1x1024 .f32) (u : FVec Ideal S256x1024 .f32)
    (j : S256x1024.Idx) :
    k0_pay5 (F := Ideal) x y v t z g u j
      = entry (fun k => z (ix2 (j 0) k)) (fun k => dots x y v t (ix2 (j 0) k)) (fun k => g (ix2 0 k)) (u j) (z j) (dots x y v t j) (g (ix2 0 (j 1))) := by
  unfold entry
  simp only [← pay2_at x y v t]
  have h3 : k0_pay3 (F := Ideal) z (ix2 (j 0) 0) = scale fun k => z (ix2 (j 0) k) := pay3_at z _
  rw [← h3]
  have e (k : Fin 1024) : (z (ix2 (j 0) k) * k0_pay3 (F := Ideal) z (ix2 (j 0) 0) : EReal) = k0_pay4 (F := Ideal) z (ix2 (j 0) k) := by
    rw [pay3_at, pay4_at]
    rfl
  have e' : (z j * k0_pay3 (F := Ideal) z (ix2 (j 0) 0) : EReal) = k0_pay4 (F := Ideal) z j := by
    rw [pay3_at, pay4_at]
    rfl
  simp only [e, e']
  unfold k0_pay5
  generalize k0_pay2 (F := Ideal) x y v t = d
  generalize k0_pay3 (F := Ideal) z = s
  generalize k0_pay4 (F := Ideal) z = h
  pointwise

/-- The body's sum at an entry: the accumulator, and the sum over the block's rows. -/
theorem pay7_at (x : FVec Ideal S256x2816 .bf16) (y : FVec Ideal S2816x1024 .bf16) (v : FVec Ideal S256x2816 .bf16)
    (t : FVec Ideal S2816x1024 .bf16) (z : FVec Ideal S256x1024 .f32) (a : FVec Ideal S1x1024 .f32) (j : S1x1024.Idx) :
    k0_pay7 (F := Ideal) x y v t z a j
      = (a j + ∑ r : Fin 256, dots x y v t (ix2 r (j 1)) * (z (ix2 r (j 1)) * scale fun k => z (ix2 r k)) : EReal) := by
  have e (r : Fin 256) : (z (ix2 r (j 1)) * scale fun k => z (ix2 r k) : EReal) = k0_pay4 (F := Ideal) z (ix2 r (j 1)) := by
    rw [pay4_at]
    rfl
  simp only [e, ← pay2_at x y v t]
  unfold k0_pay7
  generalize k0_pay2 (F := Ideal) x y v t = d
  generalize k0_pay4 (F := Ideal) z = h
  pointwise

/-- A block's gradient of the stream, at an entry. -/
def blockDx (t : Fin cfg0.N) (j : S256x1024.Idx) : EReal :=
  entry (fun k => rows m c t (ix2 (j 0) k)) (fun k => dots (upB m c t) (upWB m c t) (gateB m c t) (gateWB m c t) (ix2 (j 0) k))
    (fun k => normB m c t (ix2 0 k)) (resB m c t j) (rows m c t j) (dots (upB m c t) (upWB m c t) (gateB m c t) (gateWB m c t) j)
    (normB m c t (ix2 0 (j 1)))

/-- What point `t` adds to an entry of the norm weights' gradient. -/
def part (t : Fin cfg0.N) (j : S1x1024.Idx) : EReal :=
  ∑ r : Fin 256, dots (upB m c t) (upWB m c t) (gateB m c t) (gateWB m c t) (ix2 r (j 1))
    * (rows m c t (ix2 r (j 1)) * scale fun k => rows m c t (ix2 r k))

theorem dx_at (t : Fin cfg0.N) (j : S256x1024.Idx) : (outsAt0 m c t.val t.isLt).1 j = blockDx m c t j := by
  by_cases h : t.val % 32 = 0
  · rw [outsAt0_A m c t h]
    frame_out
    exact pay5_at _ _ _ _ _ _ _ j
  · rw [outsAt0_B m c t h]
    frame_out
    exact pay5_at _ _ _ _ _ _ _ j

theorem short_at (t : Fin cfg0.N) (j : S256x1024.Idx) : (outsAt0 m c t.val t.isLt).2.2 j = blockDx m c t j := by
  by_cases h : t.val % 32 = 0
  · rw [outsAt0_A m c t h]
    frame_out
    exact pay5_at _ _ _ _ _ _ _ j
  · rw [outsAt0_B m c t h]
    frame_out
    exact pay5_at _ _ _ _ _ _ _ j

/-- At the first point the result holds that point's part alone. -/
theorem first (t : Fin cfg0.N) (h : t.val % 32 = 0) (j : S1x1024.Idx) :
    (outsAt0 m c t.val t.isLt).2.1 j = (0 : EReal) + part m c t j := by
  rw [outsAt0_A m c t h]
  frame_out
  refine (pay7_at _ _ _ _ _ _ j).trans (congrArg₂ (· + ·) ?_ rfl)
  unfold k0_pay1
  pointwise

/-- At a later point the result holds what the point before left, and this point's part. -/
theorem next (t : Fin cfg0.N) (h : ¬t.val % 32 = 0) (j : S1x1024.Idx) :
    (outsAt0 m c t.val t.isLt).2.1 j
      = ((outsAt0 m c (t.val - 1) (Nat.lt_of_le_of_lt (Nat.sub_le _ _) t.isLt)).2.1 j : EReal) + part m c t j := by
  rw [outsAt0_B m c t h]
  frame_out
  exact pay7_at _ _ _ _ _ _ j

/-- Which blocks the windows of a point are at. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] := by decide +kernel

/-- The second product's cotangent, as launched. -/
def ups : FVec Ideal S8192x2816 .bf16 := m ((c : Thread nD τ).loc main_arg0)

/-- The second product's weights, as launched. -/
def upW : FVec Ideal S2816x1024 .bf16 := m ((c : Thread nD τ).loc main_arg1)

/-- The stream, as launched. -/
def stream : FVec Ideal S8192x1024 .f32 := m ((c : Thread nD τ).loc main_arg2)

/-- The norm's weights, as launched. -/
def normW : FVec Ideal S1x1024 .f32 := m ((c : Thread nD τ).loc main_arg3)

/-- The residual's cotangent, as launched. -/
def residual : FVec Ideal S8192x1024 .f32 := m ((c : Thread nD τ).loc main_arg4)

/-- The gate's cotangent, as launched. -/
def gates : FVec Ideal S8192x2816 .bf16 := m ((c : Thread nD τ).loc main_arg5)

/-- The gate's weights, as launched. -/
def gateW : FVec Ideal S2816x1024 .bf16 := m ((c : Thread nD τ).loc main_arg6)

/-- The norm's cotangent: the sum of two products of whole arrays. -/
def product (x : FVec Ideal S8192x2816 .bf16) (y : FVec Ideal S2816x1024 .bf16) (v : FVec Ideal S8192x2816 .bf16)
    (t : FVec Ideal S2816x1024 .bf16) : FVec Ideal S8192x1024 .f32 := fun i =>
  (∑ k : Fin 2816, x (ix2 (i 0) k) * y (ix2 k (i 1)) + ∑ k : Fin 2816, v (ix2 (i 0) k) * t (ix2 k (i 1)) : EReal)

/-- The stream's gradient from the norm's cotangent, at an entry. -/
def dxEntry (p z : FVec Ideal S8192x1024 .f32) (w : FVec Ideal S1x1024 .f32) (u : FVec Ideal S8192x1024 .f32) (i : S8192x1024.Idx) : EReal :=
  entry (fun k => z (ix2 (i 0) k)) (fun k => p (ix2 (i 0) k)) (fun k => w (ix2 0 k)) (u i) (z i) (p i) (w (ix2 0 (i 1)))

/-- The stream's gradient. -/
def dx (p z : FVec Ideal S8192x1024 .f32) (w : FVec Ideal S1x1024 .f32) (u : FVec Ideal S8192x1024 .f32) :
    FVec Ideal S8192x1024 .f32 := fun i => dxEntry p z w u i

/-- The stream's gradient, rounded. -/
def short (p z : FVec Ideal S8192x1024 .f32) (w : FVec Ideal S1x1024 .f32) (u : FVec Ideal S8192x1024 .f32) :
    FVec Ideal S8192x1024 .bf16 := fun i => dxEntry p z w u i

/-- The gradient of the norm's weights. -/
def dg (p z : FVec Ideal S8192x1024 .f32) : FVec Ideal S1x1024 .f32 := fun i =>
  (∑ r : Fin 8192, p (ix2 r (i 1)) * (z (ix2 r (i 1)) * scale fun k => z (ix2 r k)) : EReal)

/-- The norm's cotangent, of the arrays as launched. -/
def cots : FVec Ideal S8192x1024 .f32 := product (ups m c) (upW m c) (gates m c) (gateW m c)

/-- A block's sum of products is the whole one's, where the block is. -/
theorem dots_block (t : Fin cfg0.N) (y : S256x1024.Idx) (i : S8192x1024.Idx) (h0 : (i 0).val = t.val * 256 + (y 0).val)
    (h1 : (i 1).val = (y 1).val) : dots (upB m c t) (upWB m c t) (gateB m c t) (gateWB m c t) y = cots m c i := by
  obtain ⟨a0, a1, -, -, -, a5, a6, -⟩ := idx t
  unfold dots cots product
  refine congrArg₂ (· + ·) (Finset.sum_congr rfl fun k _ => congrArg₂ (· * ·) ?_ ?_) (Finset.sum_congr rfl fun k _ => congrArg₂ (· * ·) ?_ ?_)
  · unfold upB ups
    blk_ext [iblk, V, a0]
  · unfold upWB upW
    blk_ext [iblk, V, a1]
  · unfold gateB gates
    blk_ext [iblk, V, a5]
  · unfold gateWB gateW
    blk_ext [iblk, V, a6]

theorem rows_block (t : Fin cfg0.N) (y : S256x1024.Idx) (i : S8192x1024.Idx) (h0 : (i 0).val = t.val * 256 + (y 0).val)
    (h1 : (i 1).val = (y 1).val) : rows m c t y = stream m c i := by
  obtain ⟨-, -, a2, -⟩ := idx t
  unfold rows stream
  blk_ext [iblk, V, a2]

theorem norm_block (t : Fin cfg0.N) (y : S1x1024.Idx) (i : S1x1024.Idx) (h1 : (i 1).val = (y 1).val) : normB m c t y = normW m c i := by
  obtain ⟨-, -, -, a3, -⟩ := idx t
  unfold normB normW
  blk_ext [iblk, V, a3]

theorem res_block (t : Fin cfg0.N) (y : S256x1024.Idx) (i : S8192x1024.Idx) (h0 : (i 0).val = t.val * 256 + (y 0).val)
    (h1 : (i 1).val = (y 1).val) : resB m c t y = residual m c i := by
  obtain ⟨-, -, -, -, a4, -⟩ := idx t
  unfold resB residual
  blk_ext [iblk, V, a4]

/-- A block's gradient is the whole one's, where the block is. -/
theorem block (t : Fin cfg0.N) (y : S256x1024.Idx) (i : S8192x1024.Idx) (h0 : (i 0).val = t.val * 256 + (y 0).val)
    (h1 : (i 1).val = (y 1).val) : blockDx m c t y = dxEntry (cots m c) (stream m c) (normW m c) (residual m c) i := by
  unfold blockDx dxEntry
  rw [dots_block m c t y i h0 h1, rows_block m c t y i h0 h1, res_block m c t y i h0 h1, norm_block m c t (ix2 0 (y 1)) (ix2 0 (i 1)) h1]
  congr 1
  · exact funext fun k => rows_block m c t _ _ h0 rfl
  · exact funext fun k => dots_block m c t _ _ h0 rfl
  · exact funext fun k => norm_block m c t _ _ rfl

theorem dx_final : (dats m 0 c).arrAt 7 cfg0.N = dx (cots m c) (stream m c) (normW m c) (residual m c) := by
  refine (dats m 0 c).arrAt_eq_of_covers 7 _ (by decide +kernel) fun t hf y => ?_
  blk_simp
  rw [after0_7]
  refine (dx_at m c t y).trans (block m c t y _ ?_ ?_)
  all_goals blk_simp [(idx t).2.2.2.2.2.2.2.1]

theorem short_final : (dats m 0 c).arrAt 9 cfg0.N = short (cots m c) (stream m c) (normW m c) (residual m c) := by
  refine (dats m 0 c).arrAt_eq_of_covers 9 _ (by decide +kernel) fun t hf y => ?_
  blk_simp
  rw [after0_9]
  refine (short_at m c t y).trans (block m c t y _ ?_ ?_)
  all_goals blk_simp [(idx t).2.2.2.2.2.2.2.2.2]

/-- The points' parts, summed, are the gradient of the norm's weights. -/
theorem parts_sum (t : Fin cfg0.N) (h : t.val % 32 = 31) (j : S1x1024.Idx) (i : S1x1024.Idx) (h1 : (i 1).val = (j 1).val) :
    ∑ s : Fin 32, part m c ⟨32 * (t.val / 32) + s.val, Pipeline.run_point_lt_of_flush t h s⟩ j = dg (cots m c) (stream m c) i := by
  have ht : t.val / 32 = 0 := by
    have : t.val < 32 := t.isLt
    omega
  unfold part dg
  refine Fin.sum_mul_add_congr fun s r hl => ?_
  have h0 : s.val * 256 + r.val = (32 * (t.val / 32) + s.val) * 256 + r.val := by omega
  refine congrArg₂ (· * ·) (dots_block m c _ _ _ h0 h1) (congrArg₂ (· * ·) (rows_block m c _ _ _ h0 h1) (congrArg scale (funext fun k => ?_)))
  exact rows_block m c _ _ _ h0 rfl

theorem dg_final : (dats m 0 c).arrAt 8 cfg0.N = dg (cots m c) (stream m c) := by
  refine (dats m 0 c).arrAt_eq_of_covers 8 _ (by decide +kernel) fun t hf y => ?_
  have h : t.val % 32 = 31 := (flush0_8 t).mp hf
  blk_simp
  rw [after0_8]
  refine (Pipeline.eq_sum_fin_of_reset_step_apply_of_flush (fun n h => (outsAt0 m c n h).2.1) 32 (fun _ => (0 : EReal)) (part m c)
    (first m c) (next m c) t h y).trans ?_
  refine (zero_add _).trans (parts_sum m c t h y _ ?_)
  blk_simp [(idx t).2.2.2.2.2.2.2.2.1]

end Cert.Proof.NormBwd

end
-- ==== Proof.NormBwdRef.lean ====
/- The reference's derivative through the two products of the feed-forward and the norm before them, over real arrays, and the claim
   of the version's call. -/
module

public import proofs.«01_k».proof.Defs
public import proofs.«01_k».proof.Proof.NormBwd
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.NormBwd

open Cert.Kernel18Ideal Cert.Kernel18Ideal.Gen Cert.Norm Idealize.ShloMosaic Idealize.ShloMosaic.TcCoe Idealize.SL.Sem

open Cert.Proof.DownDx (IsReal real_of_short)

/-- A sum of products of real arrays is real. -/
theorem product_real (x : FVec Ideal S8192x2816 .bf16) (y : FVec Ideal S2816x1024 .bf16) (v : FVec Ideal S8192x2816 .bf16)
    (t : FVec Ideal S2816x1024 .bf16) (hx : IsReal x) (hy : IsReal y) (hv : IsReal v) (ht : IsReal t) : IsReal (product x y v t) := by
  intro i
  choose p hp using hx
  choose q hq using hy
  choose r hr using hv
  choose s hs using ht
  refine ⟨∑ k : Fin 2816, p (ix2 (i 0) k) * q (ix2 k (i 1)) + ∑ k : Fin 2816, r (ix2 (i 0) k) * s (ix2 k (i 1)), ?_⟩
  unfold product
  rw [EReal.coe_add, ← Cert.Att.coe_sum, ← Cert.Att.coe_sum]
  exact congrArg₂ (· + ·) (Finset.sum_congr rfl fun k _ => (congrArg₂ (· * ·) (hp _) (hq _)).trans (EReal.coe_mul _ _).symm)
    (Finset.sum_congr rfl fun k _ => (congrArg₂ (· * ·) (hr _) (hs _)).trans (EReal.coe_mul _ _).symm)

/-- The reference's cotangent of the norm. -/
theorem reference_product (x : FVec Ideal S8192x2816 .bf16) (y : FVec Ideal S2816x1024 .bf16) (v : FVec Ideal S8192x2816 .bf16)
    (t : FVec Ideal S2816x1024 .bf16) :
    (addf (Host.dotGeneral Cert.Reference18Ideal.dot_S8192x2816_S1024x2816_S8192x1024_1_1_0_0_n_n none (extf .f32 x Cert.Reference18Ideal.Gen.bitsLt_bf16_f32) (transpose Cert.Reference18Ideal.S1024x2816 [1, 0] (extf .f32 y Cert.Reference18Ideal.Gen.bitsLt_bf16_f32) Cert.Reference18Ideal.Gen.transposes_S2816x1024_S1024x2816_1_0)) (Host.dotGeneral Cert.Reference18Ideal.dot_S8192x2816_S1024x2816_S8192x1024_1_1_0_0_n_n none (extf .f32 v Cert.Reference18Ideal.Gen.bitsLt_bf16_f32) (transpose Cert.Reference18Ideal.S1024x2816 [1, 0] (extf .f32 t Cert.Reference18Ideal.Gen.bitsLt_bf16_f32) Cert.Reference18Ideal.Gen.transposes_S2816x1024_S1024x2816_1_0)))
      = product x y v t := by
  funext i
  unfold product
  pointwise

/-- The reference's column of mean squares. -/
theorem reference_mean (z : FVec Ideal S8192x1024 .f32) :
    (addf (Host.divf (broadcastInDim Cert.Reference18Ideal.S8192x1 ![0] Cert.Reference18Ideal.Gen.bcast_S8192_S8192x1_0 (Host.reduceAdd (mulf z z) (constant Cert.Reference18Ideal.S_ .f32 0x00000000#32) Cert.Reference18Ideal.Gen.reducesTo_S8192x1024_S8192_d1 Cert.Reference18Ideal.Gen.h_S_)) (broadcastInDim Cert.Reference18Ideal.S8192x1 ![] Cert.Reference18Ideal.Gen.bcast_S_S8192x1 (constant Cert.Reference18Ideal.S_ .f32 0x44800000#32))) (broadcastInDim Cert.Reference18Ideal.S8192x1 ![] Cert.Reference18Ideal.Gen.bcast_S_S8192x1 (constant Cert.Reference18Ideal.S_ .f32 0x358637BD#32)))
      = fun i => meanSq fun k => z (ix2 (i 0) k) := by
  funext i
  unfold meanSq
  pointwise

/-- The reference's gradient of the stream, at an entry, from any column of mean squares. -/
theorem reference_entry (p z : FVec Ideal S8192x1024 .f32) (w : FVec Ideal S1x1024 .f32) (u : FVec Ideal S8192x1024 .f32)
    (mm : FVec Ideal Cert.Reference18Ideal.S8192x1 .f32) (i : S8192x1024.Idx) :
    (addf (addf (addf u (mulf (mulf p (broadcastInDim Cert.Reference18Ideal.S8192x1024 ![0, 1] Cert.Reference18Ideal.Gen.bcast_S1x1024_S8192x1024_0_1 w)) (broadcastInDim Cert.Reference18Ideal.S8192x1024 ![0, 1] Cert.Reference18Ideal.Gen.bcast_S8192x1_S8192x1024_0_1 (Host.rsqrt mm)))) (mulf z (broadcastInDim Cert.Reference18Ideal.S8192x1024 ![0] Cert.Reference18Ideal.Gen.bcast_S8192_S8192x1024_0 (Host.reduceAdd (Host.divf (mulf (shapeCast _ (Host.reduceAdd (mulf z (mulf p (broadcastInDim Cert.Reference18Ideal.S8192x1024 ![0, 1] Cert.Reference18Ideal.Gen.bcast_S1x1024_S8192x1024_0_1 w))) (constant Cert.Reference18Ideal.S_ .f32 0x00000000#32) Cert.Reference18Ideal.Gen.reducesTo_S8192x1024_S8192_d1 Cert.Reference18Ideal.Gen.h_S_) Cert.Reference18Ideal.Gen.shapeCasts_S8192_S8192x1) (mulf (broadcastInDim Cert.Reference18Ideal.S8192x1 ![] Cert.Reference18Ideal.Gen.bcast_S_S8192x1 (constant Cert.Reference18Ideal.S_ .f32 0xBF000000#32)) (Host.divf (Host.rsqrt mm) mm))) (broadcastInDim Cert.Reference18Ideal.S8192x1 ![] Cert.Reference18Ideal.Gen.bcast_S_S8192x1 (constant Cert.Reference18Ideal.S_ .f32 0x44800000#32))) (constant Cert.Reference18Ideal.S_ .f32 0x00000000#32) Cert.Reference18Ideal.Gen.reducesTo_S8192x1_S8192_d1 Cert.Reference18Ideal.Gen.h_S_)))) (mulf (broadcastInDim Cert.Reference18Ideal.S8192x1024 ![0] Cert.Reference18Ideal.Gen.bcast_S8192_S8192x1024_0 (Host.reduceAdd (Host.divf (mulf (shapeCast _ (Host.reduceAdd (mulf z (mulf p (broadcastInDim Cert.Reference18Ideal.S8192x1024 ![0, 1] Cert.Reference18Ideal.Gen.bcast_S1x1024_S8192x1024_0_1 w))) (constant Cert.Reference18Ideal.S_ .f32 0x00000000#32) Cert.Reference18Ideal.Gen.reducesTo_S8192x1024_S8192_d1 Cert.Reference18Ideal.Gen.h_S_) Cert.Reference18Ideal.Gen.shapeCasts_S8192_S8192x1) (mulf (broadcastInDim Cert.Reference18Ideal.S8192x1 ![] Cert.Reference18Ideal.Gen.bcast_S_S8192x1 (constant Cert.Reference18Ideal.S_ .f32 0xBF000000#32)) (Host.divf (Host.rsqrt mm) mm))) (broadcastInDim Cert.Reference18Ideal.S8192x1 ![] Cert.Reference18Ideal.Gen.bcast_S_S8192x1 (constant Cert.Reference18Ideal.S_ .f32 0x44800000#32))) (constant Cert.Reference18Ideal.S_ .f32 0x00000000#32) Cert.Reference18Ideal.Gen.reducesTo_S8192x1_S8192_d1 Cert.Reference18Ideal.Gen.h_S_)) z) : FVec Ideal S8192x1024 .f32) i
      = entry' (fun k => z (ix2 (i 0) k)) (fun k => p (ix2 (i 0) k)) (fun k => w (ix2 0 k)) (mm (ix2 (i 0) 0)) (u i) (z i) (p i)
          (w (ix2 0 (i 1))) := by
  unfold entry'
  pointwise
  exact congrArg₂ (· + ·) (congrArg₂ (· + ·) rfl (congrArg₂ (· * ·) rfl (Fin.sum_univ_one _))) (congrArg₂ (· * ·) (Fin.sum_univ_one _) rfl)

/-- The reference's gradient of the stream is the version's, over real arrays. -/
theorem reference_dx (p z : FVec Ideal S8192x1024 .f32) (w : FVec Ideal S1x1024 .f32) (u : FVec Ideal S8192x1024 .f32)
    (hp : IsReal p) (hz : IsReal z) (hw : IsReal w) (hu : IsReal u) (i : S8192x1024.Idx) :
    entry' (fun k => z (ix2 (i 0) k)) (fun k => p (ix2 (i 0) k)) (fun k => w (ix2 0 k)) (meanSq fun k => z (ix2 (i 0) k)) (u i) (z i)
      (p i) (w (ix2 0 (i 1))) = dxEntry p z w u i := by
  choose P hP using hp
  choose Z hZ using hz
  choose W hW using hw
  choose U hU using hu
  unfold dxEntry
  simp only [hP, hZ, hW, hU]
  exact entry_eq (fun k => Z (ix2 (i 0) k)) (fun k => P (ix2 (i 0) k)) (fun k => W (ix2 0 k)) _ _ _ _

/-- The reference's gradient of the norm's weights. -/
theorem reference_dg (p z : FVec Ideal S8192x1024 .f32) :
    shapeCast _ (Host.reduceAdd (mulf (mulf z (broadcastInDim Cert.Reference18Ideal.S8192x1024 ![0, 1] Cert.Reference18Ideal.Gen.bcast_S8192x1_S8192x1024_0_1 (Host.rsqrt (addf (Host.divf (broadcastInDim Cert.Reference18Ideal.S8192x1 ![0] Cert.Reference18Ideal.Gen.bcast_S8192_S8192x1_0 (Host.reduceAdd (mulf z z) (constant Cert.Reference18Ideal.S_ .f32 0x00000000#32) Cert.Reference18Ideal.Gen.reducesTo_S8192x1024_S8192_d1 Cert.Reference18Ideal.Gen.h_S_)) (broadcastInDim Cert.Reference18Ideal.S8192x1 ![] Cert.Reference18Ideal.Gen.bcast_S_S8192x1 (constant Cert.Reference18Ideal.S_ .f32 0x44800000#32))) (broadcastInDim Cert.Reference18Ideal.S8192x1 ![] Cert.Reference18Ideal.Gen.bcast_S_S8192x1 (constant Cert.Reference18Ideal.S_ .f32 0x358637BD#32)))))) p) (constant Cert.Reference18Ideal.S_ .f32 0x00000000#32) Cert.Reference18Ideal.Gen.reducesTo_S8192x1024_S1024_d0 Cert.Reference18Ideal.Gen.h_S_) Cert.Reference18Ideal.Gen.shapeCasts_S1024_S1x1024
      = dg p z := by
  rw [reference_mean]
  funext i
  unfold dg scale
  refine Eq.trans ?_ (Finset.sum_congr rfl fun r _ => mul_comm _ _)
  pointwise

/-- The version's call returns the reference's gradients, over real arguments. -/
theorem algebraic : algebraic_Kernel18Ideal_Reference18Ideal_pre_finite_norm (hKernel18Ideal := Cert.Kernel18Ideal.Gen.facts)
    (hReference18Ideal := Cert.Reference18Ideal.Gen.facts) (hPre_finite_norm := Cert.Pre_finite_norm.Gen.facts) := by
  intro m g m' g' hpre hm
  refine ⟨fun c => dx (cots m c) (stream m c) (normW m c) (residual m c), fun c => dg (cots m c) (stream m c),
    fun c => short (cots m c) (stream m c) (normW m c) (residual m c),
    (θ_run _ _ _).mono (fun r h c => ⟨(h c).1.trans (dx_final m c), (h c).2.1.trans (dg_final m c), (h c).2.2.1.trans (short_final m c),
      (h c).2.2.2⟩) (Cert.Kernel18Ideal.Value.run_blocks m g), ?_⟩
  have H (c : Dev Cert.Kernel18Ideal.nD) (i : S8192x1024.Idx) := by
    obtain ⟨h0, h1, h2, h3, h4, h5, h6⟩ := hpre c
    exact reference_dx (cots m c) (stream m c) (normW m c) (residual m c)
      (product_real _ _ _ _ (fun i => ⟨_, real_of_short _ (congrFun h0 i)⟩) (fun i => ⟨_, real_of_short _ (congrFun h1 i)⟩)
        (fun i => ⟨_, real_of_short _ (congrFun h5 i)⟩) (fun i => ⟨_, real_of_short _ (congrFun h6 i)⟩))
      (fun i => ⟨_, Cert.Att.real_of_test _ (congrFun h2 i)⟩) (fun i => ⟨_, Cert.Att.real_of_test _ (congrFun h3 i)⟩)
      (fun i => ⟨_, Cert.Att.real_of_test _ (congrFun h4 i)⟩) i
  refine (θ_run _ _ _).mono (fun r h c => ⟨(h c).1.trans ?_, (h c).2.1.trans ?_, (h c).2.2.1.trans ?_, (h c).2.2.2⟩)
    (Cert.Reference18Ideal.Value.run m' g')
  all_goals obtain ⟨e0, e1, e2, e3, e4, e5, e6⟩ := hm c
  · unfold Cert.Reference18Ideal.Value.res_main_v49
    rw [e0, e1, e2, e3, e4, e5, e6, reference_mean, reference_product]
    exact funext fun i => (reference_entry _ _ _ _ _ i).trans (H c i)
  · rw [e0, e1, e2, e5, e6, reference_product]
    exact reference_dg _ _
  · unfold Cert.Reference18Ideal.Value.res_main_v50
    rw [e0, e1, e2, e3, e4, e5, e6, reference_mean, reference_product]
    exact funext fun i => (reference_entry _ _ _ _ _ i).trans (H c i)

/-- The reference's program ends with its arguments untouched. -/
theorem reference_frame : quiescent_Reference18Ideal (hReference18Ideal := Cert.Reference18Ideal.Gen.facts) := fun m ρ _ =>
  (θ_run _ _ _).mono (fun r h => ⟨fun c => (h c).2.2.2, sem_eq_zero_of_no_sems (by decide) r.2⟩)
    (Cert.Reference18Ideal.Value.run (F := Ideal) m ρ)

end Cert.Proof.NormBwd

end
-- ==== Proof.LossHead.lean ====
/- The last product, the norm after it and the loss: the version's one call computes, block by block, the stream, the norm's error
   against the target and the stream's gradient, and adds up the loss and the gradient of the norm's weights in results that are
   carried from grid point to grid point. -/
module

public import proofs.«01_k».proof.Defs
public import proofs.«01_k».proof.Proof.NormReal
public import proofs.«01_k».proof.Proof.DownDx
public import proofs.«01_k».proof.Proof.Gen.Pre_finite_norm_head
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.LossHead

open Cert.Kernel19Ideal Cert.Kernel19Ideal.Gen Cert.Norm Idealize.ShloMosaic Idealize.ShloMosaic.TcCoe Idealize.SL.Sem

open Cert.Proof.DownDx (IsReal)

variable (m : (ℓ : Loc nD τ sig) → Buf (Elt Ideal) ℓ) (c : Dev nD)

/-- One part in 1024: what an error is multiplied by. -/
def width' : EReal := Ideal.ofBits .f32 0x3A800000#32

/-- One part in 2048: what a block's sum of squares is multiplied by. -/
def half' : EReal := Ideal.ofBits .f32 0x3A000000#32

/-- The activation's rows that point `t` stages. -/
def actB (t : Fin cfg0.N) : FVec Ideal S512x2816 .bf16 := iblk m c 0 t

/-- The product's weights that point `t` stages. -/
def downB (t : Fin cfg0.N) : FVec Ideal S2816x1024 .bf16 := iblk m c 1 t

/-- The residual's rows that point `t` stages. -/
def resB (t : Fin cfg0.N) : FVec Ideal S512x1024 .f32 := iblk m c 2 t

/-- The norm's weights that point `t` stages. -/
def normB (t : Fin cfg0.N) : FVec Ideal S1x1024 .f32 := iblk m c 3 t

/-- The target's rows that point `t` stages. -/
def goalB (t : Fin cfg0.N) : FVec Ideal S512x1024 .f32 := iblk m c 4 t

/-- The stream in a block: the residual and a product. -/
def streamB (u : FVec Ideal S512x1024 .f32) (x : FVec Ideal S512x2816 .bf16) (y : FVec Ideal S2816x1024 .bf16) :
    FVec Ideal S512x1024 .f32 := fun j => (u j + ∑ k : Fin 2816, x (ix2 (j 0) k) * y (ix2 k (j 1)) : EReal)

/-- The normalised stream in a block. -/
def hatB (z : FVec Ideal S512x1024 .f32) : FVec Ideal S512x1024 .f32 := fun j => (z j * scale fun k => z (ix2 (j 0) k) : EReal)

/-- The error against the target in a block. -/
def errB (z : FVec Ideal S512x1024 .f32) (g : FVec Ideal S1x1024 .f32) (a : FVec Ideal S512x1024 .f32) : FVec Ideal S512x1024 .f32 :=
  fun j => (z j * (scale fun k => z (ix2 (j 0) k)) * g (ix2 0 (j 1)) - a j : EReal)

theorem pay7_eq (u : FVec Ideal S512x1024 .f32) (x : FVec Ideal S512x2816 .bf16) (y : FVec Ideal S2816x1024 .bf16) :
    k0_pay7 (F := Ideal) u x y = streamB u x y := by
  funext j
  unfold k0_pay7 streamB
  pointwise

theorem pay8_at (u : FVec Ideal S512x1024 .f32) (x : FVec Ideal S512x2816 .bf16) (y : FVec Ideal S2816x1024 .bf16) (j : S512x1.Idx) :
    k0_pay8 (F := Ideal) u x y j = scale fun k => streamB u x y (ix2 (j 0) k) := by
  unfold k0_pay8
  rw [pay7_eq]
  generalize streamB u x y = z
  unfold scale meanSq
  pointwise

theorem pay9_eq (u : FVec Ideal S512x1024 .f32) (x : FVec Ideal S512x2816 .bf16) (y : FVec Ideal S2816x1024 .bf16) :
    k0_pay9 (F := Ideal) u x y = hatB (streamB u x y) := by
  funext j
  have h8 : k0_pay8 (F := Ideal) u x y (ix2 (j 0) 0) = scale fun k => streamB u x y (ix2 (j 0) k) := pay8_at u x y _
  unfold hatB
  rw [← h8]
  unfold k0_pay9
  rw [pay7_eq]
  generalize k0_pay8 (F := Ideal) u x y = s
  generalize streamB u x y = z
  pointwise

theorem pay10_eq (u : FVec Ideal S512x1024 .f32) (x : FVec Ideal S512x2816 .bf16) (y : FVec Ideal S2816x1024 .bf16)
    (g : FVec Ideal S1x1024 .f32) (a : FVec Ideal S512x1024 .f32) :
    k0_pay10 (F := Ideal) u x y g a = errB (streamB u x y) g a := by
  funext j
  unfold k0_pay10
  rw [pay9_eq]
  have e : errB (streamB u x y) g a j = (hatB (streamB u x y) j * g (ix2 0 (j 1)) - a j : EReal) := rfl
  rw [e]
  generalize hatB (streamB u x y) = h
  pointwise

/-- The stream's gradient in a block, at an entry. -/
theorem pay2_at (g : FVec Ideal S1x1024 .f32) (s : FVec Ideal S512x1 .f32) (h e : FVec Ideal S512x1024 .f32) (w : Ideal .f32)
    (j : S512x1024.Idx) :
    k0_pay2 (F := Ideal) g s h e w j
      = (s (ix2 (j 0) 0) * (e j * w * g (ix2 0 (j 1))
          - h j * Ideal.div (∑ k : Fin 1024, e (ix2 (j 0) k) * w * g (ix2 0 k) * h (ix2 (j 0) k)) (Ideal.ofBits .f32 0x44800000#32)) : EReal) := by
  unfold k0_pay2 k0_pay1
  pointwise

/-- The body's sum for the norm's weights, at an entry. -/
theorem pay4_at (h e : FVec Ideal S512x1024 .f32) (w : Ideal .f32) (a : FVec Ideal S1x1024 .f32) (j : S1x1024.Idx) :
    k0_pay4 (F := Ideal) h e w a j = (a j + ∑ r : Fin 512, e (ix2 r (j 1)) * w * h (ix2 r (j 1)) : EReal) := by
  unfold k0_pay4 k0_pay1
  pointwise

/-- The body's sum for the loss, at an entry. -/
theorem pay11_at (u : FVec Ideal S512x1024 .f32) (x : FVec Ideal S512x2816 .bf16) (y : FVec Ideal S2816x1024 .bf16)
    (g : FVec Ideal S1x1024 .f32) (t : FVec Ideal S512x1024 .f32) (a : FVec Ideal S1x128 .f32) (j : S1x128.Idx) :
    k0_pay11 (F := Ideal) u x y g t a j
      = (a j + (∑ r : Fin 512, ∑ k : Fin 1024, errB (streamB u x y) g t (ix2 r k) * errB (streamB u x y) g t (ix2 r k)) * half' : EReal) := by
  unfold k0_pay11 half'
  rw [pay10_eq]
  generalize errB (streamB u x y) g t = e
  pointwise

/-- The stream in point `t`'s block. -/
def zB (t : Fin cfg0.N) : FVec Ideal S512x1024 .f32 := streamB (resB m c t) (actB m c t) (downB m c t)

/-- The error in point `t`'s block. -/
def eB (t : Fin cfg0.N) : FVec Ideal S512x1024 .f32 := errB (zB m c t) (normB m c t) (goalB m c t)

/-- A block's gradient of the stream, at an entry. -/
def blockDx (t : Fin cfg0.N) (j : S512x1024.Idx) : EReal :=
  entry (fun k => zB m c t (ix2 (j 0) k)) (fun k => (eB m c t (ix2 (j 0) k) * width' : EReal)) (fun k => normB m c t (ix2 0 k)) 0
    (zB m c t j) (eB m c t j * width' : EReal) (normB m c t (ix2 0 (j 1)))

/-- What point `t` adds to an entry of the norm weights' gradient. -/
def part (t : Fin cfg0.N) (j : S1x1024.Idx) : EReal :=
  ∑ r : Fin 512, (eB m c t (ix2 r (j 1)) * width') * (zB m c t (ix2 r (j 1)) * scale fun k => zB m c t (ix2 r k))

/-- What point `t` adds to the loss. -/
def lossPart (t : Fin cfg0.N) (_ : S1x128.Idx) : EReal :=
  (∑ r : Fin 512, ∑ k : Fin 1024, (eB m c t (ix2 r k) * eB m c t (ix2 r k) : EReal)) * half'

theorem body_dx (t : Fin cfg0.N) (j : S512x1024.Idx) :
    k0_pay2 (F := Ideal) (normB m c t) (k0_pay8 (F := Ideal) (resB m c t) (actB m c t) (downB m c t))
      (k0_pay9 (F := Ideal) (resB m c t) (actB m c t) (downB m c t))
      (k0_pay10 (F := Ideal) (resB m c t) (actB m c t) (downB m c t) (normB m c t) (goalB m c t)) width' j = blockDx m c t j := by
  rw [pay9_eq, pay10_eq, pay2_at, pay8_at]
  exact (zero_add _).symm

theorem body_dg (t : Fin cfg0.N) (a : FVec Ideal S1x1024 .f32) (j : S1x1024.Idx) :
    k0_pay4 (F := Ideal) (k0_pay9 (F := Ideal) (resB m c t) (actB m c t) (downB m c t))
      (k0_pay10 (F := Ideal) (resB m c t) (actB m c t) (downB m c t) (normB m c t) (goalB m c t)) width' a j = (a j + part m c t j : EReal) := by
  rw [pay9_eq, pay10_eq, pay4_at]
  rfl

theorem dx_at (t : Fin cfg0.N) (j : S512x1024.Idx) : (outsAt0 m c t.val t.isLt).2.1 j = blockDx m c t j := by
  by_cases h : t.val % 16 = 0
  · rw [outsAt0_A m c t h]
    frame_out
    exact body_dx m c t j
  · rw [outsAt0_B m c t h]
    frame_out
    exact body_dx m c t j

theorem short_at (t : Fin cfg0.N) (j : S512x1024.Idx) : (outsAt0 m c t.val t.isLt).2.2.2 j = blockDx m c t j := by
  by_cases h : t.val % 16 = 0
  · rw [outsAt0_A m c t h]
    frame_out
    exact body_dx m c t j
  · rw [outsAt0_B m c t h]
    frame_out
    exact body_dx m c t j

/-- At the first point the weights' gradient holds that point's part alone. -/
theorem first (t : Fin cfg0.N) (h : t.val % 16 = 0) (j : S1x1024.Idx) :
    (outsAt0 m c t.val t.isLt).2.2.1 j = (0 : EReal) + part m c t j := by
  rw [outsAt0_A m c t h]
  frame_out
  refine (body_dg m c t _ j).trans (congrArg₂ (· + ·) ?_ rfl)
  unfold k0_pay5
  pointwise

/-- At a later point the weights' gradient holds what the point before left, and this point's part. -/
theorem next (t : Fin cfg0.N) (h : ¬t.val % 16 = 0) (j : S1x1024.Idx) :
    (outsAt0 m c t.val t.isLt).2.2.1 j
      = ((outsAt0 m c (t.val - 1) (Nat.lt_of_le_of_lt (Nat.sub_le _ _) t.isLt)).2.2.1 j : EReal) + part m c t j := by
  rw [outsAt0_B m c t h]
  frame_out
  exact body_dg m c t _ j

/-- At the first point the loss holds that point's part alone. -/
theorem lossFirst (t : Fin cfg0.N) (h : t.val % 16 = 0) (j : S1x128.Idx) :
    (outsAt0 m c t.val t.isLt).1 j = (0 : EReal) + lossPart m c t j := by
  rw [outsAt0_A m c t h]
  frame_out
  refine (pay11_at _ _ _ _ _ _ j).trans (congrArg₂ (· + ·) ?_ rfl)
  unfold k0_pay6
  pointwise

/-- At a later point the loss holds what the point before left, and this point's part. -/
theorem lossNext (t : Fin cfg0.N) (h : ¬t.val % 16 = 0) (j : S1x128.Idx) :
    (outsAt0 m c t.val t.isLt).1 j
      = ((outsAt0 m c (t.val - 1) (Nat.lt_of_le_of_lt (Nat.sub_le _ _) t.isLt)).1 j : EReal) + lossPart m c t j := by
  rw [outsAt0_B m c t h]
  frame_out
  exact pay11_at _ _ _ _ _ _ j

/-- Which blocks the windows of a point are at. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] := by decide +kernel

/-- The activation, as launched. -/
def act : FVec Ideal S8192x2816 .bf16 := m ((c : Thread nD τ).loc main_arg0)

/-- The product's weights, as launched. -/
def down : FVec Ideal S2816x1024 .bf16 := m ((c : Thread nD τ).loc main_arg1)

/-- The residual, as launched. -/
def res : FVec Ideal S8192x1024 .f32 := m ((c : Thread nD τ).loc main_arg2)

/-- The norm's weights, as launched. -/
def normW : FVec Ideal S1x1024 .f32 := m ((c : Thread nD τ).loc main_arg3)

/-- The target, as launched. -/
def goal : FVec Ideal S8192x1024 .f32 := m ((c : Thread nD τ).loc main_arg4)

/-- The stream: the residual and a product. -/
def stream (u : FVec Ideal S8192x1024 .f32) (x : FVec Ideal S8192x2816 .bf16) (y : FVec Ideal S2816x1024 .bf16) :
    FVec Ideal S8192x1024 .f32 := fun i => (u i + ∑ k : Fin 2816, x (ix2 (i 0) k) * y (ix2 k (i 1)) : EReal)

/-- The error against the target. -/
def errs (z : FVec Ideal S8192x1024 .f32) (g : FVec Ideal S1x1024 .f32) (a : FVec Ideal S8192x1024 .f32) : FVec Ideal S8192x1024 .f32 :=
  fun i => (z i * (scale fun k => z (ix2 (i 0) k)) * g (ix2 0 (i 1)) - a i : EReal)

/-- The norm's cotangent: the error over the width. -/
def cots (e : FVec Ideal S8192x1024 .f32) : FVec Ideal S8192x1024 .f32 := fun i => (e i * width' : EReal)

/-- The stream's gradient from the norm's cotangent, at an entry. -/
def dxEntry (p z : FVec Ideal S8192x1024 .f32) (w : FVec Ideal S1x1024 .f32) (i : S8192x1024.Idx) : EReal :=
  entry (fun k => z (ix2 (i 0) k)) (fun k => p (ix2 (i 0) k)) (fun k => w (ix2 0 k)) 0 (z i) (p i) (w (ix2 0 (i 1)))

/-- The stream's gradient. -/
def dx (p z : FVec Ideal S8192x1024 .f32) (w : FVec Ideal S1x1024 .f32) : FVec Ideal S8192x1024 .f32 := fun i => dxEntry p z w i

/-- The stream's gradient, rounded. -/
def short (p z : FVec Ideal S8192x1024 .f32) (w : FVec Ideal S1x1024 .f32) : FVec Ideal S8192x1024 .bf16 := fun i => dxEntry p z w i

/-- The gradient of the norm's weights. -/
def dg (p z : FVec Ideal S8192x1024 .f32) : FVec Ideal S1x1024 .f32 := fun i =>
  (∑ r : Fin 8192, p (ix2 r (i 1)) * (z (ix2 r (i 1)) * scale fun k => z (ix2 r k)) : EReal)

/-- The loss, along a row of equal entries: half the sum of the rows' mean squares. -/
def loss (e : FVec Ideal S8192x1024 .f32) : FVec Ideal S1x128 .f32 := fun _ =>
  (Ideal.ofBits .f32 0x3F000000#32
    * ∑ r : Fin 8192, Ideal.div (∑ k : Fin 1024, e (ix2 r k) * e (ix2 r k)) (Ideal.ofBits .f32 0x44800000#32) : EReal)

/-- The stream of the arrays as launched. -/
def zA : FVec Ideal S8192x1024 .f32 := stream (res m c) (act m c) (down m c)

/-- The error of the arrays as launched. -/
def eA : FVec Ideal S8192x1024 .f32 := errs (zA m c) (normW m c) (goal m c)

/-- A block's stream is the whole one's, where the block is. -/
theorem z_block (t : Fin cfg0.N) (y : S512x1024.Idx) (i : S8192x1024.Idx) (h0 : (i 0).val = t.val * 512 + (y 0).val)
    (h1 : (i 1).val = (y 1).val) : zB m c t y = zA m c i := by
  obtain ⟨a0, a1, a2, -⟩ := idx t
  unfold zB zA streamB stream
  refine congrArg₂ (· + ·) ?_ (Finset.sum_congr rfl fun k _ => congrArg₂ (· * ·) ?_ ?_)
  · unfold resB res
    blk_ext [iblk, V, a2]
  · unfold actB act
    blk_ext [iblk, V, a0]
  · unfold downB down
    blk_ext [iblk, V, a1]

theorem norm_block (t : Fin cfg0.N) (y : S1x1024.Idx) (i : S1x1024.Idx) (h1 : (i 1).val = (y 1).val) : normB m c t y = normW m c i := by
  obtain ⟨-, -, -, a3, -⟩ := idx t
  unfold normB normW
  blk_ext [iblk, V, a3]

theorem goal_block (t : Fin cfg0.N) (y : S512x1024.Idx) (i : S8192x1024.Idx) (h0 : (i 0).val = t.val * 512 + (y 0).val)
    (h1 : (i 1).val = (y 1).val) : goalB m c t y = goal m c i := by
  obtain ⟨-, -, -, -, a4, -⟩ := idx t
  unfold goalB goal
  blk_ext [iblk, V, a4]

/-- A block's error is the whole one's, where the block is. -/
theorem e_block (t : Fin cfg0.N) (y : S512x1024.Idx) (i : S8192x1024.Idx) (h0 : (i 0).val = t.val * 512 + (y 0).val)
    (h1 : (i 1).val = (y 1).val) : eB m c t y = eA m c i := by
  unfold eB eA errB errs
  rw [z_block m c t y i h0 h1, goal_block m c t y i h0 h1, norm_block m c t (ix2 0 (y 1)) (ix2 0 (i 1)) h1]
  congr 4
  exact funext fun k => z_block m c t _ _ h0 rfl

/-- A block's gradient is the whole one's, where the block is. -/
theorem block (t : Fin cfg0.N) (y : S512x1024.Idx) (i : S8192x1024.Idx) (h0 : (i 0).val = t.val * 512 + (y 0).val)
    (h1 : (i 1).val = (y 1).val) : blockDx m c t y = dxEntry (cots (eA m c)) (zA m c) (normW m c) i := by
  unfold blockDx dxEntry cots
  rw [e_block m c t y i h0 h1, z_block m c t y i h0 h1, norm_block m c t (ix2 0 (y 1)) (ix2 0 (i 1)) h1]
  congr 1
  · exact funext fun k => z_block m c t _ _ h0 rfl
  · exact funext fun k => congrArg (fun q : EReal => q * width') (e_block m c t _ _ h0 rfl)
  · exact funext fun k => norm_block m c t _ _ rfl

theorem dx_final : (dats m 0 c).arrAt 6 cfg0.N = dx (cots (eA m c)) (zA m c) (normW m c) := by
  refine (dats m 0 c).arrAt_eq_of_covers 6 _ (by decide +kernel) fun t hf y => ?_
  blk_simp
  rw [after0_6]
  refine (dx_at m c t y).trans (block m c t y _ ?_ ?_)
  all_goals blk_simp [(idx t).2.2.2.2.2.2.1]

theorem short_final : (dats m 0 c).arrAt 8 cfg0.N = short (cots (eA m c)) (zA m c) (normW m c) := by
  refine (dats m 0 c).arrAt_eq_of_covers 8 _ (by decide +kernel) fun t hf y => ?_
  blk_simp
  rw [after0_8]
  refine (short_at m c t y).trans (block m c t y _ ?_ ?_)
  all_goals blk_simp [(idx t).2.2.2.2.2.2.2.2]

/-- The points' parts, summed, are the gradient of the norm's weights. -/
theorem parts_sum (t : Fin cfg0.N) (h : t.val % 16 = 15) (j : S1x1024.Idx) (i : S1x1024.Idx) (h1 : (i 1).val = (j 1).val) :
    ∑ s : Fin 16, part m c ⟨16 * (t.val / 16) + s.val, Pipeline.run_point_lt_of_flush t h s⟩ j = dg (cots (eA m c)) (zA m c) i := by
  have ht : t.val / 16 = 0 := by
    have : t.val < 16 := t.isLt
    omega
  unfold part dg cots
  refine Fin.sum_mul_add_congr fun s r hl => ?_
  have h0 : s.val * 512 + r.val = (16 * (t.val / 16) + s.val) * 512 + r.val := by omega
  refine congrArg₂ (· * ·) (congrArg (fun q : EReal => q * width') (e_block m c _ _ _ h0 h1))
    (congrArg₂ (· * ·) (z_block m c _ _ _ h0 h1) (congrArg scale (funext fun k => ?_)))
  exact z_block m c _ _ _ h0 rfl

theorem dg_final : (dats m 0 c).arrAt 7 cfg0.N = dg (cots (eA m c)) (zA m c) := by
  refine (dats m 0 c).arrAt_eq_of_covers 7 _ (by decide +kernel) fun t hf y => ?_
  have h : t.val % 16 = 15 := (flush0_7 t).mp hf
  blk_simp
  rw [after0_7]
  refine (Pipeline.eq_sum_fin_of_reset_step_apply_of_flush (fun n h => (outsAt0 m c n h).2.2.1) 16 (fun _ => (0 : EReal)) (part m c)
    (first m c) (next m c) t h y).trans ?_
  refine (zero_add _).trans (parts_sum m c t h y _ ?_)
  blk_simp [(idx t).2.2.2.2.2.2.2.1]

theorem half'_word : half' = ((1 / 2048 : ℝ) : EReal) := by
  have h : (8388608 : ℝ) * (2 ^ 34)⁻¹ = 2048⁻¹ := by norm_num
  unfold half'
  simp [Ideal.ofBits, Ideal.ieee, -EReal.coe_mul]
  exact_mod_cast h

/-- A sum of reals times a real. -/
theorem sum_mul_real {n : ℕ} (f : Fin n → ℝ) (w : ℝ) : (∑ r, (f r : EReal)) * (w : EReal) = ∑ r, (f r : EReal) * (w : EReal) := by
  simp only [← EReal.coe_mul, Cert.Att.coe_sum, Finset.sum_mul]

/-- Half a sum of means is the sum of the parts, over the reals. -/
theorem mean_real {n : ℕ} (f : Fin n → ℝ) :
    Ideal.ofBits .f32 0x3F000000#32 * ∑ r, Ideal.div (f r : EReal) (Ideal.ofBits .f32 0x44800000#32) = ∑ r, (f r : EReal) * half' := by
  rw [half'_word, width_word, Cert.Swiglu.half_word]
  simp only [Cert.Att.coe_div (show (1024 : ℝ) ≠ 0 by norm_num), ← EReal.coe_mul, Cert.Att.coe_sum]
  rw [Finset.mul_sum]
  refine congrArg _ (Finset.sum_congr rfl fun r _ => ?_)
  ring

/-- The points' parts, summed, are the loss, where the error is real. -/
theorem loss_sum (he : IsReal (eA m c)) (t : Fin cfg0.N) (h : t.val % 16 = 15) (j : S1x128.Idx) (i : S1x128.Idx) :
    ∑ s : Fin 16, lossPart m c ⟨16 * (t.val / 16) + s.val, Pipeline.run_point_lt_of_flush t h s⟩ j = loss (eA m c) i := by
  have ht : t.val / 16 = 0 := by
    have : t.val < 16 := t.isLt
    omega
  choose e hE using he
  have hs (r : Fin 8192) : ∑ k : Fin 1024, (eA m c (ix2 r k) * eA m c (ix2 r k) : EReal)
      = ((∑ k : Fin 1024, e (ix2 r k) * e (ix2 r k) : ℝ) : EReal) := by
    rw [← Cert.Att.coe_sum]
    exact Finset.sum_congr rfl fun k _ => (congrArg₂ (· * ·) (hE _) (hE _)).trans (EReal.coe_mul _ _).symm
  have hl (s : Fin 16) : lossPart m c ⟨16 * (t.val / 16) + s.val, Pipeline.run_point_lt_of_flush t h s⟩ j
      = ∑ r : Fin 512, ((∑ k : Fin 1024, e (ix2 ⟨s.val * 512 + r.val, by omega⟩ k) * e (ix2 ⟨s.val * 512 + r.val, by omega⟩ k) : ℝ) : EReal) * half' := by
    unfold lossPart
    rw [half'_word, ← sum_mul_real]
    refine congrArg (fun q : EReal => q * _) (Finset.sum_congr rfl fun r _ => (Finset.sum_congr rfl fun k _ => ?_).trans (hs _))
    have h0 : s.val * 512 + r.val = (16 * (t.val / 16) + s.val) * 512 + r.val := by omega
    exact congrArg₂ (· * ·) (e_block m c _ _ _ h0 rfl) (e_block m c _ _ _ h0 rfl)
  unfold loss
  simp only [hs]
  rw [mean_real, Finset.sum_congr rfl fun s _ => hl s]
  exact Fin.sum_mul_add_congr fun s r hl => rfl

theorem loss_final (he : IsReal (eA m c)) : (dats m 0 c).arrAt 5 cfg0.N = loss (eA m c) := by
  refine (dats m 0 c).arrAt_eq_of_covers 5 _ (by decide +kernel) fun t hf y => ?_
  have h : t.val % 16 = 15 := (flush0_5 t).mp hf
  blk_simp
  rw [after0_5]
  refine (Pipeline.eq_sum_fin_of_reset_step_apply_of_flush (fun n h => (outsAt0 m c n h).1) 16 (fun _ => (0 : EReal)) (lossPart m c)
    (lossFirst m c) (lossNext m c) t h y).trans ?_
  exact (zero_add _).trans (loss_sum m c he t h y _)

end Cert.Proof.LossHead

end
-- ==== Proof.LossHeadRef.lean ====
/- The reference's loss and derivative through the last product and the norm after it, over real arrays, and the claim of the
   version's call. -/
module

public import proofs.«01_k».proof.Defs
public import proofs.«01_k».proof.Proof.LossHead
public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.LossHead

open Cert.Kernel19Ideal Cert.Kernel19Ideal.Gen Cert.Norm Idealize.ShloMosaic Idealize.ShloMosaic.TcCoe Idealize.SL.Sem

open Cert.Proof.DownDx (IsReal real_of_short)

/-- The stream of real arrays is real. -/
theorem stream_real (u : FVec Ideal S8192x1024 .f32) (x : FVec Ideal S8192x2816 .bf16) (y : FVec Ideal S2816x1024 .bf16) (hu : IsReal u)
    (hx : IsReal x) (hy : IsReal y) : IsReal (stream u x y) := by
  intro i
  choose o ho using hu
  choose p hp using hx
  choose q hq using hy
  refine ⟨o i + ∑ k : Fin 2816, p (ix2 (i 0) k) * q (ix2 k (i 1)), ?_⟩
  unfold stream
  rw [EReal.coe_add, ← Cert.Att.coe_sum, ho]
  exact congrArg₂ (· + ·) rfl (Finset.sum_congr rfl fun k _ => (congrArg₂ (· * ·) (hp _) (hq _)).trans (EReal.coe_mul _ _).symm)

/-- The error of real arrays is real. -/
theorem errs_real (z : FVec Ideal S8192x1024 .f32) (g : FVec Ideal S1x1024 .f32) (a : FVec Ideal S8192x1024 .f32) (hz : IsReal z)
    (hg : IsReal g) (ha : IsReal a) : IsReal (errs z g a) := by
  intro i
  choose o ho using hz
  choose p hp using hg
  choose q hq using ha
  obtain ⟨s, r, -, -, hm, hs⟩ := meanSq_real fun k => o (ix2 (i 0) k)
  refine ⟨o i * r * p (ix2 0 (i 1)) - q i, ?_⟩
  unfold errs scale
  simp only [ho, hp, hq]
  rw [hm, hs, EReal.coe_sub, EReal.coe_mul, EReal.coe_mul]

theorem width'_word : width' = ((1 / 1024 : ℝ) : EReal) := by
  have h : (8388608 : ℝ) * (2 ^ 33)⁻¹ = 1024⁻¹ := by norm_num
  unfold width'
  simp [Ideal.ofBits, Ideal.ieee, -EReal.coe_mul]
  exact_mod_cast h

theorem two_word : Ideal.ofBits .f32 0x40000000#32 = ((2 : ℝ) : EReal) := by
  have h : (8388608 : ℝ) * (2 ^ 22)⁻¹ = 2 := by norm_num
  simp [Ideal.ofBits, Ideal.ieee, -EReal.coe_mul]
  try exact_mod_cast h

theorem cots_real (e : FVec Ideal S8192x1024 .f32) (he : IsReal e) : IsReal (cots e) := by
  intro i
  obtain ⟨o, ho⟩ := he i
  refine ⟨o * (1 / 1024), ?_⟩
  unfold cots
  rw [ho, width'_word, EReal.coe_mul]

/-- The reference's stream. -/
theorem reference_stream (z : FVec Ideal S8192x1024 .f32) (x : FVec Ideal S8192x2816 .bf16) (y : FVec Ideal S2816x1024 .bf16) :
    (addf z (Host.dotGeneral Cert.Reference19Ideal.dot_S8192x2816_S2816x1024_S8192x1024_1_0_0_1_n_n none (extf .f32 x Cert.Reference19Ideal.Gen.bitsLt_bf16_f32) (extf .f32 y Cert.Reference19Ideal.Gen.bitsLt_bf16_f32)))
      = stream z x y := by
  funext i
  unfold stream
  pointwise

/-- The reference's column of mean squares. -/
theorem reference_mean (z : FVec Ideal S8192x1024 .f32) :
    (addf (Host.divf (broadcastInDim Cert.Reference19Ideal.S8192x1 ![0] Cert.Reference19Ideal.Gen.bcast_S8192_S8192x1_0 (Host.reduceAdd (mulf z z) (constant Cert.Reference19Ideal.S_ .f32 0x00000000#32) Cert.Reference19Ideal.Gen.reducesTo_S8192x1024_S8192_d1 Cert.Reference19Ideal.Gen.h_S_)) (broadcastInDim Cert.Reference19Ideal.S8192x1 ![] Cert.Reference19Ideal.Gen.bcast_S_S8192x1 (constant Cert.Reference19Ideal.S_ .f32 0x44800000#32))) (broadcastInDim Cert.Reference19Ideal.S8192x1 ![] Cert.Reference19Ideal.Gen.bcast_S_S8192x1 (constant Cert.Reference19Ideal.S_ .f32 0x358637BD#32)))
      = fun i => meanSq fun k => z (ix2 (i 0) k) := by
  funext i
  unfold meanSq
  pointwise

/-- The reference's error, from any column of mean squares. -/
theorem reference_err (z tgt : FVec Ideal S8192x1024 .f32) (w : FVec Ideal S1x1024 .f32) (mm : FVec Ideal Cert.Reference19Ideal.S8192x1 .f32)
    (i : S8192x1024.Idx) :
    ((subf (mulf (mulf z (broadcastInDim Cert.Reference19Ideal.S8192x1024 ![0, 1] Cert.Reference19Ideal.Gen.bcast_S8192x1_S8192x1024_0_1 (Host.rsqrt mm))) (broadcastInDim Cert.Reference19Ideal.S8192x1024 ![0, 1] Cert.Reference19Ideal.Gen.bcast_S1x1024_S8192x1024_0_1 w)) tgt) : FVec Ideal S8192x1024 .f32) i
      = (z i * Ideal.rsqrt (mm (ix2 (i 0) 0)) * w (ix2 0 (i 1)) - tgt i : EReal) := by
  pointwise

theorem reference_errs (z tgt : FVec Ideal S8192x1024 .f32) (w : FVec Ideal S1x1024 .f32) :
    (subf (mulf (mulf z (broadcastInDim Cert.Reference19Ideal.S8192x1024 ![0, 1] Cert.Reference19Ideal.Gen.bcast_S8192x1_S8192x1024_0_1 (Host.rsqrt (fun i => meanSq fun k => z (ix2 (i 0) k) : FVec Ideal Cert.Reference19Ideal.S8192x1 .f32)))) (broadcastInDim Cert.Reference19Ideal.S8192x1024 ![0, 1] Cert.Reference19Ideal.Gen.bcast_S1x1024_S8192x1024_0_1 w)) tgt)
      = errs z w tgt := funext fun i => reference_err z tgt w _ i

/-- The reference's cotangent of the norm. -/
theorem reference_cots (e : FVec Ideal S8192x1024 .f32) :
    (mulf (broadcastInDim Cert.Reference19Ideal.S8192x1024 ![0] Cert.Reference19Ideal.Gen.bcast_S8192_S8192x1024_0 (Host.divf (broadcastInDim Cert.Reference19Ideal.S8192 ![] Cert.Reference19Ideal.Gen.bcast_S_S8192 (mulf (constant Cert.Reference19Ideal.S_ .f32 0x3F000000#32) (constant Cert.Reference19Ideal.S_ .f32 0x3F800000#32))) (broadcastInDim Cert.Reference19Ideal.S8192 ![] Cert.Reference19Ideal.Gen.bcast_S_S8192 (constant Cert.Reference19Ideal.S_ .f32 0x44800000#32)))) (mulf (broadcastInDim Cert.Reference19Ideal.S8192x1024 ![] Cert.Reference19Ideal.Gen.bcast_S_S8192x1024 (constant Cert.Reference19Ideal.S_ .f32 0x40000000#32)) e))
      = cots e := by
  funext i
  have h : (Ideal.div (Ideal.ofBits .f32 0x3F000000#32 * Ideal.ofBits .f32 0x3F800000#32) (Ideal.ofBits .f32 0x44800000#32)
      * (Ideal.ofBits .f32 0x40000000#32 * e i) : EReal) = e i * width' := by
    rw [Cert.Swiglu.half_word, Cert.Swiglu.one_word, width_word, two_word, width'_word, mul_one,
      Cert.Att.coe_div (show (1024 : ℝ) ≠ 0 by norm_num), ← mul_assoc, ← EReal.coe_mul, mul_comm]
    congr 2
    norm_num
  unfold cots
  rw [← h]
  pointwise

/-- The reference's loss. -/
theorem reference_loss (e : FVec Ideal S8192x1024 .f32) :
    broadcastInDim Cert.Reference19Ideal.S1x128 ![] Cert.Reference19Ideal.Gen.bcast_S_S1x128 (mulf (constant Cert.Reference19Ideal.S_ .f32 0x3F000000#32) (Host.reduceAdd (Host.divf (Host.reduceAdd (mulf e e) (constant Cert.Reference19Ideal.S_ .f32 0x00000000#32) Cert.Reference19Ideal.Gen.reducesTo_S8192x1024_S8192_d1 Cert.Reference19Ideal.Gen.h_S_) (broadcastInDim Cert.Reference19Ideal.S8192 ![] Cert.Reference19Ideal.Gen.bcast_S_S8192 (constant Cert.Reference19Ideal.S_ .f32 0x44800000#32))) (constant Cert.Reference19Ideal.S_ .f32 0x00000000#32) Cert.Reference19Ideal.Gen.reducesTo_S8192_S_d0 Cert.Reference19Ideal.Gen.h_S_))
      = loss e := by
  funext i
  unfold loss
  pointwise

/-- The reference's gradient of the stream, at an entry, from any column of mean squares. -/
theorem reference_entry (p z : FVec Ideal S8192x1024 .f32) (w : FVec Ideal S1x1024 .f32)
    (mm : FVec Ideal Cert.Reference19Ideal.S8192x1 .f32) (i : S8192x1024.Idx) :
    (addf (addf (mulf (mulf p (broadcastInDim Cert.Reference19Ideal.S8192x1024 ![0, 1] Cert.Reference19Ideal.Gen.bcast_S1x1024_S8192x1024_0_1 w)) (broadcastInDim Cert.Reference19Ideal.S8192x1024 ![0, 1] Cert.Reference19Ideal.Gen.bcast_S8192x1_S8192x1024_0_1 (Host.rsqrt mm))) (mulf z (broadcastInDim Cert.Reference19Ideal.S8192x1024 ![0] Cert.Reference19Ideal.Gen.bcast_S8192_S8192x1024_0 (Host.reduceAdd (Host.divf (mulf (shapeCast _ (Host.reduceAdd (mulf z (mulf p (broadcastInDim Cert.Reference19Ideal.S8192x1024 ![0, 1] Cert.Reference19Ideal.Gen.bcast_S1x1024_S8192x1024_0_1 w))) (constant Cert.Reference19Ideal.S_ .f32 0x00000000#32) Cert.Reference19Ideal.Gen.reducesTo_S8192x1024_S8192_d1 Cert.Reference19Ideal.Gen.h_S_) Cert.Reference19Ideal.Gen.shapeCasts_S8192_S8192x1) (mulf (broadcastInDim Cert.Reference19Ideal.S8192x1 ![] Cert.Reference19Ideal.Gen.bcast_S_S8192x1 (constant Cert.Reference19Ideal.S_ .f32 0xBF000000#32)) (Host.divf (Host.rsqrt mm) mm))) (broadcastInDim Cert.Reference19Ideal.S8192x1 ![] Cert.Reference19Ideal.Gen.bcast_S_S8192x1 (constant Cert.Reference19Ideal.S_ .f32 0x44800000#32))) (constant Cert.Reference19Ideal.S_ .f32 0x00000000#32) Cert.Reference19Ideal.Gen.reducesTo_S8192x1_S8192_d1 Cert.Reference19Ideal.Gen.h_S_)))) (mulf (broadcastInDim Cert.Reference19Ideal.S8192x1024 ![0] Cert.Reference19Ideal.Gen.bcast_S8192_S8192x1024_0 (Host.reduceAdd (Host.divf (mulf (shapeCast _ (Host.reduceAdd (mulf z (mulf p (broadcastInDim Cert.Reference19Ideal.S8192x1024 ![0, 1] Cert.Reference19Ideal.Gen.bcast_S1x1024_S8192x1024_0_1 w))) (constant Cert.Reference19Ideal.S_ .f32 0x00000000#32) Cert.Reference19Ideal.Gen.reducesTo_S8192x1024_S8192_d1 Cert.Reference19Ideal.Gen.h_S_) Cert.Reference19Ideal.Gen.shapeCasts_S8192_S8192x1) (mulf (broadcastInDim Cert.Reference19Ideal.S8192x1 ![] Cert.Reference19Ideal.Gen.bcast_S_S8192x1 (constant Cert.Reference19Ideal.S_ .f32 0xBF000000#32)) (Host.divf (Host.rsqrt mm) mm))) (broadcastInDim Cert.Reference19Ideal.S8192x1 ![] Cert.Reference19Ideal.Gen.bcast_S_S8192x1 (constant Cert.Reference19Ideal.S_ .f32 0x44800000#32))) (constant Cert.Reference19Ideal.S_ .f32 0x00000000#32) Cert.Reference19Ideal.Gen.reducesTo_S8192x1_S8192_d1 Cert.Reference19Ideal.Gen.h_S_)) z) : FVec Ideal S8192x1024 .f32) i
      = entry' (fun k => z (ix2 (i 0) k)) (fun k => p (ix2 (i 0) k)) (fun k => w (ix2 0 k)) (mm (ix2 (i 0) 0)) 0 (z i) (p i)
          (w (ix2 0 (i 1))) := by
  unfold entry'
  rw [zero_add]
  pointwise
  exact congrArg₂ (· + ·) (congrArg₂ (· + ·) rfl (congrArg₂ (· * ·) rfl (Fin.sum_univ_one _))) (congrArg₂ (· * ·) (Fin.sum_univ_one _) rfl)

/-- The reference's gradient of the stream is the version's, over real arrays. -/
theorem reference_dx (p z : FVec Ideal S8192x1024 .f32) (w : FVec Ideal S1x1024 .f32) (hp : IsReal p) (hz : IsReal z) (hw : IsReal w) (i : S8192x1024.Idx) :
    entry' (fun k => z (ix2 (i 0) k)) (fun k => p (ix2 (i 0) k)) (fun k => w (ix2 0 k)) (meanSq fun k => z (ix2 (i 0) k)) 0 (z i)
      (p i) (w (ix2 0 (i 1))) = dxEntry p z w i := by
  choose P hP using hp
  choose Z hZ using hz
  choose W hW using hw
  unfold dxEntry
  simp only [hP, hZ, hW]
  exact entry_eq (fun k => Z (ix2 (i 0) k)) (fun k => P (ix2 (i 0) k)) (fun k => W (ix2 0 k)) 0 _ _ _

/-- The reference's gradient of the norm's weights. -/
theorem reference_dg (p z : FVec Ideal S8192x1024 .f32) :
    shapeCast _ (Host.reduceAdd (mulf (mulf z (broadcastInDim Cert.Reference19Ideal.S8192x1024 ![0, 1] Cert.Reference19Ideal.Gen.bcast_S8192x1_S8192x1024_0_1 (Host.rsqrt (fun i => meanSq fun k => z (ix2 (i 0) k) : FVec Ideal Cert.Reference19Ideal.S8192x1 .f32)))) p) (constant Cert.Reference19Ideal.S_ .f32 0x00000000#32) Cert.Reference19Ideal.Gen.reducesTo_S8192x1024_S1024_d0 Cert.Reference19Ideal.Gen.h_S_) Cert.Reference19Ideal.Gen.shapeCasts_S1024_S1x1024
      = dg p z := by
  funext i
  unfold dg scale
  refine Eq.trans ?_ (Finset.sum_congr rfl fun r _ => mul_comm _ _)
  pointwise

/-- The version's call returns the reference's loss and gradients, over real arguments. -/
theorem algebraic : algebraic_Kernel19Ideal_Reference19Ideal_pre_finite_norm_head (hKernel19Ideal := Cert.Kernel19Ideal.Gen.facts)
    (hReference19Ideal := Cert.Reference19Ideal.Gen.facts) (hPre_finite_norm_head := Cert.Pre_finite_norm_head.Gen.facts) := by
  intro m g m' g' hpre hm
  have hz (c : Dev Cert.Kernel19Ideal.nD) : IsReal (zA m c) := by
    obtain ⟨h0, h1, h2, h3, h4⟩ := hpre c
    exact stream_real _ _ _ (fun i => ⟨_, Cert.Att.real_of_test _ (congrFun h2 i)⟩) (fun i => ⟨_, real_of_short _ (congrFun h0 i)⟩)
      (fun i => ⟨_, real_of_short _ (congrFun h1 i)⟩)
  have hw (c : Dev Cert.Kernel19Ideal.nD) : IsReal (normW m c) := by
    obtain ⟨h0, h1, h2, h3, h4⟩ := hpre c
    exact fun i => ⟨_, Cert.Att.real_of_test _ (congrFun h3 i)⟩
  have he (c : Dev Cert.Kernel19Ideal.nD) : IsReal (eA m c) := by
    obtain ⟨h0, h1, h2, h3, h4⟩ := hpre c
    exact errs_real _ _ _ (hz c) (hw c) (fun i => ⟨_, Cert.Att.real_of_test _ (congrFun h4 i)⟩)
  refine ⟨fun c => loss (eA m c), fun c => dx (cots (eA m c)) (zA m c) (normW m c), fun c => dg (cots (eA m c)) (zA m c),
    fun c => short (cots (eA m c)) (zA m c) (normW m c),
    (θ_run _ _ _).mono (fun r h c => ⟨(h c).1.trans (loss_final m c (he c)), (h c).2.1.trans (dx_final m c), (h c).2.2.1.trans (dg_final m c),
      (h c).2.2.2.1.trans (short_final m c), (h c).2.2.2.2⟩) (Cert.Kernel19Ideal.Value.run_blocks m g), ?_⟩
  have H (c : Dev Cert.Kernel19Ideal.nD) (i : S8192x1024.Idx) :=
    reference_dx (cots (eA m c)) (zA m c) (normW m c) (cots_real _ (he c)) (hz c) (hw c) i
  refine (θ_run _ _ _).mono (fun r h c => ⟨(h c).1.trans ?_, (h c).2.1.trans ?_, (h c).2.2.1.trans ?_, (h c).2.2.2.1.trans ?_, (h c).2.2.2.2⟩)
    (Cert.Reference19Ideal.Value.run m' g')
  all_goals obtain ⟨e0, e1, e2, e3, e4⟩ := hm c
  · rw [e0, e1, e2, e3, e4, reference_stream, reference_mean, reference_errs]
    exact reference_loss _
  · unfold Cert.Reference19Ideal.Value.res_main_v53
    rw [e0, e1, e2, e3, e4, reference_stream, reference_mean, reference_errs, reference_cots]
    exact funext fun i => (reference_entry _ _ _ _ i).trans (H c i)
  · rw [e0, e1, e2, e3, e4, reference_stream, reference_mean, reference_errs, reference_cots]
    exact reference_dg _ _
  · unfold Cert.Reference19Ideal.Value.res_main_v58
    rw [e0, e1, e2, e3, e4, reference_stream, reference_mean, reference_errs, reference_cots]
    exact funext fun i => (reference_entry _ _ _ _ i).trans (H c i)

/-- The reference's program ends with its arguments untouched. -/
theorem reference_frame : quiescent_Reference19Ideal (hReference19Ideal := Cert.Reference19Ideal.Gen.facts) := fun m ρ _ =>
  (θ_run _ _ _).mono (fun r h => ⟨fun c => (h c).2.2.2.2, sem_eq_zero_of_no_sems (by decide) r.2⟩)
    (Cert.Reference19Ideal.Value.run (F := Ideal) m ρ)

end Cert.Proof.LossHead

end
-- ==== Proof.QkvBlock.lean ====
/- The projection to queries, keys and values with the rotary embedding: the version's call computes a block of tokens' product in six
   parts, turns the heads of queries and keys, and stores each head where its group keeps it, the rows of a dilated group by residue. -/
module

public import proofs.«01_k».proof.Defs
public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

namespace Cert.Proof.Qkv

open Cert.Kernel20Ideal Cert.Kernel20Ideal.Gen Idealize.ShloMosaic Idealize.ShloMosaic.TcCoe Idealize.SL.Sem

/-- A block's product at a row and a column. -/
def acc (x : FVec Ideal S1024x1024 .bf16) (w : FVec Ideal S4608x1024 .bf16) (r c : ℕ) : EReal :=
  ∑ k : Fin 1024, x (ix2 (Fin.ofNat 1024 r) k) * w (ix2 (Fin.ofNat 4608 c) k)

/-- A table's entry. -/
def tab (a : FVec Ideal S1024x128 .f32) (r e : ℕ) : EReal := a (ix2 (Fin.ofNat 1024 r) (Fin.ofNat 128 e))

/-- A head's entry after the embedding: turned if it is a query's or a key's. -/
def head (x : FVec Ideal S1024x1024 .bf16) (w : FVec Ideal S4608x1024 .bf16) (a b : FVec Ideal S1024x128 .f32) (n r e : ℕ) : EReal :=
  if n < 24 then acc x w r (n * 128 + e) * tab a r e + acc x w r (n * 128 + (e + 64) % 128) * tab b r e
  else acc x w r (n * 128 + e)

/-- What a block leaves at a column of group `g`, in the block's row `r`. -/
def cell (x : FVec Ideal S1024x1024 .bf16) (w : FVec Ideal S4608x1024 .bf16) (a b : FVec Ideal S1024x128 .f32) (g r c : ℕ) : EReal :=
  head x w a b (c / 512 * 12 + g * 4 + c % 512 / 128) r (c % 128)

/-- The weights of a part, loaded. -/
abbrev part (w : FVec Ideal S4608x1024 .bf16) (lo : ℕ) (h : ∀ a, (![lo, 0] : Fin 2 → ℕ) a + (![768, 1024] : Fin 2 → ℕ) a ≤ S4608x1024.size a) :
    FVec Ideal S768x1024 .bf16 := View.ld (Val := Elt Ideal) (e' := .bf16) w (Rect.unit (s := S4608x1024) ![lo, 0] ![768, 1024] h)

theorem part_at (w : FVec Ideal S4608x1024 .bf16) (lo : ℕ) (h) (i : Fin 768) (k : Fin 1024) (c : ℕ) (hc : c = lo + i.val) :
    part w lo h (ix2 i k) = w (ix2 (Fin.ofNat 4608 c) k) := by
  have := h 0
  simp at this
  refine View.ld_unit_apply_of _ _ _ _ _ _ fun a => ?_
  fin_cases a
  · show c % 4608 = lo + i.val
    omega
  · show k.val = 0 + k.val
    omega

/-- A part's product. -/
abbrev prod (x : FVec Ideal S1024x1024 .bf16) (w : FVec Ideal S768x1024 .bf16) : FVec Ideal S1024x768 .f32 :=
  matmul dot_S1024x1024_S768x1024_S1024x768_1_1_0_0_n_n none x w (constant (F := Ideal) S1024x768 .f32 0x00000000#32)

/-- A head of a part's product. -/
abbrev plain (x : FVec Ideal S1024x1024 .bf16) (w : FVec Ideal S768x1024 .bf16) (o : ℕ) (h : S1024x768.Slices (![0, o] : Fin 2 → ℕ) S1024x128) :
    FVec Ideal S1024x128 .f32 := extractStridedSlice S1024x128 ![0, o] (prod x w) h

/-- A head of a part's product, turned. -/
abbrev turned (x : FVec Ideal S1024x1024 .bf16) (w : FVec Ideal S768x1024 .bf16) (a b : FVec Ideal S1024x128 .f32) (o : ℕ)
    (h : S1024x768.Slices (![0, o] : Fin 2 → ℕ) S1024x128) : FVec Ideal S1024x128 .f32 :=
  addf (mulf (plain x w o h) (shapeCast S1024x128 a shapeCasts_S1024x128_S1024x128))
    (mulf (dynamicRotate 1 64#32 none (plain x w o h) rotates_S1024x128_d1) (shapeCast S1024x128 b shapeCasts_S1024x128_S1024x128))

theorem plain_at (x : FVec Ideal S1024x1024 .bf16) (w : FVec Ideal S4608x1024 .bf16) (lo o : ℕ) (hl) (h) (i : Fin 1024) (j : Fin 128)
    (r c : ℕ) (hr : r = i.val) (hc : c = lo + (o + j.val)) : plain x (part w lo hl) o h (ix2 i j) = acc x w r c := by
  unfold plain prod acc
  generalize hw : part w lo hl = v
  pointwise
  subst hw
  refine Finset.sum_congr rfl fun k _ => ?_
  rw [part_at w lo hl _ k c hc]
  congr 3
  exact Fin.ext (by show _ = r % 1024; subst hr; exact (Nat.mod_eq_of_lt i.isLt).symm)

theorem turned_at (x : FVec Ideal S1024x1024 .bf16) (w : FVec Ideal S4608x1024 .bf16) (a b : FVec Ideal S1024x128 .f32) (lo o : ℕ) (hl) (h)
    (i : Fin 1024) (j : Fin 128) (r c c' : ℕ) (hr : r = i.val) (hc : c = lo + (o + j.val)) (hc' : c' = lo + (o + (j.val + 64) % 128)) :
    turned x (part w lo hl) a b o h (ix2 i j) = acc x w r c * tab a r j.val + acc x w r c' * tab b r j.val := by
  have e : ∀ q : Fin 128, Fin.ofNat 128 q.val = q := fun q => Fin.ext (Nat.mod_eq_of_lt q.isLt)
  have e' : Fin.ofNat 1024 r = i := Fin.ext (by subst hr; exact Nat.mod_eq_of_lt i.isLt)
  rw [← plain_at x w lo o hl h i j r c hr hc, ← plain_at x w lo o hl h i ⟨(j.val + 64) % 128, Nat.mod_lt _ (by omega)⟩ r c' hr hc']
  unfold tab
  rw [e, e']
  unfold turned
  generalize plain x (part w lo hl) o h = v
  pointwise
  congr 4

/-- A load of rows of the scratch after the scratch was filled. -/
theorem reload {s : Shape} (v : View sig .tc .vmem s .f32) (off : Fin s.rank → ℕ) (inb) (Z : FVec Ideal s .f32)
    (L : List (View.Piece (Elt Ideal) s .f32)) (B : LoadRect s) (h : ∀ a, off a = 0) :
    v.readCov (⟨Rect.unit off s.size inb, Z⟩ :: L) B = fun j => Z (B.idx j) := by
  rw [View.readCov_eq_canon', View.canon_cons_unit_lit inb Z L h]

/-- A head stored whole, a value's. -/
theorem plain_whole (x : FVec Ideal S1024x1024 .bf16) (w : FVec Ideal S4608x1024 .bf16) (a b : FVec Ideal S1024x128 .f32) (lo o : ℕ) (hl) (h)
    (z : S1x1x1024x128.Idx) (r c : ℕ) (hr : r = (z 2).val) (k : 2 ≤ c / 512) (hc : lo + o = (c / 512 * 12 + 0 * 4 + c % 512 / 128) * 128) (hz : c % 128 = (z 3).val) :
    shapeCast S1x1x1024x128 (truncf .bf16 (plain x (part w lo hl) o h) bitsLt_bf16_f32) shapeCasts_S1024x128_S1x1x1024x128 z
      = cell x w a b 0 r c := by
  have hz3 : (z 3).val < 128 := (z 3).isLt
  generalize hv : plain x (part w lo hl) o h = v
  pointwise
  subst hv
  unfold cell head
  rw [hz]
  rw [if_neg (by omega)]
  exact plain_at x w lo o hl h (z 2) (z 3) r _ hr (by omega)

/-- A head stored whole, turned. -/
theorem turned_whole (x : FVec Ideal S1024x1024 .bf16) (w : FVec Ideal S4608x1024 .bf16) (a b : FVec Ideal S1024x128 .f32) (lo o : ℕ) (hl) (h)
    (z : S1x1x1024x128.Idx) (r c : ℕ) (hr : r = (z 2).val) (k : c / 512 < 2) (hc : lo + o = (c / 512 * 12 + 0 * 4 + c % 512 / 128) * 128) (hz : c % 128 = (z 3).val) :
    shapeCast S1x1x1024x128 (truncf .bf16 (turned x (part w lo hl) a b o h) bitsLt_bf16_f32) shapeCasts_S1024x128_S1x1x1024x128 z
      = cell x w a b 0 r c := by
  have hz3 : (z 3).val < 128 := (z 3).isLt
  generalize hv : turned x (part w lo hl) a b o h = v
  pointwise
  subst hv
  unfold cell head
  rw [hz]
  rw [if_pos (by omega)]
  exact turned_at x w a b lo o hl h (z 2) (z 3) r _ _ hr (by omega) (by omega)

/-- Every 4th row of a head, a value's. -/
theorem plain_every4 (x : FVec Ideal S1024x1024 .bf16) (w : FVec Ideal S4608x1024 .bf16) (a b : FVec Ideal S1024x128 .f32) (lo o : ℕ) (hl) (h)
    (inb) (L : List (View.Piece (Elt Ideal) S1024x128 .f32)) (ri : ℕ) (hB)
    (z : S1x1x256x128.Idx) (q r c : ℕ) (hr : r = (z 2).val * 4 + q) (hq : q = ri) (k : 2 ≤ c / 512) (hc : lo + o = (c / 512 * 12 + 1 * 4 + c % 512 / 128) * 128) (hz : c % 128 = (z 3).val) :
    shapeCast S1x1x256x128 (truncf (F := Ideal) (s := S256x128) .bf16 ((View.whole cc0_scratch0).readCov (⟨Rect.unit ![0, 0] S1024x128.size inb,
      shapeCast S1024x128 (plain x (part w lo hl) o h) shapeCasts_S1024x128_S1024x128⟩ :: L) (⟨![ri, 0], S256x128.size, ![4, 1], hB⟩ : LoadRect S1024x128)) bitsLt_bf16_f32) shapeCasts_S256x128_S1x1x256x128 z
      = cell x w a b 1 r c := by
  have hz3 : (z 3).val < 128 := (z 3).isLt
  have hz2 : (z 2).val < 256 := (z 2).isLt
  have hb := hB 0
  simp at hb
  refine (congrArg (fun q : FVec Ideal S256x128 .f32 => shapeCast S1x1x256x128 (truncf (F := Ideal) (s := S256x128) .bf16 q bitsLt_bf16_f32)
    shapeCasts_S256x128_S1x1x256x128 z) (reload (s := S1024x128) (View.whole cc0_scratch0) ![0, 0] inb _ L _ (by intro a; fin_cases a <;> rfl))).trans ?_
  generalize hv : plain x (part w lo hl) o h = v
  pointwise
  subst hv
  unfold cell head
  rw [hz]
  rw [if_neg (by omega)]
  exact plain_at x w lo o hl h _ (z 3) r _ (by show r = ri + 4 * (z 2).val; omega) (by omega)

/-- Every 4th row of a head, turned. -/
theorem turned_every4 (x : FVec Ideal S1024x1024 .bf16) (w : FVec Ideal S4608x1024 .bf16) (a b : FVec Ideal S1024x128 .f32) (lo o : ℕ) (hl) (h)
    (inb) (L : List (View.Piece (Elt Ideal) S1024x128 .f32)) (ri : ℕ) (hB)
    (z : S1x1x256x128.Idx) (q r c : ℕ) (hr : r = (z 2).val * 4 + q) (hq : q = ri) (k : c / 512 < 2) (hc : lo + o = (c / 512 * 12 + 1 * 4 + c % 512 / 128) * 128) (hz : c % 128 = (z 3).val) :
    shapeCast S1x1x256x128 (truncf (F := Ideal) (s := S256x128) .bf16 ((View.whole cc0_scratch0).readCov (⟨Rect.unit ![0, 0] S1024x128.size inb,
      shapeCast S1024x128 (turned x (part w lo hl) a b o h) shapeCasts_S1024x128_S1024x128⟩ :: L) (⟨![ri, 0], S256x128.size, ![4, 1], hB⟩ : LoadRect S1024x128)) bitsLt_bf16_f32) shapeCasts_S256x128_S1x1x256x128 z
      = cell x w a b 1 r c := by
  have hz3 : (z 3).val < 128 := (z 3).isLt
  have hz2 : (z 2).val < 256 := (z 2).isLt
  have hb := hB 0
  simp at hb
  refine (congrArg (fun q : FVec Ideal S256x128 .f32 => shapeCast S1x1x256x128 (truncf (F := Ideal) (s := S256x128) .bf16 q bitsLt_bf16_f32)
    shapeCasts_S256x128_S1x1x256x128 z) (reload (s := S1024x128) (View.whole cc0_scratch0) ![0, 0] inb _ L _ (by intro a; fin_cases a <;> rfl))).trans ?_
  generalize hv : turned x (part w lo hl) a b o h = v
  pointwise
  subst hv
  unfold cell head
  rw [hz]
  rw [if_pos (by omega)]
  exact turned_at x w a b lo o hl h _ (z 3) r _ _ (by show r = ri + 4 * (z 2).val; omega) (by omega) (by omega)

/-- Every 16th row of a head, a value's. -/
theorem plain_every16 (x : FVec Ideal S1024x1024 .bf16) (w : FVec Ideal S4608x1024 .bf16) (a b : FVec Ideal S1024x128 .f32) (lo o : ℕ) (hl) (h)
    (inb) (L : List (View.Piece (Elt Ideal) S1024x128 .f32)) (ri : ℕ) (hB)
    (z : S1x1x64x128.Idx) (q r c : ℕ) (hr : r = (z 2).val * 16 + q) (hq : q = ri) (k : 2 ≤ c / 512) (hc : lo + o = (c / 512 * 12 + 2 * 4 + c % 512 / 128) * 128) (hz : c % 128 = (z 3).val) :
    shapeCast S1x1x64x128 (truncf (F := Ideal) (s := S64x128) .bf16 ((View.whole cc0_scratch0).readCov (⟨Rect.unit ![0, 0] S1024x128.size inb,
      shapeCast S1024x128 (plain x (part w lo hl) o h) shapeCasts_S1024x128_S1024x128⟩ :: L) (⟨![ri, 0], S64x128.size, ![16, 1], hB⟩ : LoadRect S1024x128)) bitsLt_bf16_f32) shapeCasts_S64x128_S1x1x64x128 z
      = cell x w a b 2 r c := by
  have hz3 : (z 3).val < 128 := (z 3).isLt
  have hz2 : (z 2).val < 64 := (z 2).isLt
  have hb := hB 0
  simp at hb
  refine (congrArg (fun q : FVec Ideal S64x128 .f32 => shapeCast S1x1x64x128 (truncf (F := Ideal) (s := S64x128) .bf16 q bitsLt_bf16_f32)
    shapeCasts_S64x128_S1x1x64x128 z) (reload (s := S1024x128) (View.whole cc0_scratch0) ![0, 0] inb _ L _ (by intro a; fin_cases a <;> rfl))).trans ?_
  generalize hv : plain x (part w lo hl) o h = v
  pointwise
  subst hv
  unfold cell head
  rw [hz]
  rw [if_neg (by omega)]
  exact plain_at x w lo o hl h _ (z 3) r _ (by show r = ri + 16 * (z 2).val; omega) (by omega)

/-- Every 16th row of a head, turned. -/
theorem turned_every16 (x : FVec Ideal S1024x1024 .bf16) (w : FVec Ideal S4608x1024 .bf16) (a b : FVec Ideal S1024x128 .f32) (lo o : ℕ) (hl) (h)
    (inb) (L : List (View.Piece (Elt Ideal) S1024x128 .f32)) (ri : ℕ) (hB)
    (z : S1x1x64x128.Idx) (q r c : ℕ) (hr : r = (z 2).val * 16 + q) (hq : q = ri) (k : c / 512 < 2) (hc : lo + o = (c / 512 * 12 + 2 * 4 + c % 512 / 128) * 128) (hz : c % 128 = (z 3).val) :
    shapeCast S1x1x64x128 (truncf (F := Ideal) (s := S64x128) .bf16 ((View.whole cc0_scratch0).readCov (⟨Rect.unit ![0, 0] S1024x128.size inb,
      shapeCast S1024x128 (turned x (part w lo hl) a b o h) shapeCasts_S1024x128_S1024x128⟩ :: L) (⟨![ri, 0], S64x128.size, ![16, 1], hB⟩ : LoadRect S1024x128)) bitsLt_bf16_f32) shapeCasts_S64x128_S1x1x64x128 z
      = cell x w a b 2 r c := by
  have hz3 : (z 3).val < 128 := (z 3).isLt
  have hz2 : (z 2).val < 64 := (z 2).isLt
  have hb := hB 0
  simp at hb
  refine (congrArg (fun q : FVec Ideal S64x128 .f32 => shapeCast S1x1x64x128 (truncf (F := Ideal) (s := S64x128) .bf16 q bitsLt_bf16_f32)
    shapeCasts_S64x128_S1x1x64x128 z) (reload (s := S1024x128) (View.whole cc0_scratch0) ![0, 0] inb _ L _ (by intro a; fin_cases a <;> rfl))).trans ?_
  generalize hv : turned x (part w lo hl) a b o h = v
  pointwise
  subst hv
  unfold cell head
  rw [hz]
  rw [if_pos (by omega)]
  exact turned_at x w a b lo o hl h _ (z 3) r _ _ (by show r = ri + 16 * (z 2).val; omega) (by omega) (by omega)

end Cert.Proof.Qkv

end
-- ==== Proof.QkvSpec.lean ====
/- What the projection with the rotary embedding returns, entry by entry, of the product's entries and two tables. -/
module

public import proofs.«01_k».proof.Defs
public import Idealize.ShloMosaic.Lib.Pipeline.ValueKit

@[expose] public section

noncomputable section

namespace Cert.Proof.Qkv

open Cert.Kernel20Ideal Idealize.ShloMosaic

/-- An entry of head `n`, turned, in the product's row `r`, at position `s`. -/
def turn (p a b : ℕ → ℕ → EReal) (n r s e : ℕ) : EReal := p r (n * 128 + e) * a s e + p r (n * 128 + (e + 64) % 128) * b s e

/-- What is returned for group `g` at sequence `q`, position `s`, column `c`. -/
def value (p a b : ℕ → ℕ → EReal) (g q s c : ℕ) : EReal :=
  if c / 512 * 12 + g * 4 + c % 512 / 128 < 24 then turn p a b (c / 512 * 12 + g * 4 + c % 512 / 128) (q * 4096 + s) s (c % 128)
  else p (q * 4096 + s) ((c / 512 * 12 + g * 4 + c % 512 / 128) * 128 + c % 128)

/-- The product's entries. -/
def prodEntry (x : FVec Ideal S8192x1024 .bf16) (w : FVec Ideal S4608x1024 .bf16) (r c : ℕ) : EReal :=
  ∑ k : Fin 1024, x (ix2 (Fin.ofNat 8192 r) k) * w (ix2 (Fin.ofNat 4608 c) k)

/-- The cosines' table. -/
def cosTab (C : FVec Ideal S4096x64 .f32) (s e : ℕ) : EReal := C (ix2 (Fin.ofNat 4096 s) (Fin.ofNat 64 (e % 64)))

/-- The sines' table, negated in its first half. -/
def sinTab (S : FVec Ideal S4096x64 .f32) (s e : ℕ) : EReal :=
  if e < 64 then -(S (ix2 (Fin.ofNat 4096 s) (Fin.ofNat 64 e)) : EReal) else S (ix2 (Fin.ofNat 4096 s) (Fin.ofNat 64 (e - 64)))

theorem turn_congr (p a b : ℕ → ℕ → EReal) {n n' r r' s s' e e' : ℕ} (h1 : n = n') (h2 : r = r') (h3 : s = s') (h4 : e = e') :
    turn p a b n r s e = turn p a b n' r' s' e' := by subst h1 h2 h3 h4; rfl

end Cert.Proof.Qkv

end
-- ==== Proof.QkvRefArr.lean ====
/- The reference's projection to queries, keys and values with the rotary embedding, entry by entry. -/
module

public import proofs.«01_k».proof.Defs
public import proofs.«01_k».proof.Proof.Gen.Reference20Ideal.Run
public import proofs.«01_k».proof.Proof.QkvSpec
public import Idealize.ShloMosaic.Lib.Pipeline.ValueKit

@[expose] public section

set_option maxRecDepth 16384

noncomputable section

namespace Cert.Proof.Qkv.Ref

open Cert.Reference20Ideal Cert.Reference20Ideal.Gen Idealize.ShloMosaic Idealize.ShloMosaic.TcCoe Idealize.SL.Sem

/-- An entry of a product. -/
def entry (P : FVec Ideal S8192x4608 .f32) (r c : ℕ) : EReal := P (ix2 (Fin.ofNat 8192 r) (Fin.ofNat 4608 c))

/-- The product's heads of queries. -/
def sect0 (P : FVec Ideal S8192x4608 .f32) : FVec Ideal S2x4096x12x128 .f32 :=
  shapeCast _ (extractStridedSlice S2x4096x1x12x128 ![0, 0, 0, 0, 0] (shapeCast _ P shapeCasts_S8192x4608_S2x4096x3x12x128) slices_S2x4096x3x12x128_S2x4096x1x12x128_0_0_0_0_0) shapeCasts_S2x4096x1x12x128_S2x4096x12x128

theorem sect0_at (P : FVec Ideal S8192x4608 .f32) (b : Fin 2) (s : Fin 4096) (h : Fin 12) (e : Fin 128) :
    sect0 P (ix4 b s h e) = entry P (b.val * 4096 + s.val) ((0 * 12 + h.val) * 128 + e.val) := by
  unfold sect0 entry
  pointwise
  refine congrArg P (congrArg₂ ix2 (Fin.ext ?_) (Fin.ext ?_))
  · show _ = _ % 8192
    dsimp only
    omega
  · show _ = _ % 4608
    dsimp only
    omega

/-- The product's heads of keys. -/
def sect1 (P : FVec Ideal S8192x4608 .f32) : FVec Ideal S2x4096x12x128 .f32 :=
  shapeCast _ (extractStridedSlice S2x4096x1x12x128 ![0, 0, 1, 0, 0] (shapeCast _ P shapeCasts_S8192x4608_S2x4096x3x12x128) slices_S2x4096x3x12x128_S2x4096x1x12x128_0_0_1_0_0) shapeCasts_S2x4096x1x12x128_S2x4096x12x128

theorem sect1_at (P : FVec Ideal S8192x4608 .f32) (b : Fin 2) (s : Fin 4096) (h : Fin 12) (e : Fin 128) :
    sect1 P (ix4 b s h e) = entry P (b.val * 4096 + s.val) ((1 * 12 + h.val) * 128 + e.val) := by
  unfold sect1 entry
  pointwise
  refine congrArg P (congrArg₂ ix2 (Fin.ext ?_) (Fin.ext ?_))
  · show _ = _ % 8192
    dsimp only
    omega
  · show _ = _ % 4608
    dsimp only
    omega

/-- The product's heads of values. -/
def sect2 (P : FVec Ideal S8192x4608 .f32) : FVec Ideal S2x4096x12x128 .f32 :=
  shapeCast _ (extractStridedSlice S2x4096x1x12x128 ![0, 0, 2, 0, 0] (shapeCast _ P shapeCasts_S8192x4608_S2x4096x3x12x128) slices_S2x4096x3x12x128_S2x4096x1x12x128_0_0_2_0_0) shapeCasts_S2x4096x1x12x128_S2x4096x12x128

theorem sect2_at (P : FVec Ideal S8192x4608 .f32) (b : Fin 2) (s : Fin 4096) (h : Fin 12) (e : Fin 128) :
    sect2 P (ix4 b s h e) = entry P (b.val * 4096 + s.val) ((2 * 12 + h.val) * 128 + e.val) := by
  unfold sect2 entry
  pointwise
  refine congrArg P (congrArg₂ ix2 (Fin.ext ?_) (Fin.ext ?_))
  · show _ = _ % 8192
    dsimp only
    omega
  · show _ = _ % 4608
    dsimp only
    omega

/-- The embedding of some heads. -/
def rope (X : FVec Ideal S2x4096x12x128 .f32) (C S : FVec Ideal S4096x64 .f32) : FVec Ideal S2x4096x12x128 .f32 :=
  concatenate S2x4096x12x128 3 [⟨S2x4096x12x64, (subf (mulf (extractStridedSlice S2x4096x12x64 ![0, 0, 0, 0] X slices_S2x4096x12x128_S2x4096x12x64_0_0_0_0) (broadcastInDim S2x4096x12x64 ![0, 1, 2, 3] bcast_S1x4096x1x64_S2x4096x12x64_0_1_2_3 (broadcastInDim S1x4096x1x64 ![1, 3] bcast_S4096x64_S1x4096x1x64_1_3 C))) (mulf (extractStridedSlice S2x4096x12x64 ![0, 0, 0, 64] X slices_S2x4096x12x128_S2x4096x12x64_0_0_0_64) (broadcastInDim S2x4096x12x64 ![0, 1, 2, 3] bcast_S1x4096x1x64_S2x4096x12x64_0_1_2_3 (broadcastInDim S1x4096x1x64 ![1, 3] bcast_S4096x64_S1x4096x1x64_1_3 S))))⟩, ⟨S2x4096x12x64, (addf (mulf (extractStridedSlice S2x4096x12x64 ![0, 0, 0, 64] X slices_S2x4096x12x128_S2x4096x12x64_0_0_0_64) (broadcastInDim S2x4096x12x64 ![0, 1, 2, 3] bcast_S1x4096x1x64_S2x4096x12x64_0_1_2_3 (broadcastInDim S1x4096x1x64 ![1, 3] bcast_S4096x64_S1x4096x1x64_1_3 C))) (mulf (extractStridedSlice S2x4096x12x64 ![0, 0, 0, 0] X slices_S2x4096x12x128_S2x4096x12x64_0_0_0_0) (broadcastInDim S2x4096x12x64 ![0, 1, 2, 3] bcast_S1x4096x1x64_S2x4096x12x64_0_1_2_3 (broadcastInDim S1x4096x1x64 ![1, 3] bcast_S4096x64_S1x4096x1x64_1_3 S))))⟩] concatenates_S2x4096x12x64_S2x4096x12x64_S2x4096x12x128_d3

/-- The embedding, entry by entry, of heads that are the product's from head `n` on. -/
theorem rope_at (P : FVec Ideal S8192x4608 .f32) (X : FVec Ideal S2x4096x12x128 .f32) (C S : FVec Ideal S4096x64 .f32) (n : ℕ)
    (hX : ∀ (b : Fin 2) (s : Fin 4096) (h : Fin 12) (e : Fin 128), X (ix4 b s h e) = entry P (b.val * 4096 + s.val) ((n + h.val) * 128 + e.val))
    (b : Fin 2) (s : Fin 4096) (h : Fin 12) (e : Fin 128) :
    rope X C S (ix4 b s h e) = turn (entry P) (cosTab C) (sinTab S) (n + h.val) (b.val * 4096 + s.val) s.val e.val := by
  have hs : Fin.ofNat 4096 s.val = s := Fin.ext (Nat.mod_eq_of_lt s.isLt)
  have he : e.val < 128 := e.isLt
  unfold turn cosTab sinTab
  rw [hs]
  by_cases hh : e.val < 64
  · have e1 : (e.val + 64) % 128 = 64 + e.val := by omega
    have e2 : Fin.ofNat 64 (e.val % 64) = (⟨e.val, hh⟩ : Fin 64) := Fin.ext (by show e.val % 64 % 64 = e.val; omega)
    have e3 : Fin.ofNat 64 e.val = (⟨e.val, hh⟩ : Fin 64) := Fin.ext (by show e.val % 64 = e.val; omega)
    rw [if_pos hh, e1, e2, e3, ← hX, mul_neg, ← sub_eq_add_neg]
    have h2 := hX b s h ⟨64 + e.val, by omega⟩
    dsimp only at h2
    rw [← h2]
    unfold rope
    pointwise
    rw [dif_pos hh]
  · have e1 : (e.val + 64) % 128 = e.val - 64 := by omega
    have e2 : Fin.ofNat 64 (e.val % 64) = (⟨e.val - 64, by omega⟩ : Fin 64) := Fin.ext (by show e.val % 64 % 64 = e.val - 64; omega)
    have e3 : Fin.ofNat 64 (e.val - 64) = (⟨e.val - 64, by omega⟩ : Fin 64) := Fin.ext (by show (e.val - 64) % 64 = e.val - 64; omega)
    have e4 : (⟨64 + (e.val - 64), by omega⟩ : Fin 128) = e := Fin.ext (by show 64 + (e.val - 64) = e.val; omega)
    rw [if_neg hh, e1, e2, e3, ← hX]
    have h2 := hX b s h ⟨e.val - 64, by omega⟩
    dsimp only at h2
    rw [← h2]
    unfold rope
    pointwise
    rw [dif_neg hh]
    simp only [e4]

/-- The rows of the group of dilation 1. -/
def grp1 (q k v : FVec Ideal S2x4096x12x128 .f32) : FVec Ideal S2x1x4096x1536 .bf16 :=
  truncf .bf16 (transpose S2x1x4096x1536 [0, 2, 1, 3] ((concatenate S2x4096x1x1536 3 [⟨S2x4096x1x512, ((shapeCast _ (extractStridedSlice S2x4096x4x128 ![0, 0, 0, 0] q slices_S2x4096x12x128_S2x4096x4x128_0_0_0_0) shapeCasts_S2x4096x4x128_S2x4096x1x512) : FVec Ideal S2x4096x1x512 .f32)⟩, ⟨S2x4096x1x512, ((shapeCast _ (extractStridedSlice S2x4096x4x128 ![0, 0, 0, 0] k slices_S2x4096x12x128_S2x4096x4x128_0_0_0_0) shapeCasts_S2x4096x4x128_S2x4096x1x512) : FVec Ideal S2x4096x1x512 .f32)⟩, ⟨S2x4096x1x512, ((shapeCast _ (extractStridedSlice S2x4096x4x128 ![0, 0, 0, 0] v slices_S2x4096x12x128_S2x4096x4x128_0_0_0_0) shapeCasts_S2x4096x4x128_S2x4096x1x512) : FVec Ideal S2x4096x1x512 .f32)⟩] concatenates_S2x4096x1x512_S2x4096x1x512_S2x4096x1x512_S2x4096x1x1536_d3 : FVec Ideal S2x4096x1x1536 .f32)) transposes_S2x4096x1x1536_S2x1x4096x1536_0_2_1_3) bitsLt_bf16_f32

theorem grp1_at (p a b : ℕ → ℕ → EReal) (q k v : FVec Ideal S2x4096x12x128 .f32)
    (hq : ∀ (d : Fin 2) (s : Fin 4096) (h : Fin 12) (e : Fin 128), q (ix4 d s h e) = turn p a b (0 * 12 + h.val) (d.val * 4096 + s.val) s.val e.val)
    (hk : ∀ (d : Fin 2) (s : Fin 4096) (h : Fin 12) (e : Fin 128), k (ix4 d s h e) = turn p a b (1 * 12 + h.val) (d.val * 4096 + s.val) s.val e.val)
    (hv : ∀ (d : Fin 2) (s : Fin 4096) (h : Fin 12) (e : Fin 128), v (ix4 d s h e) = p (d.val * 4096 + s.val) ((2 * 12 + h.val) * 128 + e.val))
    (i : S2x1x4096x1536.Idx) : grp1 q k v i = value p a b 0 (i 0).val (i 2).val (i 3).val := by
  have h1 : (i 1).val < 1 := (i 1).isLt
  have h3 : (i 3).val < 1536 := (i 3).isLt
  unfold value
  by_cases c1 : (i 3).val < 512
  · rw [if_pos (by omega)]
    unfold grp1
    pointwise
    rw [dif_pos c1]
    refine (hq _ _ _ _).trans (turn_congr p a b ?_ rfl rfl rfl)
    dsimp only
    omega
  · by_cases c2 : (i 3).val - 512 < 512
    · rw [if_pos (by omega)]
      unfold grp1
      pointwise
      rw [dif_neg c1, dif_pos c2]
      refine (hk _ _ _ _).trans (turn_congr p a b ?_ rfl rfl ?_) <;> (dsimp only; omega)
    · rw [if_neg (by omega)]
      unfold grp1
      pointwise
      rw [dif_neg c1, dif_neg c2]
      refine (hv _ _ _ _).trans (congrArg₂ p rfl ?_)
      dsimp only
      omega

/-- The rows of the group of dilation 4. -/
def grp4 (q k v : FVec Ideal S2x4096x12x128 .f32) : FVec Ideal S2x4x1024x1536 .bf16 :=
  truncf .bf16 (transpose S2x4x1024x1536 [0, 2, 1, 3] ((concatenate S2x1024x4x1536 3 [⟨S2x1024x4x512, ((shapeCast _ (extractStridedSlice S2x4096x4x128 ![0, 0, 4, 0] q slices_S2x4096x12x128_S2x4096x4x128_0_0_4_0) shapeCasts_S2x4096x4x128_S2x1024x4x512) : FVec Ideal S2x1024x4x512 .f32)⟩, ⟨S2x1024x4x512, ((shapeCast _ (extractStridedSlice S2x4096x4x128 ![0, 0, 4, 0] k slices_S2x4096x12x128_S2x4096x4x128_0_0_4_0) shapeCasts_S2x4096x4x128_S2x1024x4x512) : FVec Ideal S2x1024x4x512 .f32)⟩, ⟨S2x1024x4x512, ((shapeCast _ (extractStridedSlice S2x4096x4x128 ![0, 0, 4, 0] v slices_S2x4096x12x128_S2x4096x4x128_0_0_4_0) shapeCasts_S2x4096x4x128_S2x1024x4x512) : FVec Ideal S2x1024x4x512 .f32)⟩] concatenates_S2x1024x4x512_S2x1024x4x512_S2x1024x4x512_S2x1024x4x1536_d3 : FVec Ideal S2x1024x4x1536 .f32)) transposes_S2x1024x4x1536_S2x4x1024x1536_0_2_1_3) bitsLt_bf16_f32

theorem grp4_at (p a b : ℕ → ℕ → EReal) (q k v : FVec Ideal S2x4096x12x128 .f32)
    (hq : ∀ (d : Fin 2) (s : Fin 4096) (h : Fin 12) (e : Fin 128), q (ix4 d s h e) = turn p a b (0 * 12 + h.val) (d.val * 4096 + s.val) s.val e.val)
    (hk : ∀ (d : Fin 2) (s : Fin 4096) (h : Fin 12) (e : Fin 128), k (ix4 d s h e) = turn p a b (1 * 12 + h.val) (d.val * 4096 + s.val) s.val e.val)
    (hv : ∀ (d : Fin 2) (s : Fin 4096) (h : Fin 12) (e : Fin 128), v (ix4 d s h e) = p (d.val * 4096 + s.val) ((2 * 12 + h.val) * 128 + e.val))
    (i : S2x4x1024x1536.Idx) : grp4 q k v i = value p a b 1 (i 0).val ((i 2).val * 4 + (i 1).val) (i 3).val := by
  have h1 : (i 1).val < 4 := (i 1).isLt
  have h3 : (i 3).val < 1536 := (i 3).isLt
  unfold value
  by_cases c1 : (i 3).val < 512
  · rw [if_pos (by omega)]
    unfold grp4
    pointwise
    rw [dif_pos c1]
    refine (hq _ _ _ _).trans (turn_congr p a b ?_ rfl rfl rfl)
    dsimp only
    omega
  · by_cases c2 : (i 3).val - 512 < 512
    · rw [if_pos (by omega)]
      unfold grp4
      pointwise
      rw [dif_neg c1, dif_pos c2]
      refine (hk _ _ _ _).trans (turn_congr p a b ?_ rfl rfl ?_) <;> (dsimp only; omega)
    · rw [if_neg (by omega)]
      unfold grp4
      pointwise
      rw [dif_neg c1, dif_neg c2]
      refine (hv _ _ _ _).trans (congrArg₂ p rfl ?_)
      dsimp only
      omega

/-- The rows of the group of dilation 16. -/
def grp16 (q k v : FVec Ideal S2x4096x12x128 .f32) : FVec Ideal S2x16x256x1536 .bf16 :=
  truncf .bf16 (transpose S2x16x256x1536 [0, 2, 1, 3] ((concatenate S2x256x16x1536 3 [⟨S2x256x16x512, ((shapeCast _ (extractStridedSlice S2x4096x4x128 ![0, 0, 8, 0] q slices_S2x4096x12x128_S2x4096x4x128_0_0_8_0) shapeCasts_S2x4096x4x128_S2x256x16x512) : FVec Ideal S2x256x16x512 .f32)⟩, ⟨S2x256x16x512, ((shapeCast _ (extractStridedSlice S2x4096x4x128 ![0, 0, 8, 0] k slices_S2x4096x12x128_S2x4096x4x128_0_0_8_0) shapeCasts_S2x4096x4x128_S2x256x16x512) : FVec Ideal S2x256x16x512 .f32)⟩, ⟨S2x256x16x512, ((shapeCast _ (extractStridedSlice S2x4096x4x128 ![0, 0, 8, 0] v slices_S2x4096x12x128_S2x4096x4x128_0_0_8_0) shapeCasts_S2x4096x4x128_S2x256x16x512) : FVec Ideal S2x256x16x512 .f32)⟩] concatenates_S2x256x16x512_S2x256x16x512_S2x256x16x512_S2x256x16x1536_d3 : FVec Ideal S2x256x16x1536 .f32)) transposes_S2x256x16x1536_S2x16x256x1536_0_2_1_3) bitsLt_bf16_f32

theorem grp16_at (p a b : ℕ → ℕ → EReal) (q k v : FVec Ideal S2x4096x12x128 .f32)
    (hq : ∀ (d : Fin 2) (s : Fin 4096) (h : Fin 12) (e : Fin 128), q (ix4 d s h e) = turn p a b (0 * 12 + h.val) (d.val * 4096 + s.val) s.val e.val)
    (hk : ∀ (d : Fin 2) (s : Fin 4096) (h : Fin 12) (e : Fin 128), k (ix4 d s h e) = turn p a b (1 * 12 + h.val) (d.val * 4096 + s.val) s.val e.val)
    (hv : ∀ (d : Fin 2) (s : Fin 4096) (h : Fin 12) (e : Fin 128), v (ix4 d s h e) = p (d.val * 4096 + s.val) ((2 * 12 + h.val) * 128 + e.val))
    (i : S2x16x256x1536.Idx) : grp16 q k v i = value p a b 2 (i 0).val ((i 2).val * 16 + (i 1).val) (i 3).val := by
  have h1 : (i 1).val < 16 := (i 1).isLt
  have h3 : (i 3).val < 1536 := (i 3).isLt
  unfold value
  by_cases c1 : (i 3).val < 512
  · rw [if_pos (by omega)]
    unfold grp16
    pointwise
    rw [dif_pos c1]
    refine (hq _ _ _ _).trans (turn_congr p a b ?_ rfl rfl rfl)
    dsimp only
    omega
  · by_cases c2 : (i 3).val - 512 < 512
    · rw [if_pos (by omega)]
      unfold grp16
      pointwise
      rw [dif_neg c1, dif_pos c2]
      refine (hk _ _ _ _).trans (turn_congr p a b ?_ rfl rfl ?_) <;> (dsimp only; omega)
    · rw [if_neg (by omega)]
      unfold grp16
      pointwise
      rw [dif_neg c1, dif_neg c2]
      refine (hv _ _ _ _).trans (congrArg₂ p rfl ?_)
      dsimp only
      omega

/-- The angles. -/
def angle : FVec Ideal S4096x64 .f32 :=
  (mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))

/-- The product. -/
def product (x : FVec Ideal S8192x1024 .bf16) (w : FVec Ideal S4608x1024 .bf16) : FVec Ideal S8192x4608 .f32 :=
  Host.dotGeneral dot_S8192x1024_S1024x4608_S8192x4608_1_0_0_1_n_n none (extf .f32 x bitsLt_bf16_f32) (transpose S1024x4608 [1, 0] (extf .f32 w bitsLt_bf16_f32) transposes_S4608x1024_S1024x4608_1_0)

theorem product_at (x : FVec Ideal S8192x1024 .bf16) (w : FVec Ideal S4608x1024 .bf16) : entry (product x w) = prodEntry x w := by
  funext r c
  unfold entry product prodEntry
  pointwise

variable (m : (ℓ : Loc nD τ sig) → Buf (Elt Ideal) ℓ) (c : Dev nD) in
/-- The reference's result for the group of dilation 1. -/
theorem out1 : Cert.Reference20Ideal.Value.res_out0 m c = fun i : S2x1x4096x1536.Idx =>
    value (prodEntry (m ((c.tc : Thread nD τ).loc main_arg0)) (m ((c.tc : Thread nD τ).loc main_arg1))) (cosTab (Host.cos angle)) (sinTab (Host.sin angle))
      0 (i 0).val (i 2).val (i 3).val := by
  rw [← product_at]
  generalize hP : product (m ((c.tc : Thread nD τ).loc main_arg0)) (m ((c.tc : Thread nD τ).loc main_arg1)) = P
  have e : Cert.Reference20Ideal.Value.res_out0 m c
      = grp1 (rope (sect0 P) (Host.cos angle) (Host.sin angle)) (rope (sect1 P) (Host.cos angle) (Host.sin angle)) (sect2 P) := by
    subst hP
    unfold product
    rfl
  rw [e]
  funext i
  exact grp1_at _ _ _ _ _ _ (rope_at P _ _ _ _ (sect0_at P)) (rope_at P _ _ _ _ (sect1_at P)) (sect2_at P) i

variable (m : (ℓ : Loc nD τ sig) → Buf (Elt Ideal) ℓ) (c : Dev nD) in
/-- The reference's result for the group of dilation 4. -/
theorem out4 : Cert.Reference20Ideal.Value.res_out1 m c = fun i : S2x4x1024x1536.Idx =>
    value (prodEntry (m ((c.tc : Thread nD τ).loc main_arg0)) (m ((c.tc : Thread nD τ).loc main_arg1))) (cosTab (Host.cos angle)) (sinTab (Host.sin angle))
      1 (i 0).val ((i 2).val * 4 + (i 1).val) (i 3).val := by
  rw [← product_at]
  generalize hP : product (m ((c.tc : Thread nD τ).loc main_arg0)) (m ((c.tc : Thread nD τ).loc main_arg1)) = P
  have e : Cert.Reference20Ideal.Value.res_out1 m c
      = grp4 (rope (sect0 P) (Host.cos angle) (Host.sin angle)) (rope (sect1 P) (Host.cos angle) (Host.sin angle)) (sect2 P) := by
    subst hP
    unfold product
    rfl
  rw [e]
  funext i
  exact grp4_at _ _ _ _ _ _ (rope_at P _ _ _ _ (sect0_at P)) (rope_at P _ _ _ _ (sect1_at P)) (sect2_at P) i

variable (m : (ℓ : Loc nD τ sig) → Buf (Elt Ideal) ℓ) (c : Dev nD) in
/-- The reference's result for the group of dilation 16. -/
theorem out16 : Cert.Reference20Ideal.Value.res_out2 m c = fun i : S2x16x256x1536.Idx =>
    value (prodEntry (m ((c.tc : Thread nD τ).loc main_arg0)) (m ((c.tc : Thread nD τ).loc main_arg1))) (cosTab (Host.cos angle)) (sinTab (Host.sin angle))
      2 (i 0).val ((i 2).val * 16 + (i 1).val) (i 3).val := by
  rw [← product_at]
  generalize hP : product (m ((c.tc : Thread nD τ).loc main_arg0)) (m ((c.tc : Thread nD τ).loc main_arg1)) = P
  have e : Cert.Reference20Ideal.Value.res_out2 m c
      = grp16 (rope (sect0 P) (Host.cos angle) (Host.sin angle)) (rope (sect1 P) (Host.cos angle) (Host.sin angle)) (sect2 P) := by
    subst hP
    unfold product
    rfl
  rw [e]
  funext i
  exact grp16_at _ _ _ _ _ _ (rope_at P _ _ _ _ (sect0_at P)) (rope_at P _ _ _ _ (sect1_at P)) (sect2_at P) i

end Cert.Proof.Qkv.Ref

end
-- ==== Proof.QkvWhole.lean ====
/- A block of the projection is the whole one's, and the two tables that the host prepares, entry by entry. -/
module

public import proofs.«01_k».proof.Defs
public import proofs.«01_k».proof.Proof.QkvBlock
public import proofs.«01_k».proof.Proof.QkvSpec
public import proofs.«01_k».proof.Proof.QkvRefArr
public import proofs.«01_k».proof.Proof.Gen.Kernel20Ideal.Value
public import Idealize.ShloMosaic.Lib.Pipeline.ValueKit
public import Idealize.ShloMosaic.Lib.Pipeline.ReadBack

@[expose] public section

set_option maxRecDepth 16384

noncomputable section

namespace Cert.Proof.Qkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

/-- Which blocks the windows of a point are at. -/
theorem idx : ∀ t : Fin grid0.N, win0_0.index t = ![t.val, 0] ∧ win0_1.index t = ![0, 0] ∧ win0_2.index t = ![t.val % 4, 0]
    ∧ win0_3.index t = ![t.val % 4, 0] ∧ win0_4.index t = ![t.val / 4, 0, t.val % 4, 0] ∧ win0_5.index t = ![t.val / 4, 0, t.val % 4, 0]
    ∧ win0_6.index t = ![t.val / 4, 0, t.val % 4, 0] := by decide +kernel

/-- The tokens, as launched. -/
def tokens : FVec Ideal S8192x1024 .bf16 := m ((c : Thread nD τ).loc main_arg0)

/-- The weights, as launched. -/
def weights : FVec Ideal S4608x1024 .bf16 := m ((c : Thread nD τ).loc main_arg1)

/-- The cosines' table that the host prepares. -/
def hostCos : FVec Ideal S4096x128 .f32 := V m c main_v15

/-- The sines' table that the host prepares. -/
def hostSin : FVec Ideal S4096x128 .f32 := V m c main_v17

theorem hostCos_at (s e : ℕ) (hs : s < 4096) (he : e < 128) :
    hostCos m c (ix2 (Fin.ofNat 4096 s) (Fin.ofNat 128 e)) = cosTab (Host.cos Ref.angle) s e := by
  have h : hostCos m c = concatenate S4096x128 1 [⟨S4096x64, (Host.cos Ref.angle : FVec Ideal S4096x64 .f32)⟩, ⟨S4096x64, (Host.cos Ref.angle : FVec Ideal S4096x64 .f32)⟩] concatenates_S4096x64_S4096x64_S4096x128_d1 := by
    unfold hostCos
    entry_read
    rfl
  rw [h]
  generalize (Host.cos Ref.angle : FVec Ideal S4096x64 .f32) = C
  have e0 : Fin.ofNat 128 e = (⟨e, he⟩ : Fin 128) := Fin.ext (Nat.mod_eq_of_lt he)
  have e1 : Fin.ofNat 4096 s = (⟨s, hs⟩ : Fin 4096) := Fin.ext (Nat.mod_eq_of_lt hs)
  unfold cosTab
  rw [e0, e1]
  by_cases hh : e < 64
  · rw [show Fin.ofNat 64 (e % 64) = (⟨e, hh⟩ : Fin 64) from Fin.ext (by show e % 64 % 64 = e; omega)]
    pointwise
    rw [dif_pos hh]
  · rw [show Fin.ofNat 64 (e % 64) = (⟨e - 64, by omega⟩ : Fin 64) from Fin.ext (by show e % 64 % 64 = e - 64; omega)]
    pointwise
    rw [dif_neg hh]

theorem hostSin_at (s e : ℕ) (hs : s < 4096) (he : e < 128) :
    hostSin m c (ix2 (Fin.ofNat 4096 s) (Fin.ofNat 128 e)) = sinTab (Host.sin Ref.angle) s e := by
  have h : hostSin m c = concatenate S4096x128 1 [⟨S4096x64, (Host.negf (Host.sin Ref.angle : FVec Ideal S4096x64 .f32) : FVec Ideal S4096x64 .f32)⟩, ⟨S4096x64, (Host.sin Ref.angle : FVec Ideal S4096x64 .f32)⟩] concatenates_S4096x64_S4096x64_S4096x128_d1 := by
    unfold hostSin
    entry_read
    rfl
  rw [h]
  generalize (Host.sin Ref.angle : FVec Ideal S4096x64 .f32) = C
  have e0 : Fin.ofNat 128 e = (⟨e, he⟩ : Fin 128) := Fin.ext (Nat.mod_eq_of_lt he)
  have e1 : Fin.ofNat 4096 s = (⟨s, hs⟩ : Fin 4096) := Fin.ext (Nat.mod_eq_of_lt hs)
  unfold sinTab
  rw [e0, e1]
  by_cases hh : e < 64
  · rw [if_pos hh, show Fin.ofNat 64 e = (⟨e, hh⟩ : Fin 64) from Fin.ext (by show e % 64 = e; omega)]
    pointwise
    rw [dif_pos hh]
  · rw [if_neg hh, show Fin.ofNat 64 (e - 64) = (⟨e - 64, by omega⟩ : Fin 64) from Fin.ext (by show (e - 64) % 64 = e - 64; omega)]
    pointwise
    rw [dif_neg hh]

theorem acc_block (t : Fin cfg0.N) (r k : ℕ) (hr : r < 1024) (hk : k < 4608) :
    acc (iblk m c 0 t) (iblk m c 1 t) r k = prodEntry (tokens m c) (weights m c) (t.val * 1024 + r) k := by
  obtain ⟨a0, a1, -⟩ := idx t
  have ht : t.val < 8 := t.isLt
  have e0 : Fin.ofNat 1024 r = (⟨r, hr⟩ : Fin 1024) := Fin.ext (Nat.mod_eq_of_lt hr)
  have e1 : Fin.ofNat 4608 k = (⟨k, hk⟩ : Fin 4608) := Fin.ext (Nat.mod_eq_of_lt hk)
  have e2 : Fin.ofNat 8192 (t.val * 1024 + r) = (⟨t.val * 1024 + r, by omega⟩ : Fin 8192) := Fin.ext (Nat.mod_eq_of_lt (by omega))
  unfold acc prodEntry
  rw [e0, e1, e2]
  refine Finset.sum_congr rfl fun q _ => ?_
  congr 1
  · unfold tokens
    blk_ext [iblk, V, a0]
  · unfold weights
    blk_ext [iblk, V, a1]

theorem cos_block (t : Fin cfg0.N) (r e : ℕ) (hr : r < 1024) (he : e < 128) :
    tab (iblk m c 2 t) r e = hostCos m c (ix2 (Fin.ofNat 4096 (t.val % 4 * 1024 + r)) (Fin.ofNat 128 e)) := by
  obtain ⟨-, -, a0, -⟩ := idx t
  have e0 : Fin.ofNat 1024 r = (⟨r, hr⟩ : Fin 1024) := Fin.ext (Nat.mod_eq_of_lt hr)
  have e1 : Fin.ofNat 128 e = (⟨e, he⟩ : Fin 128) := Fin.ext (Nat.mod_eq_of_lt he)
  have e2 : Fin.ofNat 4096 (t.val % 4 * 1024 + r) = (⟨t.val % 4 * 1024 + r, by omega⟩ : Fin 4096) := Fin.ext (Nat.mod_eq_of_lt (by omega))
  unfold tab
  rw [e0, e1, e2]
  unfold hostCos
  blk_ext [iblk, a0]

theorem sin_block (t : Fin cfg0.N) (r e : ℕ) (hr : r < 1024) (he : e < 128) :
    tab (iblk m c 3 t) r e = hostSin m c (ix2 (Fin.ofNat 4096 (t.val % 4 * 1024 + r)) (Fin.ofNat 128 e)) := by
  obtain ⟨-, -, -, a0, -⟩ := idx t
  have e0 : Fin.ofNat 1024 r = (⟨r, hr⟩ : Fin 1024) := Fin.ext (Nat.mod_eq_of_lt hr)
  have e1 : Fin.ofNat 128 e = (⟨e, he⟩ : Fin 128) := Fin.ext (Nat.mod_eq_of_lt he)
  have e2 : Fin.ofNat 4096 (t.val % 4 * 1024 + r) = (⟨t.val % 4 * 1024 + r, by omega⟩ : Fin 4096) := Fin.ext (Nat.mod_eq_of_lt (by omega))
  unfold tab
  rw [e0, e1, e2]
  unfold hostSin
  blk_ext [iblk, a0]

/-- A block's cell is the whole result's, where the block is. -/
theorem cell_block (t : Fin cfg0.N) (g r k q s : ℕ) (hg : g < 3) (hr : r < 1024) (hk : k < 1536) (hq : q = t.val / 4) (hs : s = t.val % 4 * 1024 + r) :
    cell (iblk m c 0 t) (iblk m c 1 t) (iblk m c 2 t) (iblk m c 3 t) g r k
      = value (prodEntry (tokens m c) (weights m c)) (cosTab (Host.cos Ref.angle)) (sinTab (Host.sin Ref.angle)) g q s k := by
  have e : q * 4096 + s = t.val * 1024 + r := by omega
  unfold cell value turn head
  rw [acc_block m c t r _ hr (by omega), acc_block m c t r _ hr (by omega), cos_block m c t r _ hr (by omega), sin_block m c t r _ hr (by omega),
    hostCos_at m c _ _ (by omega) (by omega), hostSin_at m c _ _ (by omega) (by omega), e, hs]

end Cert.Proof.Qkv

end
-- ==== Proof.QkvOne.lean ====
/- The block that a point leaves of the group of dilation 1. -/
module

public import proofs.«01_k».proof.Defs
public import proofs.«01_k».proof.Proof.Gen.Kernel20Ideal.Value
public import Idealize.ShloMosaic.Lib.Pipeline.ValueKit
public import Idealize.ShloMosaic.Lib.Pipeline.ReadBack
public import proofs.«01_k».proof.Proof.QkvBlock

@[expose] public section

set_option maxRecDepth 16384

noncomputable section

namespace Cert.Proof.Qkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

set_option maxHeartbeats 20000000 in
/-- The block that a point leaves of the group of dilation 1. -/
theorem out1 (t : Fin cfg0.N) (j : S1x1x1024x1536.Idx) :
    (outsAt0 m c t).1 j = cell (iblk m c 0 t) (iblk m c 1 t) (iblk m c 2 t) (iblk m c 3 t) 0 (j 2).val (j 3).val := by
  unfold outsAt0
  frame_out
  canon_tiles z h
  all_goals (have b3 : (z 3).val < 128 := (z 3).isLt; have b1 : (z 1).val < 1 := (z 1).isLt)
  all_goals first
    | (have k : 2 ≤ (j 3).val / 512 := by omega
       exact plain_whole (iblk m c 0 t) (iblk m c 1 t) (iblk m c 2 t) (iblk m c 3 t) _ _ _ (by first | exact slices_S1024x768_o0_0_S1024x128 | exact slices_S1024x768_o0_128_S1024x128 | exact slices_S1024x768_o0_256_S1024x128 | exact slices_S1024x768_o0_384_S1024x128 | exact slices_S1024x768_o0_512_S1024x128 | exact slices_S1024x768_o0_640_S1024x128) _ _ _ (by omega) (by omega) (by omega) (by omega))
    | (have k : (j 3).val / 512 < 2 := by omega
       exact turned_whole (iblk m c 0 t) (iblk m c 1 t) (iblk m c 2 t) (iblk m c 3 t) _ _ _ (by first | exact slices_S1024x768_o0_0_S1024x128 | exact slices_S1024x768_o0_128_S1024x128 | exact slices_S1024x768_o0_256_S1024x128 | exact slices_S1024x768_o0_384_S1024x128 | exact slices_S1024x768_o0_512_S1024x128 | exact slices_S1024x768_o0_640_S1024x128) _ _ _ (by omega) (by omega) (by omega) (by omega))

end Cert.Proof.Qkv

end
-- ==== Proof.QkvFour.lean ====
/- The block that a point leaves of the group of dilation 4. -/
module

public import proofs.«01_k».proof.Defs
public import proofs.«01_k».proof.Proof.Gen.Kernel20Ideal.Value
public import Idealize.ShloMosaic.Lib.Pipeline.ValueKit
public import Idealize.ShloMosaic.Lib.Pipeline.ReadBack
public import proofs.«01_k».proof.Proof.QkvBlock

@[expose] public section

set_option maxRecDepth 16384

noncomputable section

namespace Cert.Proof.Qkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

set_option maxHeartbeats 20000000 in
/-- The block that a point leaves of the group of dilation 4. -/
theorem out4 (t : Fin cfg0.N) (j : S1x4x256x1536.Idx) :
    (outsAt0 m c t).2.1 j = cell (iblk m c 0 t) (iblk m c 1 t) (iblk m c 2 t) (iblk m c 3 t) 1 ((j 2).val * 4 + (j 1).val) (j 3).val := by
  unfold outsAt0
  frame_out
  canon_tiles z h
  all_goals (have b3 : (z 3).val < 128 := (z 3).isLt; have b1 : (z 1).val < 1 := (z 1).isLt)
  all_goals first
    | (have k : 2 ≤ (j 3).val / 512 := by omega
       exact plain_every4 (iblk m c 0 t) (iblk m c 1 t) (iblk m c 2 t) (iblk m c 3 t) _ _ _ _ _ _ _ _ _ (j 1).val _ _ (by omega) (by omega) (by omega) (by omega) (by omega))
    | (have k : (j 3).val / 512 < 2 := by omega
       exact turned_every4 (iblk m c 0 t) (iblk m c 1 t) (iblk m c 2 t) (iblk m c 3 t) _ _ _ _ _ _ _ _ _ (j 1).val _ _ (by omega) (by omega) (by omega) (by omega) (by omega))

end Cert.Proof.Qkv

end
-- ==== Proof.QkvSixteen.lean ====
/- The block that a point leaves of the group of dilation 16. -/
module

public import proofs.«01_k».proof.Defs
public import proofs.«01_k».proof.Proof.Gen.Kernel20Ideal.Value
public import Idealize.ShloMosaic.Lib.Pipeline.ValueKit
public import Idealize.ShloMosaic.Lib.Pipeline.ReadBack
public import proofs.«01_k».proof.Proof.QkvBlock

@[expose] public section

set_option maxRecDepth 16384

noncomputable section

namespace Cert.Proof.Qkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

set_option maxHeartbeats 20000000 in
/-- The block that a point leaves of the group of dilation 16. -/
theorem out16 (t : Fin cfg0.N) (j : S1x16x64x1536.Idx) :
    (outsAt0 m c t).2.2 j = cell (iblk m c 0 t) (iblk m c 1 t) (iblk m c 2 t) (iblk m c 3 t) 2 ((j 2).val * 16 + (j 1).val) (j 3).val := by
  unfold outsAt0
  frame_out
  canon_tiles z h
  all_goals (have b3 : (z 3).val < 128 := (z 3).isLt; have b1 : (z 1).val < 1 := (z 1).isLt)
  all_goals first
    | (have k : 2 ≤ (j 3).val / 512 := by omega
       exact plain_every16 (iblk m c 0 t) (iblk m c 1 t) (iblk m c 2 t) (iblk m c 3 t) _ _ _ (by first | exact slices_S1024x768_o0_0_S1024x128 | exact slices_S1024x768_o0_128_S1024x128 | exact slices_S1024x768_o0_256_S1024x128 | exact slices_S1024x768_o0_384_S1024x128 | exact slices_S1024x768_o0_512_S1024x128 | exact slices_S1024x768_o0_640_S1024x128) _ _ _ _ _ (j 1).val _ _ (by omega) (by omega) (by omega) (by omega) (by omega))
    | (have k : (j 3).val / 512 < 2 := by omega
       exact turned_every16 (iblk m c 0 t) (iblk m c 1 t) (iblk m c 2 t) (iblk m c 3 t) _ _ _ (by first | exact slices_S1024x768_o0_0_S1024x128 | exact slices_S1024x768_o0_128_S1024x128 | exact slices_S1024x768_o0_256_S1024x128 | exact slices_S1024x768_o0_384_S1024x128 | exact slices_S1024x768_o0_512_S1024x128 | exact slices_S1024x768_o0_640_S1024x128) _ _ _ _ _ (j 1).val _ _ (by omega) (by omega) (by omega) (by omega) (by omega))

end Cert.Proof.Qkv

end
-- ==== Proof.QkvRef.lean ====
/- The projection with the rotary embedding: the version's call returns what the reference does. -/
module

public import proofs.«01_k».proof.Defs
public import proofs.«01_k».proof.Proof.QkvWhole
public import proofs.«01_k».proof.Proof.QkvOne
public import proofs.«01_k».proof.Proof.QkvFour
public import proofs.«01_k».proof.Proof.QkvSixteen
public import proofs.«01_k».proof.Proof.Gen.Kernel20Ideal.Value
public import proofs.«01_k».proof.Proof.Gen.Reference20Ideal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.Proof.Qkv

open Cert.Kernel20Ideal Cert.Kernel20Ideal.Gen Idealize.ShloMosaic Idealize.ShloMosaic.TcCoe Idealize.SL.Sem

variable (m : (ℓ : Loc nD τ sig) → Buf (Elt Ideal) ℓ) (c : Dev nD)

/-- A value at equal places. -/
theorem value_congr (p a b : ℕ → ℕ → EReal) (g : ℕ) {q q' s s' e e' : ℕ} (h1 : q = q') (h2 : s = s') (h3 : e = e') :
    value p a b g q s e = value p a b g q' s' e' := by subst h1 h2 h3; rfl

/-- The group of dilation 1, whole. -/
def whole1 (x : FVec Ideal S8192x1024 .bf16) (w : FVec Ideal S4608x1024 .bf16) : FVec Ideal S2x1x4096x1536 .bf16 := fun i =>
  value (prodEntry x w) (cosTab (Host.cos Ref.angle)) (sinTab (Host.sin Ref.angle)) 0 (i 0).val (i 2).val (i 3).val

theorem final1 : (dats m 0 c).arrAt 4 cfg0.N = whole1 (tokens m c) (weights m c) := by
  refine (dats m 0 c).arrAt_eq_of_covers 4 _ (by decide +kernel) fun t hf y => ?_
  blk_simp
  rw [after0_4]
  have h0 : (y 0).val < 1 := (y 0).isLt
  have h1 : (y 1).val < 1 := (y 1).isLt
  have h2 : (y 2).val < 1024 := (y 2).isLt
  have h3 : (y 3).val < 1536 := (y 3).isLt
  refine (out1 m c t y).trans ?_
  unfold whole1
  refine (cell_block m c t 0 (y 2).val (y 3).val _ _ (by decide) (by omega) h3 rfl rfl).trans ?_
  refine value_congr _ _ _ _ ?_ ?_ ?_
  · blk_simp [(idx t).2.2.2.2.1]
    all_goals omega
  · blk_simp [(idx t).2.2.2.2.1]
    all_goals omega
  · blk_simp [(idx t).2.2.2.2.1]
    all_goals omega

/-- The group of dilation 4, whole. -/
def whole4 (x : FVec Ideal S8192x1024 .bf16) (w : FVec Ideal S4608x1024 .bf16) : FVec Ideal S2x4x1024x1536 .bf16 := fun i =>
  value (prodEntry x w) (cosTab (Host.cos Ref.angle)) (sinTab (Host.sin Ref.angle)) 1 (i 0).val ((i 2).val * 4 + (i 1).val) (i 3).val

theorem final4 : (dats m 0 c).arrAt 5 cfg0.N = whole4 (tokens m c) (weights m c) := by
  refine (dats m 0 c).arrAt_eq_of_covers 5 _ (by decide +kernel) fun t hf y => ?_
  blk_simp
  rw [after0_5]
  have h0 : (y 0).val < 1 := (y 0).isLt
  have h1 : (y 1).val < 4 := (y 1).isLt
  have h2 : (y 2).val < 256 := (y 2).isLt
  have h3 : (y 3).val < 1536 := (y 3).isLt
  refine (out4 m c t y).trans ?_
  unfold whole4
  refine (cell_block m c t 1 ((y 2).val * 4 + (y 1).val) (y 3).val _ _ (by decide) (by omega) h3 rfl rfl).trans ?_
  refine value_congr _ _ _ _ ?_ ?_ ?_
  · blk_simp [(idx t).2.2.2.2.2.1]
    all_goals omega
  · blk_simp [(idx t).2.2.2.2.2.1]
    all_goals omega
  · blk_simp [(idx t).2.2.2.2.2.1]
    all_goals omega

/-- The group of dilation 16, whole. -/
def whole16 (x : FVec Ideal S8192x1024 .bf16) (w : FVec Ideal S4608x1024 .bf16) : FVec Ideal S2x16x256x1536 .bf16 := fun i =>
  value (prodEntry x w) (cosTab (Host.cos Ref.angle)) (sinTab (Host.sin Ref.angle)) 2 (i 0).val ((i 2).val * 16 + (i 1).val) (i 3).val

theorem final16 : (dats m 0 c).arrAt 6 cfg0.N = whole16 (tokens m c) (weights m c) := by
  refine (dats m 0 c).arrAt_eq_of_covers 6 _ (by decide +kernel) fun t hf y => ?_
  blk_simp
  rw [after0_6]
  have h0 : (y 0).val < 1 := (y 0).isLt
  have h1 : (y 1).val < 16 := (y 1).isLt
  have h2 : (y 2).val < 64 := (y 2).isLt
  have h3 : (y 3).val < 1536 := (y 3).isLt
  refine (out16 m c t y).trans ?_
  unfold whole16
  refine (cell_block m c t 2 ((y 2).val * 16 + (y 1).val) (y 3).val _ _ (by decide) (by omega) h3 rfl rfl).trans ?_
  refine value_congr _ _ _ _ ?_ ?_ ?_
  · blk_simp [(idx t).2.2.2.2.2.2]
    all_goals omega
  · blk_simp [(idx t).2.2.2.2.2.2]
    all_goals omega
  · blk_simp [(idx t).2.2.2.2.2.2]
    all_goals omega

/-- The version's call returns what the reference does. -/
theorem algebraic : algebraic_Kernel20Ideal_Reference20Ideal (hKernel20Ideal := Cert.Kernel20Ideal.Gen.facts)
    (hReference20Ideal := Cert.Reference20Ideal.Gen.facts) := by
  intro m g m' g' _ hm
  refine ⟨fun c => whole1 (tokens m c) (weights m c), fun c => whole4 (tokens m c) (weights m c), fun c => whole16 (tokens m c) (weights m c),
    (θ_run _ _ _).mono (fun r h c => ⟨(h c).1.trans (final1 m c), (h c).2.1.trans (final4 m c), (h c).2.2.1.trans (final16 m c),
      (h c).2.2.2⟩) (Cert.Kernel20Ideal.Value.run_blocks m g), ?_⟩
  refine (θ_run _ _ _).mono (fun r h c => ⟨(h c).1.trans ?_, (h c).2.1.trans ?_, (h c).2.2.1.trans ?_, (h c).2.2.2⟩)
    (Cert.Reference20Ideal.Value.run m' g')
  all_goals obtain ⟨e0, e1⟩ := hm c
  · refine (Ref.out1 m' c).trans ?_
    rw [e0, e1]
    rfl
  · refine (Ref.out4 m' c).trans ?_
    rw [e0, e1]
    rfl
  · refine (Ref.out16 m' c).trans ?_
    rw [e0, e1]
    rfl

/-- The reference's program ends with its arguments untouched. -/
theorem reference_frame : quiescent_Reference20Ideal (hReference20Ideal := Cert.Reference20Ideal.Gen.facts) := fun m ρ _ =>
  (θ_run _ _ _).mono (fun r h => ⟨fun c => (h c).2.2.2, sem_eq_zero_of_no_sems (by decide) r.2⟩)
    (Cert.Reference20Ideal.Value.run (F := Ideal) m ρ)

end Cert.Proof.Qkv

end
-- ==== Proof.Words.lean ====
/- The words of the band masks, read as comparisons of naturals; and the word of minus infinity. -/
module

public import proofs.«01_k».proof.Proof.Real
public import Idealize.ShloMosaic.Lib.Tactic.WordOmega

@[expose] public section

namespace Cert.Att

open Idealize.ShloMosaic

/-- The band test on words: the row's place plus 128 minus the key's lies in `0 … 128`. -/
theorem band_word (a b : ℕ) (ha : a < 4096) (hb : b < 4096) :
    IntOp.andi (IntOp.cmpi .sge (IntOp.subi (IntOp.addi (BitVec.ofNat 32 a) 128#32) (BitVec.ofNat 32 b)) 0#32)
        (IntOp.cmpi .sle (IntOp.subi (IntOp.addi (BitVec.ofNat 32 a) 128#32) (BitVec.ofNat 32 b)) 128#32)
      = if a ≤ b ∧ b ≤ a + 128 then 1#1 else 0#1 := by
  have e : (IntOp.subi (IntOp.addi (BitVec.ofNat 32 a) 128#32) (BitVec.ofNat 32 b)).toInt = (a : ℤ) + 128 - b := by
    have ea : (BitVec.ofNat 32 a).toInt = a := by
      rw [BitVec.toInt_eq_toNat_cond, BitVec.toNat_ofNat]; omega
    have eb : (BitVec.ofNat 32 b).toInt = b := by
      rw [BitVec.toInt_eq_toNat_cond, BitVec.toNat_ofNat]; omega
    have ec : (128#32).toInt = 128 := by decide
    simp only [IntOp.subi, IntOp.addi, BitVec.toInt_sub, BitVec.toInt_add, ea, eb, ec, Int.bmod_def]
    omega
  generalize IntOp.subi (IntOp.addi (BitVec.ofNat 32 a) 128#32) (BitVec.ofNat 32 b) = w at e
  have h0 : BitVec.sle 0#32 w = decide (b ≤ a + 128) := by
    simp only [BitVec.sle, e, BitVec.toInt_zero]
    exact decide_eq_decide.mpr (by omega)
  have h1 : BitVec.sle w 128#32 = decide (a ≤ b) := by
    have : (128#32).toInt = 128 := by decide
    simp only [BitVec.sle, e, this]
    exact decide_eq_decide.mpr (by omega)
  simp only [IntOp.andi, IntOp.cmpi, h0, h1]
  by_cases h : a ≤ b <;> by_cases h' : b ≤ a + 128 <;> simp [h, h']

/-- The test that a key lies in the sequence: a later block, or the block's own half. -/
theorem inside_word (t b : ℕ) (ht : t < 4096) (hb : b < 4096) :
    IntOp.ori (IntOp.cmpi .sgt (BitVec.ofNat 32 t) 0#32) (IntOp.cmpi .sge (BitVec.ofNat 32 b) 128#32)
      = if 0 < t ∨ 128 ≤ b then 1#1 else 0#1 := by
  have e (x : ℕ) (hx : x < 4096) : (BitVec.ofNat 32 x).toInt = x := by
    rw [BitVec.toInt_eq_toNat_cond, BitVec.toNat_ofNat]; omega
  have h0 : BitVec.slt 0#32 (BitVec.ofNat 32 t) = decide (0 < t) := by
    simp only [BitVec.slt, e t ht, BitVec.toInt_zero]
    exact decide_eq_decide.mpr (by omega)
  have h1 : BitVec.sle 128#32 (BitVec.ofNat 32 b) = decide (128 ≤ b) := by
    have : (128#32).toInt = 128 := by decide
    simp only [BitVec.sle, e b hb, this]
    exact decide_eq_decide.mpr (by omega)
  simp only [IntOp.ori, IntOp.cmpi, h0, h1]
  by_cases h : 0 < t <;> by_cases h' : 128 ≤ b <;> simp [h, h']

/-- Two tests joined. -/
theorem and_word (p q : Prop) [Decidable p] [Decidable q] :
    IntOp.andi (if p then 1#1 else 0#1) (if q then 1#1 else 0#1) = if p ∧ q then 1#1 else 0#1 := by
  by_cases p <;> by_cases q <;> simp [*, IntOp.andi]

/-- A select on a test. -/
theorem select_word {α : Type} (p : Prop) [Decidable p] (x y : α) :
    Scalar.select (if p then 1#1 else 0#1) x y = if p then x else y := by
  by_cases p <;> simp [*, Scalar.select]

theorem ofBits_neg_inf : Ideal.ofBits .f32 0xFF800000#32 = ⊥ := by
  simp [Ideal.ofBits, Ideal.ieee]

end Cert.Att
-- ==== Proof.RefRow.lean ====
/- The reference's attention of one group, read at an index over real arrays: keys, scores, mask, the row's largest
   score, its sum of exponentials, its output and log-sum. -/
module

public import proofs.«01_k».proof.Proof.Spec
public import proofs.«01_k».proof.Proof.Words
public import proofs.«01_k».proof.Proof.Gen.ReferenceIdeal.Run
public import Idealize.ShloMosaic.Lib.Pointwise

@[expose] public section

set_option maxRecDepth 16384

noncomputable section

namespace Cert.Att.Ref

open Idealize.ShloMosaic Idealize.ShloMosaic.TcCoe Idealize.ShloMosaic.StableHlo Cert.ReferenceIdeal Cert.ReferenceIdeal.Gen Cert.ReferenceIdeal.Value

variable (V0 : Valuation τ sig (Elt Ideal)) (Q K V : Arr) (b : Fin 2) (n : Fin 32) (h : Fin 4) (i : Fin 128) (j : Fin 256) (d : Fin 128)

/-- A sum over the last axis of six, at an index. -/
theorem sum_last (v : S2x1x32x4x128x256.Idx → EReal) :
    Ideal.hostReduceAdd reducesTo_S2x1x32x4x128x256_S2x1x32x4x128_d5 v 0 (ix5 b 0 n h i) = ∑ j, v (ix6 b 0 n h i j) := by
  rw [Ideal.hostReduceAdd_single _ (by decide) v 0, zero_add]
  refine Finset.sum_congr rfl fun j _ => congrArg v ?_
  funext a
  match a with
  | ⟨0, _⟩ => rfl
  | ⟨1, _⟩ => rfl
  | ⟨2, _⟩ => rfl
  | ⟨3, _⟩ => rfl
  | ⟨4, _⟩ => rfl
  | ⟨5, _⟩ => rfl

/-- A sum over two axes of extent one, at an index. -/
theorem sum_unit (v : S2x1x32x4x128x1.Idx → EReal) :
    Ideal.hostReduceAdd reducesTo_S2x1x32x4x128x1_S2x32x4x128_d1_5 v 0 (ix4 b n h i) = v (ix6 b 0 n h i 0) := by
  unfold Ideal.hostReduceAdd
  rw [zero_add]
  refine Finset.sum_eq_single_of_mem _ ?_ ?_
  · refine Finset.mem_filter.mpr ⟨Finset.mem_univ _, ?_⟩
    funext a
    match a with
    | ⟨0, _⟩ => rfl
    | ⟨1, _⟩ => rfl
    | ⟨2, _⟩ => rfl
    | ⟨3, _⟩ => rfl
  · intro x hx hne
    refine absurd ?_ hne
    have hx := (Finset.mem_filter.mp hx).2
    funext a
    match a with
    | ⟨0, _⟩ => exact congrFun hx 0
    | ⟨1, _⟩ => exact Subsingleton.elim (α := Fin 1) _ _
    | ⟨2, _⟩ => exact congrFun hx 1
    | ⟨3, _⟩ => exact congrFun hx 2
    | ⟨4, _⟩ => exact congrFun hx 3
    | ⟨5, _⟩ => exact Subsingleton.elim (α := Fin 1) _ _

/-- The group's padded and doubled blocks, read at a named key. -/
theorem look_cases (X : Arr) (hj : j.val < 256) :
    (if h_1 : j.val < 128 then
      if h_2 : (1 ≤ n.val ∧ n.val - 1 < 31) ∧ j.val < 128 then up X (ix4 b ⟨(n.val - 1) * 128 + j.val, by omega⟩ h d)
      else FloatOps.sitofp FTy.f32 0#32
    else up X (ix4 b ⟨n.val * 128 + (j.val - 128), by omega⟩ h d)) = ((look X b h (n.val * 128 + j.val) d : ℝ) : EReal) := by
  unfold look
  have hn := n.isLt
  split
  · split
    · rw [dif_pos (by omega)]
      refine congrArg (fun s => ((X b s h d : ℝ) : EReal)) (Fin.ext ?_)
      show (n.val - 1) * 128 + j.val = n.val * 128 + j.val - 128
      omega
    · rw [dif_neg (by omega)]
      simp [FloatOps.sitofp]
  · rw [dif_pos (by omega)]
    refine congrArg (fun s => ((X b s h d : ℝ) : EReal)) (Fin.ext ?_)
    show n.val * 128 + (j.val - 128) = n.val * 128 + j.val - 128
    omega

theorem keys_at (hk : V0 (Proc.devRef .tc main_arg1) = up K) :
    res_main_v8 V0 (ix6 b 0 n j h d) = ((look K b h (n.val * 128 + j.val) d : ℝ) : EReal) := by
  pointwise [res_main_v8, res_main_v5, hk]
  exact look_cases b n h j d K j.isLt

theorem values_at (hv : V0 (Proc.devRef .tc main_arg2) = up V) :
    res_main_v14 V0 (ix6 b 0 n j h d) = ((look V b h (n.val * 128 + j.val) d : ℝ) : EReal) := by
  pointwise [res_main_v14, res_main_v11, hv]
  exact look_cases b n h j d V j.isLt

theorem mask_at : res_main_v47_1 V0 (ix6 b 0 n h i j) = if mk (pos n i) (n.val * 128 + j.val) then 1#1 else 0#1 := by
  pointwise [res_main_v47_1, res_main_v26, res_main_v21]
  rw [band_word i j (by omega) (by omega), inside_word n j (by omega) (by omega), and_word]
  refine if_congr ?_ rfl rfl
  unfold mk
  omega

theorem masked_at (hq : V0 (Proc.devRef .tc main_arg0) = up Q) (hk : V0 (Proc.devRef .tc main_arg1) = up K) :
    res_main_v47_0 V0 (ix6 b 0 n h i j)
    = if mk (pos n i) (n.val * 128 + j.val) then ((score Q K b (pos n i) h (n.val * 128 + j.val) : ℝ) : EReal) else ⊥ := by
  pointwise [res_main_v47_0, hq]
  rw [mask_at, select_word]
  refine ite_congr rfl (fun _ => ?_) (fun _ => ofBits_neg_inf)
  simp only [keys_at V0 K b n h j _ hk, coe_scale]
  simp only [up, ← EReal.coe_mul, coe_sum]
  rfl

/-- A row's largest score is real, and some key attains it. -/
theorem max_at (hq : V0 (Proc.devRef .tc main_arg0) = up Q) (hk : V0 (Proc.devRef .tc main_arg1) = up K) :
    ∃ m : ℝ, res_main_v48 V0 (ix5 b 0 n h i) = (m : EReal)
      ∧ ∃ j : Fin 256, mk (pos n i) (n.val * 128 + j.val) ∧ score Q K b (pos n i) h (n.val * 128 + j.val) = m := by
  have key : ∀ x : S2x1x32x4x128x256.Idx, reducesTo_S2x1x32x4x128x256_S2x1x32x4x128_d5.drop x = ix5 b 0 n h i → x = ix6 b 0 n h i (x 5) := by
    intro x hx
    funext a
    match a with
    | ⟨0, _⟩ => exact congrFun hx 0
    | ⟨1, _⟩ => exact congrFun hx 1
    | ⟨2, _⟩ => exact congrFun hx 2
    | ⟨3, _⟩ => exact congrFun hx 3
    | ⟨4, _⟩ => exact congrFun hx 4
    | ⟨5, _⟩ => rfl
  have hr : res_main_v48 V0 (ix5 b 0 n h i) = Finset.fold (α := S2x1x32x4x128x256.Idx) max (⊥ : EReal) (res_main_v47_0 V0)
      {x | reducesTo_S2x1x32x4x128x256_S2x1x32x4x128_d5.drop x = ix5 b 0 n h i} := by
    pointwise [res_main_v48]
    rw [ofBits_neg_inf]
    first | rfl | congr!
  obtain ⟨m, hm, x, hx, hxm, hxs⟩ := fold_max_on {x | reducesTo_S2x1x32x4x128x256_S2x1x32x4x128_d5.drop x = ix5 b 0 n h i}
    (fun x => mk (pos n i) (n.val * 128 + (x 5).val)) (fun x => score Q K b (pos n i) h (n.val * 128 + (x 5).val)) (res_main_v47_0 V0)
    (fun x hx => by
      rw [key x (Finset.mem_filter.mp hx).2]
      exact masked_at V0 Q K b n h i (x 5) hq hk)
    (ix6 b 0 n h i ⟨i.val + 128, by omega⟩)
    (Finset.mem_filter.mpr ⟨Finset.mem_univ _, by
      funext a
      match a with
      | ⟨0, _⟩ => rfl
      | ⟨1, _⟩ => rfl
      | ⟨2, _⟩ => rfl
      | ⟨3, _⟩ => rfl
      | ⟨4, _⟩ => rfl⟩)
    (mk_self n i)
  exact ⟨m, hr.trans hm, x 5, hxm, hxs⟩

section

variable (m : ℝ) (hm : res_main_v48 V0 (ix5 b 0 n h i) = (m : EReal))
  (hq : V0 (Proc.devRef .tc main_arg0) = up Q) (hk : V0 (Proc.devRef .tc main_arg1) = up K)
include hm hq hk

/-- The exponentials of a row, relative to its largest score. -/
theorem exp_at : res_main_v57 V0 (ix6 b 0 n h i j)
    = ((ex (fun j : Fin 256 => mk (pos n i) (n.val * 128 + j.val)) (fun j => score Q K b (pos n i) h (n.val * 128 + j.val)) j
        * Real.exp (-m) : ℝ) : EReal) := by
  pointwise [res_main_v57, res_main_v54]
  rw [masked_at V0 Q K b n h i j hq hk, hm, ← ex_shift]
  split
  · rw [← EReal.coe_sub, Ideal.exp_coe]
  · simp

/-- A row's sum of exponentials, relative to its largest score. -/
theorem den_at : res_main_v59 V0 (ix6 b 0 n h i 0) = ((Z Q K b n i h * Real.exp (-m) : ℝ) : EReal) := by
  pointwise [res_main_v59]
  rw [sum_last]
  simp only [exp_at V0 Q K b n h i _ m hm hq hk, coe_sum, tot_shift]
  rfl

/-- The keys that attain the largest score are counted: at least one. -/
theorem count_at (hj : ∃ j : Fin 256, mk (pos n i) (n.val * 128 + j.val) ∧ score Q K b (pos n i) h (n.val * 128 + j.val) = m) :
    ∃ k : Fin 256 → ℝ, (∀ j, res_main_v52 V0 (ix6 b 0 n h i j) = (k j : EReal)) ∧ 0 < ∑ j, k j := by
  have e : ∀ j, res_main_v52 V0 (ix6 b 0 n h i j)
      = ((((BitVec.ofBool (decide (res_main_v47_0 V0 (ix6 b 0 n h i j) = (m : EReal)))).toNat : ℕ) : ℝ) : EReal) := by
    intro j
    pointwise [res_main_v52]
    rw [hm]
    rfl
  refine ⟨_, e, ?_⟩
  obtain ⟨j, hk', hs⟩ := hj
  refine Finset.sum_pos' (fun _ _ => Nat.cast_nonneg _) ⟨j, Finset.mem_univ _, ?_⟩
  rw [masked_at V0 Q K b n h i j hq hk, if_pos hk', hs]
  simp

end

end Cert.Att.Ref

end
-- ==== Proof.RefMerge.lean ====
/- The reference's merge of the three groups and its gradient back to the first group, read at an index over real
   arrays. -/
module

public import proofs.«01_k».proof.Proof.RefRow

@[expose] public section

set_option maxRecDepth 16384

noncomputable section

namespace Cert.Att.Ref

open Idealize.ShloMosaic Idealize.ShloMosaic.TcCoe Idealize.ShloMosaic.StableHlo Cert.ReferenceIdeal Cert.ReferenceIdeal.Gen Cert.ReferenceIdeal.Value

/-- The arguments hold real arrays. -/
structure Given (V0 : Valuation τ sig (Elt Ideal)) (Q K V O4 : Arr) (L4 : Row) (O16 : Arr) (L16 : Row) (G : Arr) : Prop where
  q : V0 (Proc.devRef .tc main_arg0) = up Q
  k : V0 (Proc.devRef .tc main_arg1) = up K
  v : V0 (Proc.devRef .tc main_arg2) = up V
  o4 : V0 (Proc.devRef .tc main_arg3) = up O4
  l4 : V0 (Proc.devRef .tc main_arg4) = up3 L4
  o16 : V0 (Proc.devRef .tc main_arg5) = up O16
  l16 : V0 (Proc.devRef .tc main_arg6) = up3 L16
  ct : V0 (Proc.devRef .tc main_arg7) = up G

variable {V0 : Valuation τ sig (Elt Ideal)} {Q K V O4 O16 G : Arr} {L4 L16 : Row} (w : Given V0 Q K V O4 L4 O16 L16 G)
  (b : Fin 2) (s : Fin 4096) (h : Fin 4) (d : Fin 128) (g : Fin 3)

/-- The three groups' outputs and log-sums. -/
def outs (Q K V O4 O16 : Arr) (g : Fin 3) (b : Fin 2) (s : Fin 4096) (h : Fin 4) (d : Fin 128) : ℝ :=
  if g.val = 0 then O Q K V b (blk s) (off s) h d else if g.val = 1 then O4 b s h d else O16 b s h d
def logs (Q K : Arr) (L4 L16 : Row) (g : Fin 3) (b : Fin 2) (s : Fin 4096) (h : Fin 4) : ℝ :=
  if g.val = 0 then Real.log (Z Q K b (blk s) (off s) h) else if g.val = 1 then L4 b s h else L16 b s h

/-- The merged sum of exponentials, and the merged `delta`, as sums over the three groups. -/
theorem sum_weights : ∑ g, Real.exp (logs Q K L4 L16 g b s h) = T Q K L4 L16 b s h := by
  have hZ := Z_pos Q K b (blk s) (off s) h
  rw [Fin.sum_univ_three]
  simp [logs, T, Real.exp_log hZ]

theorem sum_delta : (∑ g, Real.exp (logs Q K L4 L16 g b s h) * ∑ d, G b s h d * outs Q K V O4 O16 g b s h d)
    = delta Q K V L4 L16 O4 O16 G b s h * T Q K L4 L16 b s h := by
  have hZ := Z_pos Q K b (blk s) (off s) h
  have hT := T_pos Q K L4 L16 b s h
  unfold delta
  rw [div_mul_cancel₀ _ hT.ne', Fin.sum_univ_three]
  simp [logs, outs, Real.exp_log hZ]

/-- Three arrays of log-sums stacked, at an index. -/
theorem stack_at (x y z : FVec Ideal S2x4096x4 .f32) :
    (concatenate S3x2x4096x4 0 [⟨S1x2x4096x4, ((broadcastInDim S1x2x4096x4 ![1, 2, 3] bcast_S2x4096x4_S1x2x4096x4_1_2_3 x) : FVec Ideal S1x2x4096x4 .f32)⟩, ⟨S1x2x4096x4, ((broadcastInDim S1x2x4096x4 ![1, 2, 3] bcast_S2x4096x4_S1x2x4096x4_1_2_3 y) : FVec Ideal S1x2x4096x4 .f32)⟩, ⟨S1x2x4096x4, ((broadcastInDim S1x2x4096x4 ![1, 2, 3] bcast_S2x4096x4_S1x2x4096x4_1_2_3 z) : FVec Ideal S1x2x4096x4 .f32)⟩] concatenates_S1x2x4096x4_S1x2x4096x4_S1x2x4096x4_S3x2x4096x4_d0 : FVec Ideal S3x2x4096x4 .f32) (ix4 g b s h)
      = if g.val = 0 then x (ix3 b s h) else if g.val = 1 then y (ix3 b s h) else z (ix3 b s h) := by
  pointwise []
  by_cases h0 : g.val = 0
  · rw [dif_pos (by omega), if_pos h0]
  · rw [dif_neg (by omega), if_neg h0]
    by_cases h1 : g.val = 1
    · rw [dif_pos (by omega), if_pos h1]
    · rw [dif_neg (by omega), if_neg h1]

/-- The largest of three stacked values, at an index. -/
theorem largest_at (x : FVec Ideal S3x2x4096x4 .f32) :
    Host.reduce FloatOps.maximumf x (constant S_ .f32 0xFF800000#32) reducesTo_S3x2x4096x4_S2x4096x4_d0 h_S_ (ix3 b s h)
      = Finset.univ.fold max (⊥ : EReal) (fun g : Fin 3 => x (ix4 g b s h)) := by
  pointwise []
  rw [ofBits_neg_inf]

theorem rows_blocked (x : FVec Ideal S2x1x32x128x4 .f32) :
    shapeCast _ (transpose S2x4096x1x4 [0, 2, 1, 3] (shapeCast _ x shapeCasts_S2x1x32x128x4_S2x1x4096x4) transposes_S2x1x4096x4_S2x4096x1x4_0_2_1_3) shapeCasts_S2x4096x1x4_S2x4096x4 (ix3 b s h)
      = x (ix5 b 0 (blk s) (off s) h) := by
  pointwise []

theorem rows_swapped (x : FVec Ideal S2x1x32x4x128x1 .f32) (n : Fin 32) (i : Fin 128) :
    transpose S2x1x32x128x4 [0, 1, 2, 4, 3] (shapeCast _ x shapeCasts_S2x1x32x4x128x1_S2x1x32x4x128) transposes_S2x1x32x4x128_S2x1x32x128x4_0_1_2_4_3 (ix5 b 0 n i h)
      = x (ix6 b 0 n h i 0) := by
  pointwise []

/-- A group's column of row values laid out by position, at an index. -/
theorem rows_at (x : FVec Ideal S2x1x32x4x128x1 .f32) :
    shapeCast _ (transpose S2x4096x1x4 [0, 2, 1, 3] (shapeCast _ (transpose S2x1x32x128x4 [0, 1, 2, 4, 3] (shapeCast _ x shapeCasts_S2x1x32x4x128x1_S2x1x32x4x128) transposes_S2x1x32x4x128_S2x1x32x128x4_0_1_2_4_3) shapeCasts_S2x1x32x128x4_S2x1x4096x4) transposes_S2x1x4096x4_S2x4096x1x4_0_2_1_3) shapeCasts_S2x4096x1x4_S2x4096x4 (ix3 b s h)
      = x (ix6 b 0 (blk s) h (off s) 0) :=
  (rows_blocked b s h _).trans (rows_swapped b h x (blk s) (off s))

include w

theorem outs_at : res_main_v80 V0 (ix5 g b s h d) = ((outs Q K V O4 O16 g b s h d : ℝ) : EReal) := by
  pointwise [res_main_v80, w.o4, w.o16]
  obtain ⟨m, hm, -⟩ := max_at V0 Q K b (blk s) h (off s) w.q w.k
  have hZ := Z_pos Q K b (blk s) (off s) h
  have he := Real.exp_pos (-m)
  unfold outs
  by_cases h0 : g.val = 0
  · rw [dif_pos (by omega), if_pos h0]
    simp only [values_at V0 V b _ h _ d w.v, exp_at V0 Q K b _ h _ _ m hm w.q w.k, den_at V0 Q K b _ h _ m hm w.q w.k]
    simp only [coe_div (mul_pos hZ he).ne', ← EReal.coe_mul, coe_sum]
    unfold O out
    rw [Finset.sum_div]
    refine congrArg _ (Finset.sum_congr rfl fun j _ => ?_)
    rw [mul_div_mul_right _ _ he.ne', mul_div_assoc]
    rfl
  · rw [dif_neg (by omega), if_neg h0]
    by_cases h1 : g.val = 1
    · rw [dif_pos (by omega), if_pos h1]; rfl
    · rw [dif_neg (by omega), if_neg h1]; rfl

omit w in
/-- A sum with a logarithm, at an index, and over real values. -/
theorem addLog_at (x y : FVec Ideal S2x1x32x4x128x1 .f32) (n : Fin 32) (i : Fin 128) :
    addf x (Host.log y) (ix6 b 0 n h i 0) = x (ix6 b 0 n h i 0) + Ideal.log (y (ix6 b 0 n h i 0)) := rfl

omit w in
theorem log_real (z m : ℝ) (hz : 0 < z) (x y : EReal) (hx : x = m) (hy : y = ((z * Real.exp (-m) : ℝ) : EReal)) :
    x + Ideal.log y = ((Real.log z : ℝ) : EReal) := by
  rw [hy, coe_log (mul_pos hz (Real.exp_pos _)), hx, ← EReal.coe_add, log_shift hz]

omit w in
theorem maxcol_at (n : Fin 32) (i : Fin 128) : res_main_v54 V0 (ix6 b 0 n h i 0) = res_main_v48 V0 (ix5 b 0 n h i) := by
  pointwise [res_main_v54]

/-- A group's log-sum. -/
theorem logsum_at (n : Fin 32) (i : Fin 128) : addf (s := S2x1x32x4x128x1) (φ := .f32) (res_main_v54 V0) (Host.log (res_main_v59 V0)) (ix6 b 0 n h i 0)
    = ((Real.log (Z Q K b n i h) : ℝ) : EReal) := by
  obtain ⟨m, hm, -⟩ := max_at V0 Q K b n h i w.q w.k
  exact (addLog_at b h _ _ n i).trans (log_real _ m (Z_pos Q K b n i h) _ _ ((maxcol_at b h n i).trans hm) (den_at V0 Q K b n h i m hm w.q w.k))

theorem logs_at : res_main_v86 V0 (ix4 g b s h) = ((logs Q K L4 L16 g b s h : ℝ) : EReal) := by
  unfold res_main_v86
  refine (stack_at b s h g _ _ _).trans ?_
  unfold logs
  by_cases h0 : g.val = 0
  · rw [if_pos h0, if_pos h0]
    exact (rows_at b s h _).trans (logsum_at w b h (blk s) (off s))
  · rw [if_neg h0, if_neg h0]
    by_cases h1 : g.val = 1
    · rw [if_pos h1, if_pos h1, w.l4]; rfl
    · rw [if_neg h1, if_neg h1, w.l16]; rfl

theorem top_at : ∃ M : ℝ, res_main_v89 V0 (ix3 b s h) = (M : EReal) := by
  obtain ⟨M, hM, -⟩ := fold_max_on Finset.univ (fun _ => True) (fun g => logs Q K L4 L16 g b s h)
    (fun g => res_main_v86 V0 (ix4 g b s h)) (fun g _ => by rw [if_pos trivial]; exact logs_at w b s h g) 0 (Finset.mem_univ _) trivial
  exact ⟨M, (largest_at b s h (res_main_v86 V0)).trans hM⟩

/-- The incoming gradient times a group's output, summed over the features. -/
theorem along_at : res_main_v127 V0 (ix4 g b s h) = ((∑ d, G b s h d * outs Q K V O4 O16 g b s h d : ℝ) : EReal) := by
  pointwise [res_main_v127, res_main_v121, w.ct]
  simp only [outs_at w]
  simp only [up, ← EReal.coe_mul, coe_sum]
  simp

variable (M : ℝ) (hM : res_main_v89 V0 (ix3 b s h) = (M : EReal))
include hM

theorem weight_at : res_main_v109 V0 (ix4 g b s h) = ((Real.exp (logs Q K L4 L16 g b s h) * Real.exp (-M) : ℝ) : EReal) := by
  pointwise [res_main_v109]
  rw [logs_at w b s h g, hM, ofBits_neg_inf, max_eq_right bot_le, ← EReal.coe_sub, Ideal.exp_coe, ← Real.exp_add, sub_eq_add_neg]

theorem weights_at : res_main_v111 V0 (ix4 0 b s h) = ((T Q K L4 L16 b s h * Real.exp (-M) : ℝ) : EReal) := by
  pointwise [res_main_v111]
  simp only [weight_at w b s h _ M hM, coe_sum, ← Finset.sum_mul, sum_weights]

theorem scaled_at : res_main_v123 V0 (ix5 g b s h d) = ((Real.exp (logs Q K L4 L16 g b s h) / T Q K L4 L16 b s h * G b s h d : ℝ) : EReal) := by
  have hT := T_pos Q K L4 L16 b s h
  have he := Real.exp_pos (-M)
  pointwise [res_main_v123, res_main_v117, res_main_v121, w.ct]
  rw [weight_at w b s h g M hM, weights_at w b s h M hM, coe_div (mul_pos hT he).ne', mul_div_mul_right _ _ he.ne']
  rw [← EReal.coe_mul]
  rfl

theorem back_at : res_main_v139 V0 (ix4 g b s h) = ((((∑ d, G b s h d * outs Q K V O4 O16 g b s h d) - delta Q K V L4 L16 O4 O16 G b s h)
    * Real.exp (logs Q K L4 L16 g b s h) / T Q K L4 L16 b s h : ℝ) : EReal) := by
  have hT := T_pos Q K L4 L16 b s h
  have he := Real.exp_pos (-M)
  have hTe := (mul_pos hT he).ne'
  pointwise [res_main_v139]
  simp only [along_at w, weight_at w b s h _ M hM, weights_at w b s h M hM]
  rw [← EReal.coe_one]
  simp only [← EReal.coe_mul, coe_div hTe, coe_div (mul_ne_zero hTe hTe), coe_sum, ← EReal.coe_neg, ← EReal.coe_add]
  refine congrArg _ ?_
  have e : ∑ x, (∑ d, G b s h d * outs Q K V O4 O16 x b s h d) * (1 / (T Q K L4 L16 b s h * Real.exp (-M) * (T Q K L4 L16 b s h * Real.exp (-M))))
        * (Real.exp (logs Q K L4 L16 x b s h) * Real.exp (-M))
      = delta Q K V L4 L16 O4 O16 G b s h / (T Q K L4 L16 b s h * Real.exp (-M)) := by
    have := sum_delta (Q := Q) (K := K) (V := V) (O4 := O4) (O16 := O16) (G := G) (L4 := L4) (L16 := L16) b s h
    rw [eq_div_iff hTe]
    refine mul_right_cancel₀ hT.ne' ?_
    rw [← this, Finset.sum_mul, Finset.sum_mul]
    refine Finset.sum_congr rfl fun x _ => ?_
    field_simp
  simp only [e, Finset.sum_const, Finset.card_univ, Fintype.card_fin, one_smul]
  field_simp
  ring

end Cert.Att.Ref

end
-- ==== Proof.RefGroup.lean ====
/- The first group's output and log-sums as the reference computes them, in the layout in which the merge reads them,
   with their real values. -/
module

public import proofs.«01_k».proof.Proof.RefMerge

@[expose] public section

set_option maxRecDepth 16384

noncomputable section

namespace Cert.Att.Ref

open Idealize.ShloMosaic Idealize.ShloMosaic.TcCoe Idealize.ShloMosaic.StableHlo Cert.ReferenceIdeal Cert.ReferenceIdeal.Gen Cert.ReferenceIdeal.Value

/-- The reference's buffers. -/
abbrev RefVal := Valuation τ sig (Elt Ideal)

/-- The reference's arguments. -/
def argQ (V0 : RefVal) : FVec Ideal S2x4096x4x128 .f32 := V0 (Proc.devRef .tc main_arg0)
def argK (V0 : RefVal) : FVec Ideal S2x4096x4x128 .f32 := V0 (Proc.devRef .tc main_arg1)
def argV (V0 : RefVal) : FVec Ideal S2x4096x4x128 .f32 := V0 (Proc.devRef .tc main_arg2)

/-- The first group's masked scores. -/
def groupScores (V0 : RefVal) : FVec Ideal S2x1x32x4x128x256 .f32 := res_main_v47_0 V0

/-- The first group's values, two blocks at a time. -/
def groupValues (V0 : RefVal) : FVec Ideal S2x1x32x256x4x128 .f32 := res_main_v14 V0

/-- The first group's log-sums. -/
def groupLog (V0 : RefVal) : FVec Ideal S2x4096x4 .f32 :=
  shapeCast _ (transpose S2x4096x1x4 [0, 2, 1, 3] (shapeCast _ (transpose S2x1x32x128x4 [0, 1, 2, 4, 3] (shapeCast _ (addf (s := S2x1x32x4x128x1) (φ := .f32) (res_main_v54 V0) (Host.log (res_main_v59 V0))) shapeCasts_S2x1x32x4x128x1_S2x1x32x4x128) transposes_S2x1x32x4x128_S2x1x32x128x4_0_1_2_4_3) shapeCasts_S2x1x32x128x4_S2x1x4096x4) transposes_S2x1x4096x4_S2x4096x1x4_0_2_1_3) shapeCasts_S2x4096x1x4_S2x4096x4

/-- The first group's output. -/
def groupOut (V0 : RefVal) : FVec Ideal S2x4096x4x128 .f32 :=
  shapeCast _ (transpose S2x4096x1x4x128 [0, 2, 1, 3, 4] (shapeCast _ (transpose S2x1x32x128x4x128 [0, 1, 2, 5, 3, 4] (Host.dotGeneral (φ₁ := .f32) (φ₂ := .f32) dot_S2x1x32x256x4x128_S2x1x32x4x128x256_S2x1x32x4x128x128_3_5_5_4_0124_0123 none (res_main_v14 V0) (Host.divf (s := S2x1x32x4x128x256) (φ := .f32) (res_main_v57 V0) (broadcastInDim S2x1x32x4x128x256 ![0, 1, 2, 3, 4, 5] bcast_S2x1x32x4x128x1_S2x1x32x4x128x256_0_1_2_3_4_5 (res_main_v59 V0)))) transposes_S2x1x32x4x128x128_S2x1x32x128x4x128_0_1_2_5_3_4) shapeCasts_S2x1x32x128x4x128_S2x1x4096x4x128) transposes_S2x1x4096x4x128_S2x4096x1x4x128_0_2_1_3_4) shapeCasts_S2x4096x1x4x128_S2x4096x4x128

variable {V0 : Valuation τ sig (Elt Ideal)} {Q K V O4 O16 G : Arr} {L4 L16 : Row} (w : Given V0 Q K V O4 L4 O16 L16 G)
  (b : Fin 2) (s : Fin 4096) (h : Fin 4) (d : Fin 128)

include w

theorem groupLog_at : groupLog V0 (ix3 b s h) = ((Real.log (Z Q K b (blk s) (off s) h) : ℝ) : EReal) :=
  (rows_at b s h _).trans (logsum_at w b h (blk s) (off s))

theorem groupOut_at : groupOut V0 (ix4 b s h d) = ((O Q K V b (blk s) (off s) h d : ℝ) : EReal) := by
  pointwise [groupOut]
  obtain ⟨m, hm, -⟩ := max_at V0 Q K b (blk s) h (off s) w.q w.k
  have hZ := Z_pos Q K b (blk s) (off s) h
  have he := Real.exp_pos (-m)
  simp only [values_at V0 V b _ h _ d w.v, exp_at V0 Q K b _ h _ _ m hm w.q w.k, den_at V0 Q K b _ h _ m hm w.q w.k]
  simp only [coe_div (mul_pos hZ he).ne', ← EReal.coe_mul, coe_sum]
  unfold O out
  rw [Finset.sum_div]
  refine congrArg _ (Finset.sum_congr rfl fun j _ => ?_)
  rw [mul_div_mul_right _ _ he.ne', mul_div_assoc]
  rfl

end Cert.Att.Ref

end
-- ==== Proof.Prefix.lean ====
/- What the kernel's host code leaves in the four arrays the kernel call reads. Group 1's forward pass is the
   reference's own, so its output and log-sums are the reference's values; the merge with the other two groups is
   written out below as functions of the three groups' arrays. -/
module

public import proofs.«01_k».proof.Proof.Gen.KernelIdeal.Launch
public import proofs.«01_k».proof.Proof.RefGroup
public import Idealize.ShloMosaic.Lib.StableHlo.RunRead

@[expose] public section

set_option maxRecDepth 16384

noncomputable section

namespace Cert.Att.Prefix

open Idealize.ShloMosaic Idealize.ShloMosaic.TcCoe Idealize.ShloMosaic.StableHlo
open Cert.KernelIdeal Cert.KernelIdeal.Gen

/-- An array `batch × position × head × feature`. -/
abbrev A4 := FVec Ideal S2x4096x4x128 .f32
/-- An array `batch × position × head`. -/
abbrev A3 := FVec Ideal S2x4096x4 .f32
/-- An array with the heads' features side by side. -/
abbrev W4 := FVec Ideal S2x1x4096x512 .f32

/-- The larger of the three groups' log-sums. -/
def gmax (l l4 l16 : A3) : A3 := maximumf (maximumf l l4) l16

/-- A group's share before normalising. -/
def share (l m : A3) : A3 := Host.exp (subf l m)

/-- The sum of the three shares. -/
def total (l l4 l16 : A3) : A3 :=
  addf (addf (share l (gmax l l4 l16)) (share l4 (gmax l l4 l16))) (share l16 (gmax l l4 l16))

/-- One number per head, repeated over the head's features. -/
def spread (x : A3) : A4 :=
  broadcastInDim S2x4096x4x128 ![0, 1, 2, 3] bcast_S2x4096x4x1_S2x4096x4x128_0_1_2_3
    (broadcastInDim S2x4096x4x1 ![0, 1, 2] bcast_S2x4096x4_S2x4096x4x1_0_1_2 x)

/-- A group's part of the merged output. -/
def part (s t : A3) (o : A4) : A4 := mulf (spread (Host.divf s t)) o

/-- The merged output. -/
def merged (l l4 l16 : A3) (o o4 o16 : A4) : A4 :=
  addf (addf (part (share l (gmax l l4 l16)) (total l l4 l16) o)
    (part (share l4 (gmax l l4 l16)) (total l l4 l16) o4))
    (part (share l16 (gmax l l4 l16)) (total l l4 l16) o16)

/-- The log-sum over all three groups. -/
def joint (l l4 l16 : A3) : A3 := addf (gmax l l4 l16) (Host.log (total l l4 l16))

/-- Heads side by side. -/
def flat (x : A4) : W4 :=
  transpose S2x1x4096x512 [0, 2, 1, 3] (shapeCast S2x4096x1x512 x shapeCasts_S2x4096x4x128_S2x4096x1x512)
    transposes_S2x4096x1x512_S2x1x4096x512_0_2_1_3

/-- `Σ` over the features of output times cotangent. -/
def rowdot (o ct : A4) : A3 :=
  Host.reduceAdd (mulf o ct) (constant S_ .f32 0x00000000#32 : FVec Ideal S_ .f32) reducesTo_S2x4096x4x128_S2x4096x4_d3 h_S_

/-- Queries, keys and values side by side. -/
def packed (q k v : A4) : FVec Ideal S2x1x4096x1536 .bf16 :=
  truncf .bf16 (concatenate S2x1x4096x1536 3 [⟨S2x1x4096x512, flat q⟩, ⟨S2x1x4096x512, flat k⟩, ⟨S2x1x4096x512, flat v⟩]
    concatenates_S2x1x4096x512_S2x1x4096x512_S2x1x4096x512_S2x1x4096x1536_d3) bitsLt_bf16_f32

variable (W U : Valuation τ sig (Elt Ideal)) (V0 : Ref.RefVal)

/-- The part of the host code before the row maxima. -/
abbrev early : List (HloOp τ sig (Elt Ideal)) :=
  List.flatten [hostOps0, hostOps0_1, hostOps0_2, hostOps0_3, hostOps0_4, hostOps0_5]

/-- An array cut into blocks of 128 positions. -/
def blocks (x : A4) : FVec Ideal S2x1x32x128x4x128 .f32 :=
  shapeCast S2x1x32x128x4x128 (transpose S2x1x4096x4x128 [0, 2, 1, 3, 4] (shapeCast S2x4096x1x4x128 x shapeCasts_S2x4096x4x128_S2x4096x1x4x128) transposes_S2x4096x1x4x128_S2x1x4096x4x128_0_2_1_3_4) shapeCasts_S2x1x4096x4x128_S2x1x32x128x4x128

/-- The blocks before, zero before the first. -/
def before (y : FVec Ideal S2x1x32x128x4x128 .f32) : FVec Ideal S2x1x32x128x4x128 .f32 :=
  pad S2x1x32x128x4x128 ![0, 0, 1, 0, 0, 0] ![0, 0, 0, 0, 0, 0] ![0, 0, 0, 0, 0, 0] (extractStridedSlice S2x1x31x128x4x128 ![0, 0, 0, 0, 0, 0] y slices_S2x1x32x128x4x128_S2x1x31x128x4x128_0_0_0_0_0_0) (sitofp .f32 (constantI S_ 32 0#32) : FVec Ideal S_ .f32) pads_S2x1x31x128x4x128_S2x1x32x128x4x128_000_000_100_000_000_000 h_S_

theorem scores_read (hq : (W (Proc.devRef .tc main_arg0) : A4) = Ref.argQ V0) (hk : (W (Proc.devRef .tc main_arg1) : A4) = Ref.argK V0) :
    (after early W (Proc.devRef .tc main_v55) : FVec Ideal S2x1x32x4x128x256 .f32) = Ref.groupScores V0 := by
  have a : (upto early W 35 (Proc.devRef .tc main_v27) : FVec Ideal S2x1x32x128x4x128 .f32) = blocks (Ref.argK V0) := by
    after_reads_simp
    rw [hk]
    rfl
  have b : (upto early W 35 (Proc.devRef .tc main_v29) : FVec Ideal S2x1x32x128x4x128 .f32) = before (blocks (Ref.argK V0)) := by
    after_reads_simp
    rw [hk]
    rfl
  after_reads_simp
  rw [hq, a, b]
  rfl

theorem values_read (hv : (W (Proc.devRef .tc main_arg2) : A4) = Ref.argV V0) :
    (after early W (Proc.devRef .tc main_v36) : FVec Ideal S2x1x32x256x4x128 .f32) = Ref.groupValues V0 := by
  have a : (upto early W 43 (Proc.devRef .tc main_v33) : FVec Ideal S2x1x32x128x4x128 .f32) = blocks (Ref.argV V0) := by
    after_reads_simp
    rw [hv]
    rfl
  have b : (upto early W 43 (Proc.devRef .tc main_v35) : FVec Ideal S2x1x32x128x4x128 .f32) = before (blocks (Ref.argV V0)) := by
    after_reads_simp
    rw [hv]
    rfl
  after_reads_simp
  rw [a, b]
  rfl

/-- The arguments are unchanged. -/
theorem args_read :
    after early W (Proc.devRef .tc main_arg0) = W (Proc.devRef .tc main_arg0)
    ∧ after early W (Proc.devRef .tc main_arg1) = W (Proc.devRef .tc main_arg1)
    ∧ after early W (Proc.devRef .tc main_arg2) = W (Proc.devRef .tc main_arg2)
    ∧ after early W (Proc.devRef .tc main_arg3) = W (Proc.devRef .tc main_arg3)
    ∧ after early W (Proc.devRef .tc main_arg4) = W (Proc.devRef .tc main_arg4)
    ∧ after early W (Proc.devRef .tc main_arg5) = W (Proc.devRef .tc main_arg5)
    ∧ after early W (Proc.devRef .tc main_arg6) = W (Proc.devRef .tc main_arg6)
    ∧ after early W (Proc.devRef .tc main_arg7) = W (Proc.devRef .tc main_arg7) := by
  refine ⟨?_, ?_, ?_, ?_, ?_, ?_, ?_, ?_⟩ <;> after_reads_simp

theorem packed_read : (after hostOps0_6 (after early W) (Proc.devRef .tc main_v7) : FVec Ideal S2x1x4096x1536 .bf16)
    = packed (W (Proc.devRef .tc main_arg0)) (W (Proc.devRef .tc main_arg1)) (W (Proc.devRef .tc main_arg2)) := by
  have a : (upto early W 6 (Proc.devRef .tc main_v1) : W4) = flat (W (Proc.devRef .tc main_arg0)) := by
    after_reads_simp
    rfl
  have b : (upto early W 6 (Proc.devRef .tc main_v3) : W4) = flat (W (Proc.devRef .tc main_arg1)) := by
    after_reads_simp
    rfl
  have d : (upto early W 6 (Proc.devRef .tc main_v5) : W4) = flat (W (Proc.devRef .tc main_arg2)) := by
    after_reads_simp
    rfl
  have e : after hostOps0_6 (after early W) (Proc.devRef .tc main_v7) = after early W (Proc.devRef .tc main_v7) := by
    generalize after early W = U
    after_reads_simp
  rw [e]
  after_reads_simp
  change (truncf .bf16 ((concatenate S2x1x4096x1536 3
    [⟨S2x1x4096x512, (upto early W 6 (Proc.devRef .tc main_v1) : W4)⟩, ⟨S2x1x4096x512, (upto early W 6 (Proc.devRef .tc main_v3) : W4)⟩,
      ⟨S2x1x4096x512, (upto early W 6 (Proc.devRef .tc main_v5) : W4)⟩]
    concatenates_S2x1x4096x512_S2x1x4096x512_S2x1x4096x512_S2x1x4096x1536_d3) : FVec Ideal S2x1x4096x1536 .f32) bitsLt_bf16_f32 : FVec Ideal S2x1x4096x1536 .bf16) = _
  rw [a, b, d]
  rfl

theorem cotangent_read : after hostOps0_6 U (Proc.devRef .tc main_v107)
    = truncf .bf16 (flat (U (Proc.devRef .tc main_arg7))) bitsLt_bf16_f32 := by
  after_reads_simp
  rfl

theorem joint_read (hs : (U (Proc.devRef .tc main_v55) : FVec Ideal S2x1x32x4x128x256 .f32) = Ref.groupScores V0) :
    (after hostOps0_6 U (Proc.devRef .tc main_v111) : W4)
      = flat (spread (joint (Ref.groupLog V0) (U (Proc.devRef .tc main_arg4)) (U (Proc.devRef .tc main_arg6)))) := by
  after_reads_simp
  rw [hs]
  rfl

theorem delta_read (hs : (U (Proc.devRef .tc main_v55) : FVec Ideal S2x1x32x4x128x256 .f32) = Ref.groupScores V0)
    (hv : (U (Proc.devRef .tc main_v36) : FVec Ideal S2x1x32x256x4x128 .f32) = Ref.groupValues V0) :
    (after hostOps0_6 U (Proc.devRef .tc main_v115) : W4)
      = flat (spread (rowdot (merged (Ref.groupLog V0) (U (Proc.devRef .tc main_arg4)) (U (Proc.devRef .tc main_arg6)) (Ref.groupOut V0)
          (U (Proc.devRef .tc main_arg3)) (U (Proc.devRef .tc main_arg5))) (U (Proc.devRef .tc main_arg7)))) := by
  after_reads_simp
  rw [hs, hv]
  rfl

end Cert.Att.Prefix

end
-- ==== Proof.PrefixReal.lean ====
/- The four arrays the kernel call reads, at an index and over real values. -/
module

public import proofs.«01_k».proof.Proof.Prefix

@[expose] public section

set_option maxRecDepth 16384

noncomputable section

namespace Cert.Att.Prefix

open Idealize.ShloMosaic Idealize.ShloMosaic.TcCoe Idealize.ShloMosaic.StableHlo
open Cert.KernelIdeal Cert.KernelIdeal.Gen

variable (b : Fin 2) (s : Fin 4096) (h : Fin 4) (d : Fin 128)

theorem flat_at (x : A4) : flat x (ix4 b 0 s ⟨h.val * 128 + d.val, by omega⟩) = x (ix4 b s h d) := by
  pointwise [flat]

theorem spread_at (x : A3) : spread x (ix4 b s h d) = x (ix3 b s h) := by
  pointwise [spread]

theorem queries_at (q k v : A4) : packed q k v (ix4 b 0 s ⟨h.val * 128 + d.val, by omega⟩) = q (ix4 b s h d) := by
  pointwise [packed, flat]
  rw [dif_pos (by omega)]

theorem keys_at (q k v : A4) : packed q k v (ix4 b 0 s ⟨512 + (h.val * 128 + d.val), by omega⟩) = k (ix4 b s h d) := by
  pointwise [packed, flat]
  rw [dif_pos (by omega)]

theorem values_at (q k v : A4) : packed q k v (ix4 b 0 s ⟨1024 + (h.val * 128 + d.val), by omega⟩) = v (ix4 b s h d) := by
  pointwise [packed, flat]
  rw [dif_neg (by omega), dif_neg (by omega)]
  exact congrArg₂ (fun (h : Fin 4) (d : Fin 128) => v (ix4 b s h d)) (Fin.ext (by dsimp only; omega)) (Fin.ext (by dsimp only; omega))

variable (l l4 l16 : A3) (x y z : ℝ) (hl : l (ix3 b s h) = (x : EReal)) (hl4 : l4 (ix3 b s h) = (y : EReal)) (hl16 : l16 (ix3 b s h) = (z : EReal))
include hl hl4 hl16

theorem gmax_at : gmax l l4 l16 (ix3 b s h) = ((max (max x y) z : ℝ) : EReal) := by
  pointwise [gmax]
  rw [hl, hl4, hl16, coe_max, coe_max]

theorem total_at : total l l4 l16 (ix3 b s h) = (((Real.exp x + Real.exp y + Real.exp z) * Real.exp (-max (max x y) z) : ℝ) : EReal) := by
  pointwise [total, share]
  rw [gmax_at b s h l l4 l16 x y z hl hl4 hl16, hl, hl4, hl16]
  simp only [← EReal.coe_sub, Ideal.exp_coe, ← EReal.coe_add]
  simp only [sub_eq_add_neg, Real.exp_add, add_mul]

theorem joint_at : joint l l4 l16 (ix3 b s h) = ((Real.log (Real.exp x + Real.exp y + Real.exp z) : ℝ) : EReal) := by
  pointwise [joint]
  have e : 0 < Real.exp x + Real.exp y + Real.exp z := by positivity
  rw [gmax_at b s h l l4 l16 x y z hl hl4 hl16, total_at b s h l l4 l16 x y z hl hl4 hl16, coe_log (mul_pos e (Real.exp_pos _)),
    ← EReal.coe_add, log_shift e]

variable (o o4 o16 ct : A4) (u v w g : Fin 128 → ℝ) (ho : ∀ d, o (ix4 b s h d) = (u d : EReal)) (ho4 : ∀ d, o4 (ix4 b s h d) = (v d : EReal))
  (ho16 : ∀ d, o16 (ix4 b s h d) = (w d : EReal)) (hct : ∀ d, ct (ix4 b s h d) = (g d : EReal))
include ho ho4 ho16

theorem merged_at : merged l l4 l16 o o4 o16 (ix4 b s h d)
    = (((Real.exp x * u d + Real.exp y * v d + Real.exp z * w d) / (Real.exp x + Real.exp y + Real.exp z) : ℝ) : EReal) := by
  have e : 0 < Real.exp x + Real.exp y + Real.exp z := by positivity
  have e2 := Real.exp_pos (-max (max x y) z)
  pointwise [merged, part, share, spread]
  rw [gmax_at b s h l l4 l16 x y z hl hl4 hl16, total_at b s h l l4 l16 x y z hl hl4 hl16, hl, hl4, hl16, ho, ho4, ho16]
  simp only [← EReal.coe_sub, Ideal.exp_coe, coe_div (mul_pos e e2).ne', ← EReal.coe_mul, ← EReal.coe_add]
  refine congrArg _ ?_
  simp only [sub_eq_add_neg, Real.exp_add]
  field_simp

include hct

theorem rowdot_at : rowdot (merged l l4 l16 o o4 o16) ct (ix3 b s h)
    = (((Real.exp x * (∑ d, g d * u d) + Real.exp y * (∑ d, g d * v d) + Real.exp z * (∑ d, g d * w d))
        / (Real.exp x + Real.exp y + Real.exp z) : ℝ) : EReal) := by
  pointwise [rowdot]
  simp only [merged_at b s h _ l l4 l16 x y z hl hl4 hl16 o o4 o16 u v w ho ho4 ho16, hct, ← EReal.coe_mul, coe_sum]
  refine congrArg _ ?_
  simp only [Finset.mul_sum, ← Finset.sum_add_distrib, Finset.sum_div]
  exact Finset.sum_congr rfl fun d _ => by ring

end Cert.Att.Prefix

end
-- ==== Proof.Body.lean ====
/- What the kernel's body computes for one head of one block: the gradient in `q` of 256 rows against the 384 keys that
   can matter to them. The four heads' payloads are one function of their loads. -/
module

public import proofs.«01_k».proof.Proof.Spec
public import proofs.«01_k».proof.Proof.Words
public import proofs.«01_k».proof.Proof.Gen.KernelIdeal.Frame
public import Idealize.ShloMosaic.Lib.Pointwise

@[expose] public section

set_option maxRecDepth 16384

noncomputable section

namespace Cert.Att.Body

open Idealize.ShloMosaic Cert.KernelIdeal Cert.KernelIdeal.Gen

/-- One head's result from its loads. -/
def headOut (mk : IVec S256x384 1) (q : Vec Ideal S1x1x256x128 .bf16) (kp : Vec Ideal S1x1x128x128 .bf16)
    (k : Vec Ideal S1x1x256x128 .bf16) (vp : Vec Ideal S1x1x128x128 .bf16) (v g : Vec Ideal S1x1x256x128 .bf16)
    (lse dl : Vec Ideal S1x1x256x1 .f32) : FVec Ideal S1x1x256x128 .f32 :=
  k0_pay1 (k0_pay29 (k0_pay6 kp k) (k0_pay17 (k0_pay15 g) (k0_pay16 vp) v)
    (k0_pay22 mk (k0_pay11 (k0_pay6 kp k) q) lse) dl)

/-- The four stores write the four heads' results. -/
theorem out_heads (i : grid0.Coords) (x0 : Vec Ideal S1x1x256x512 .bf16) (x1 : Vec Ideal S1x1x128x512 .bf16)
    (x2 : Vec Ideal S1x1x256x512 .bf16) (x3 : Vec Ideal S1x1x128x512 .bf16) (x4 x5 : Vec Ideal S1x1x256x512 .bf16)
    (x6 x7 : Vec Ideal S1x1x256x512 .f32) :
    out0_8 i x0 x1 x2 x3 x4 x5 x6 x7 = View.canon [
      ⟨r0_7, headOut (k0_pay5 i) (View.ld x0 r0_7) (View.ld x1 r0_6) (View.ld x2 r0_7) (View.ld x3 r0_6) (View.ld x4 r0_7)
        (View.ld x5 r0_7) (View.ld x6 r0_11) (View.ld x7 r0_11)⟩,
      ⟨r0_5, headOut (k0_pay5 i) (View.ld x0 r0_5) (View.ld x1 r0_4) (View.ld x2 r0_5) (View.ld x3 r0_4) (View.ld x4 r0_5)
        (View.ld x5 r0_5) (View.ld x6 r0_10) (View.ld x7 r0_10)⟩,
      ⟨r0_3, headOut (k0_pay5 i) (View.ld x0 r0_3) (View.ld x1 r0_2) (View.ld x2 r0_3) (View.ld x3 r0_2) (View.ld x4 r0_3)
        (View.ld x5 r0_3) (View.ld x6 r0_9) (View.ld x7 r0_9)⟩,
      ⟨r0_1, headOut (k0_pay5 i) (View.ld x0 r0_1) (View.ld x1 r0_0) (View.ld x2 r0_1) (View.ld x3 r0_0) (View.ld x4 r0_1)
        (View.ld x5 r0_1) (View.ld x6 r0_8) (View.ld x7 r0_8)⟩] := rfl

/-- One head's result at an index, for operands that hold real numbers and a mask that holds the truth of `M`. -/
theorem head_real (mk : IVec S256x384 1) (q : Vec Ideal S1x1x256x128 .bf16) (kp : Vec Ideal S1x1x128x128 .bf16)
    (k : Vec Ideal S1x1x256x128 .bf16) (vp : Vec Ideal S1x1x128x128 .bf16) (v g : Vec Ideal S1x1x256x128 .bf16)
    (lse dl : Vec Ideal S1x1x256x1 .f32) (i : Fin 256) (d : Fin 128)
    (M : Fin 384 → Prop) [DecidablePred M] (Q G : Fin 128 → ℝ) (K V : Fin 384 → Fin 128 → ℝ) (L D : ℝ)
    (hM : ∀ j, mk (ix2 i j) = if M j then 1#1 else 0#1)
    (hq : ∀ e, q (ix4 0 0 i e) = ((Q e : ℝ) : EReal)) (hg : ∀ e, g (ix4 0 0 i e) = ((G e : ℝ) : EReal))
    (hkp : ∀ (j : Fin 128) e, kp (ix4 0 0 j e) = ((K ⟨j, by omega⟩ e : ℝ) : EReal))
    (hk : ∀ (j : Fin 256) e, k (ix4 0 0 j e) = ((K ⟨j + 128, by omega⟩ e : ℝ) : EReal))
    (hvp : ∀ (j : Fin 128) e, vp (ix4 0 0 j e) = ((V ⟨j, by omega⟩ e : ℝ) : EReal))
    (hv : ∀ (j : Fin 256) e, v (ix4 0 0 j e) = ((V ⟨j + 128, by omega⟩ e : ℝ) : EReal))
    (hL : lse (ix4 0 0 i 0) = ((L : ℝ) : EReal)) (hD : dl (ix4 0 0 i 0) = ((D : ℝ) : EReal)) :
    headOut mk q kp k vp v g lse dl (ix4 0 0 i d)
      = (((∑ j, ((if M j then Real.exp ((∑ e, Q e * K j e) * scale - L) else 0) * ((∑ e, G e * V j e) - D)) * K j d) * scale : ℝ) : EReal) := by
  have hkc : ∀ j e, k0_pay6 kp k (ix2 j e) = ((K j e : ℝ) : EReal) := by
    intro j e
    pointwise [k0_pay6]
    by_cases hj : j.val < 128
    · rw [dif_pos hj]; exact hkp ⟨j, hj⟩ e
    · rw [dif_neg hj, hk ⟨j - 128, by omega⟩ e]
      exact congrArg (fun x => ((K x e : ℝ) : EReal)) (Fin.ext (Nat.sub_add_cancel (not_lt.mp hj)))
  have hvc : ∀ j, k0_pay17 (k0_pay15 g) (k0_pay16 vp) v (ix2 i j) = ((∑ e, G e * V j e : ℝ) : EReal) := by
    intro j
    pointwise [k0_pay17, k0_pay15, k0_pay16]
    rw [← coe_sum]
    refine Finset.sum_congr rfl fun e _ => ?_
    rw [EReal.coe_mul, hg e]
    by_cases hj : j.val < 128
    · rw [dif_pos hj, hvp ⟨j, hj⟩ e]
    · rw [dif_neg hj, hv ⟨j - 128, by omega⟩ e]
      exact congrArg (fun x => ((G e : ℝ) : EReal) * ((V x e : ℝ) : EReal)) (Fin.ext (Nat.sub_add_cancel (not_lt.mp hj)))
  have hp : ∀ j, k0_pay22 mk (k0_pay11 (k0_pay6 kp k) q) lse (ix2 i j)
      = ((if M j then Real.exp ((∑ e, Q e * K j e) * scale - L) else 0 : ℝ) : EReal) := by
    intro j
    generalize hkk : k0_pay6 kp k = kc at hkc ⊢
    pointwise [k0_pay22, k0_pay11]
    simp only [hM, hL, hq, hkc, select_word, ofBits_neg_inf, coe_scale, ← EReal.coe_mul, coe_sum, ← EReal.coe_sub]
    by_cases hj : M j
    · rw [if_pos hj, if_pos hj, Ideal.exp_coe]
    · rw [if_neg hj, if_neg hj, Ideal.exp_bot, EReal.coe_zero]
  unfold headOut
  pointwise [k0_pay1, k0_pay29]
  simp only [hkc, hvc, hp, hD, coe_scale, ← EReal.coe_mul, coe_sum, ← EReal.coe_sub]

/-- The body's mask at row `i` and key `j` of block `t`. -/
theorem mask_read (c : grid0.Coords) (i : Fin 256) (j : Fin 384) :
    k0_pay5 c (ix2 i j) = if (i.val ≤ j.val ∧ j.val ≤ i.val + 128 ∧ (0 < (c 2).val ∨ 128 ≤ j.val)) then 1#1 else 0#1 := by
  pointwise [k0_pay5]
  have h2 : (c 2).val < 4096 := by have : (c 2).val < 16 := (c 2).isLt; omega
  rw [band_word _ _ (by omega) (by omega)]
  refine (congrArg _ (inside_word (c 2).val j.val h2 (by omega))).trans ?_
  rw [and_word]
  simp only [and_assoc]

end Cert.Att.Body

end
-- ==== Proof.Blocks.lean ====
/- What one grid point's block holds, and the whole array after the run: the four heads' results side by side, for
   256 rows of one batch. -/
module

public import proofs.«01_k».proof.Proof.Body
public import proofs.«01_k».proof.Proof.Gen.KernelIdeal.Value
public import Idealize.ShloMosaic.Lib.Pipeline.ValueKit

@[expose] public section

set_option maxRecDepth 16384

noncomputable section

namespace Cert.Att.Body

open Idealize.ShloMosaic Idealize.ShloMosaic.TcCoe Cert.KernelIdeal Cert.KernelIdeal.Gen

/-- Column of feature `d` of head `h`. -/
abbrev col (h : Fin 4) (d : Fin 128) : Fin 512 := ⟨h.val * 128 + d.val, by omega⟩

/-- One row of one head: the gradient in `q` against the 384 keys at hand. -/
def rowGrad (M : Fin 384 → Prop) [DecidablePred M] (Q G : Fin 128 → ℝ) (K V : Fin 384 → Fin 128 → ℝ) (L D : ℝ) (d : Fin 128) : ℝ :=
  (∑ j, ((if M j then Real.exp ((∑ e, Q e * K j e) * scale - L) else 0) * ((∑ e, G e * V j e) - D)) * K j d) * scale

section

variable (t : grid0.Coords) (x0 : Vec Ideal S1x1x256x512 .bf16) (x1 : Vec Ideal S1x1x128x512 .bf16)
  (x2 : Vec Ideal S1x1x256x512 .bf16) (x3 : Vec Ideal S1x1x128x512 .bf16) (x4 x5 : Vec Ideal S1x1x256x512 .bf16)
  (x6 x7 : Vec Ideal S1x1x256x512 .f32) (i : Fin 256)
  (Q G : Fin 4 → Fin 128 → ℝ) (K V : Fin 384 → Fin 4 → Fin 128 → ℝ) (L D : Fin 4 → ℝ)

/-- The keys that row `i` of block `t` attends to, among the 384 at hand. -/
def near (t i j : ℕ) : Prop := i ≤ j ∧ j ≤ i + 128 ∧ (0 < t ∨ 128 ≤ j)

instance (t i j : ℕ) : Decidable (near t i j) := by unfold near; infer_instance

/-- The store of head `h` puts the head's result at the head's columns. -/
theorem tile_real (o : ℕ) (h : Fin 4) (d : Fin 128) (k : Fin 4) (ho : o = k.val * 128)
    (i0 i1 i2 i3 i4 i5 i6 i7)
    (h0 : ∀ h e, x0 (ix4 0 0 i (col h e)) = ((Q h e : ℝ) : EReal))
    (h1 : ∀ (j : Fin 128) h e, x1 (ix4 0 0 j (col h e)) = ((K ⟨j, by omega⟩ h e : ℝ) : EReal))
    (h2 : ∀ (j : Fin 256) h e, x2 (ix4 0 0 j (col h e)) = ((K ⟨j + 128, by omega⟩ h e : ℝ) : EReal))
    (h3 : ∀ (j : Fin 128) h e, x3 (ix4 0 0 j (col h e)) = ((V ⟨j, by omega⟩ h e : ℝ) : EReal))
    (h4 : ∀ (j : Fin 256) h e, x4 (ix4 0 0 j (col h e)) = ((V ⟨j + 128, by omega⟩ h e : ℝ) : EReal))
    (h5 : ∀ h e, x5 (ix4 0 0 i (col h e)) = ((G h e : ℝ) : EReal))
    (h6 : ∀ h, x6 (ix4 0 0 i (col h 0)) = ((L h : ℝ) : EReal))
    (h7 : ∀ h, x7 (ix4 0 0 i (col h 0)) = ((D h : ℝ) : EReal)) :
    View.TileAt (Val := Elt Ideal) (S := S1x1x256x512) (e := .f32) (ix4 0 0 i (col h d)) ![0, 0, 0, o] S1x1x256x128.size
      (headOut (k0_pay5 t) (View.ld x0 (Rect.unit (s := S1x1x256x512) ![0, 0, 0, o] S1x1x256x128.size i0))
        (View.ld x1 (Rect.unit (s := S1x1x128x512) ![0, 0, 0, o] S1x1x128x128.size i1))
        (View.ld x2 (Rect.unit (s := S1x1x256x512) ![0, 0, 0, o] S1x1x256x128.size i2))
        (View.ld x3 (Rect.unit (s := S1x1x128x512) ![0, 0, 0, o] S1x1x128x128.size i3))
        (View.ld x4 (Rect.unit (s := S1x1x256x512) ![0, 0, 0, o] S1x1x256x128.size i4))
        (View.ld x5 (Rect.unit (s := S1x1x256x512) ![0, 0, 0, o] S1x1x256x128.size i5))
        (View.ld x6 (Rect.unit (s := S1x1x256x512) ![0, 0, 0, o] S1x1x256x1.size i6))
        (View.ld x7 (Rect.unit (s := S1x1x256x512) ![0, 0, 0, o] S1x1x256x1.size i7)))
      ((rowGrad (fun j => near (t 2).val i j) (Q h) (G h) (fun j => K j h) (fun j => V j h) (L h) (D h) d : ℝ) : EReal) := by
  intro x hx
  subst ho
  have e2 : i.val = (x 2).val := by simpa using hx 2
  have e3 : h.val * 128 + d.val = k.val * 128 + (x 3).val := hx 3
  have hlt : (x 3).val < 128 := (x 3).isLt
  obtain rfl : h = k := Fin.ext (by omega)
  have ex : x = ix4 0 0 i d := by
    funext a
    apply Fin.ext
    match a with
    | ⟨0, _⟩ => exact Nat.lt_one_iff.mp (x 0).isLt
    | ⟨1, _⟩ => exact Nat.lt_one_iff.mp (x 1).isLt
    | ⟨2, _⟩ => exact e2.symm
    | ⟨3, _⟩ => show (x 3).val = d.val; omega
  subst ex
  refine head_real _ _ _ _ _ _ _ _ _ i d _ (Q h) (G h) (fun j => K j h) (fun j => V j h) (L h) (D h) ?_ ?_ ?_ ?_ ?_ ?_ ?_ ?_ ?_
  · exact fun j => mask_read t i j
  · intro e; rw [← h0 h e]; exact View.ld_unit_apply_of _ _ _ _ _ _ (by intro a; fin_cases a <;> simp)
  · intro e; rw [← h5 h e]; exact View.ld_unit_apply_of _ _ _ _ _ _ (by intro a; fin_cases a <;> simp)
  · intro j e; rw [← h1 j h e]; exact View.ld_unit_apply_of _ _ _ _ _ _ (by intro a; fin_cases a <;> simp)
  · intro j e; rw [← h2 j h e]; exact View.ld_unit_apply_of _ _ _ _ _ _ (by intro a; fin_cases a <;> simp)
  · intro j e; rw [← h3 j h e]; exact View.ld_unit_apply_of _ _ _ _ _ _ (by intro a; fin_cases a <;> simp)
  · intro j e; rw [← h4 j h e]; exact View.ld_unit_apply_of _ _ _ _ _ _ (by intro a; fin_cases a <;> simp)
  · rw [← h6 h]; exact View.ld_unit_apply_of _ _ _ _ _ _ (by intro a; fin_cases a <;> simp)
  · rw [← h7 h]; exact View.ld_unit_apply_of _ _ _ _ _ _ (by intro a; fin_cases a <;> simp)

/-- The block that a grid point writes, at row `i`, head `h`, feature `d`. -/
theorem block_real (h : Fin 4) (d : Fin 128)
    (h0 : ∀ h e, x0 (ix4 0 0 i (col h e)) = ((Q h e : ℝ) : EReal))
    (h1 : ∀ (j : Fin 128) h e, x1 (ix4 0 0 j (col h e)) = ((K ⟨j, by omega⟩ h e : ℝ) : EReal))
    (h2 : ∀ (j : Fin 256) h e, x2 (ix4 0 0 j (col h e)) = ((K ⟨j + 128, by omega⟩ h e : ℝ) : EReal))
    (h3 : ∀ (j : Fin 128) h e, x3 (ix4 0 0 j (col h e)) = ((V ⟨j, by omega⟩ h e : ℝ) : EReal))
    (h4 : ∀ (j : Fin 256) h e, x4 (ix4 0 0 j (col h e)) = ((V ⟨j + 128, by omega⟩ h e : ℝ) : EReal))
    (h5 : ∀ h e, x5 (ix4 0 0 i (col h e)) = ((G h e : ℝ) : EReal))
    (h6 : ∀ h, x6 (ix4 0 0 i (col h 0)) = ((L h : ℝ) : EReal))
    (h7 : ∀ h, x7 (ix4 0 0 i (col h 0)) = ((D h : ℝ) : EReal)) :
    out0_8 t x0 x1 x2 x3 x4 x5 x6 x7 (ix4 0 0 i (col h d))
      = ((rowGrad (fun j => near (t 2).val i j) (Q h) (G h) (fun j => K j h) (fun j => V j h) (L h) (D h) d : ℝ) : EReal) := by
  rw [out_heads]
  refine View.canon_eq_of_allAt _ _ _ (cover0_8 _ _ _ _ _) ?_
  refine View.allAt_cons_unit _ _ _ _ _ (tile_real t x0 x1 x2 x3 x4 x5 x6 x7 i Q G K V L D 384 h d 3 rfl _ _ _ _ _ _ _ _ h0 h1 h2 h3 h4 h5 h6 h7) ?_
  refine View.allAt_cons_unit _ _ _ _ _ (tile_real t x0 x1 x2 x3 x4 x5 x6 x7 i Q G K V L D 256 h d 2 rfl _ _ _ _ _ _ _ _ h0 h1 h2 h3 h4 h5 h6 h7) ?_
  refine View.allAt_cons_unit _ _ _ _ _ (tile_real t x0 x1 x2 x3 x4 x5 x6 x7 i Q G K V L D 128 h d 1 rfl _ _ _ _ _ _ _ _ h0 h1 h2 h3 h4 h5 h6 h7) ?_
  refine View.allAt_cons_unit _ _ _ _ _ (tile_real t x0 x1 x2 x3 x4 x5 x6 x7 i Q G K V L D 0 h d 0 rfl _ _ _ _ _ _ _ _ h0 h1 h2 h3 h4 h5 h6 h7) ?_
  exact View.allAt_nil _ _

end

end Cert.Att.Body

end
-- ==== Proof.Array.lean ====
/- The array the kernel leaves behind: every row's gradient against the keys of its own block and of the 128 positions
   before it, given real contents of the five arrays the region reads. -/
module

public import proofs.«01_k».proof.Proof.Blocks

@[expose] public section

set_option maxRecDepth 16384

noncomputable section

namespace Cert.Att.Body

open Idealize.ShloMosaic Idealize.ShloMosaic.TcCoe Cert.KernelIdeal Cert.KernelIdeal.Gen

/-! ## Where each window reads -/

theorem at0 : ∀ t : Fin cfg0.N, win0_0.index t = ![(grid0.coords t 0).val, 0, (grid0.coords t 2).val, 0] :=
  (by decide +kernel : ∀ t : Fin grid0.N, _)
theorem at1 : ∀ t : Fin cfg0.N, win0_1.index t = ![(grid0.coords t 0).val, 0, 2 * (grid0.coords t 2).val - 1, 1] :=
  (by decide +kernel : ∀ t : Fin grid0.N, _)
theorem at2 : ∀ t : Fin cfg0.N, win0_2.index t = ![(grid0.coords t 0).val, 0, (grid0.coords t 2).val, 1] :=
  (by decide +kernel : ∀ t : Fin grid0.N, _)
theorem at3 : ∀ t : Fin cfg0.N, win0_3.index t = ![(grid0.coords t 0).val, 0, 2 * (grid0.coords t 2).val - 1, 2] :=
  (by decide +kernel : ∀ t : Fin grid0.N, _)
theorem at4 : ∀ t : Fin cfg0.N, win0_4.index t = ![(grid0.coords t 0).val, 0, (grid0.coords t 2).val, 2] :=
  (by decide +kernel : ∀ t : Fin grid0.N, _)
theorem at5 : ∀ t : Fin cfg0.N, win0_5.index t = ![(grid0.coords t 0).val, 0, (grid0.coords t 2).val, 0] :=
  (by decide +kernel : ∀ t : Fin grid0.N, _)
theorem at6 : ∀ t : Fin cfg0.N, win0_6.index t = ![(grid0.coords t 0).val, 0, (grid0.coords t 2).val, 0] :=
  (by decide +kernel : ∀ t : Fin grid0.N, _)
theorem at7 : ∀ t : Fin cfg0.N, win0_7.index t = ![(grid0.coords t 0).val, 0, (grid0.coords t 2).val, 0] :=
  (by decide +kernel : ∀ t : Fin grid0.N, _)
theorem at8 : ∀ t : Fin cfg0.N, win0_8.index t = ![(grid0.coords t 0).val, 0, (grid0.coords t 2).val, 0] :=
  (by decide +kernel : ∀ t : Fin grid0.N, _)

/-- The position of key `j` among the 384 that block `t` has at hand: 128 of the block before, then the block's own. -/
def keyAt (t : Fin 16) (j : Fin 384) : Fin 4096 :=
  if j.val < 128 then ⟨(2 * t.val - 1) * 128 + j.val, by omega⟩ else ⟨t.val * 256 + (j.val - 128), by omega⟩

theorem keyAt_old (t : Fin 16) (j : Fin 128) : (keyAt t ⟨j.val, by omega⟩).val = (2 * t.val - 1) * 128 + j.val := by
  simp [keyAt]

theorem keyAt_new (t : Fin 16) (j : Fin 256) : (keyAt t ⟨j.val + 128, by omega⟩).val = t.val * 256 + j.val := by
  simp [keyAt]

/-! ## What each window's block holds of its array -/

section

variable (t : Fin cfg0.N) (b : Fin 2) (t' : Fin 16) (eb : b.val = (grid0.coords t 0).val) (et : t'.val = (grid0.coords t 2).val)
include eb et

theorem read0 (X : Vec Ideal ⟨4, ![2, 1, 4096, 1536]⟩ .bf16) (i : Fin 256) (s : Fin 4096) (es : s.val = t'.val * 256 + i.val) (h : Fin 4) (e : Fin 128) :
    (win0_0.blk t).view.read (Elt Ideal) X (ix4 0 0 i (col h e)) = X (ix4 b 0 s ⟨h.val * 128 + e.val, by omega⟩) := by
  blk_ext! [at0 t]

theorem read1 (X : Vec Ideal ⟨4, ![2, 1, 4096, 1536]⟩ .bf16) (i : Fin 128)  (h : Fin 4) (e : Fin 128) :
    (win0_1.blk t).view.read (Elt Ideal) X (ix4 0 0 i (col h e)) = X (ix4 b 0 (keyAt t' ⟨i.val, by omega⟩) ⟨512 + (h.val * 128 + e.val), by omega⟩) := by
  have es := keyAt_old t' i
  generalize keyAt t' _ = s at es ⊢
  blk_ext! [at1 t]

theorem read2 (X : Vec Ideal ⟨4, ![2, 1, 4096, 1536]⟩ .bf16) (i : Fin 256)  (h : Fin 4) (e : Fin 128) :
    (win0_2.blk t).view.read (Elt Ideal) X (ix4 0 0 i (col h e)) = X (ix4 b 0 (keyAt t' ⟨i.val + 128, by omega⟩) ⟨512 + (h.val * 128 + e.val), by omega⟩) := by
  have es := keyAt_new t' i
  generalize keyAt t' _ = s at es ⊢
  blk_ext! [at2 t]

theorem read3 (X : Vec Ideal ⟨4, ![2, 1, 4096, 1536]⟩ .bf16) (i : Fin 128)  (h : Fin 4) (e : Fin 128) :
    (win0_3.blk t).view.read (Elt Ideal) X (ix4 0 0 i (col h e)) = X (ix4 b 0 (keyAt t' ⟨i.val, by omega⟩) ⟨1024 + (h.val * 128 + e.val), by omega⟩) := by
  have es := keyAt_old t' i
  generalize keyAt t' _ = s at es ⊢
  blk_ext! [at3 t]

theorem read4 (X : Vec Ideal ⟨4, ![2, 1, 4096, 1536]⟩ .bf16) (i : Fin 256)  (h : Fin 4) (e : Fin 128) :
    (win0_4.blk t).view.read (Elt Ideal) X (ix4 0 0 i (col h e)) = X (ix4 b 0 (keyAt t' ⟨i.val + 128, by omega⟩) ⟨1024 + (h.val * 128 + e.val), by omega⟩) := by
  have es := keyAt_new t' i
  generalize keyAt t' _ = s at es ⊢
  blk_ext! [at4 t]

theorem read5 (X : Vec Ideal ⟨4, ![2, 1, 4096, 512]⟩ .bf16) (i : Fin 256) (s : Fin 4096) (es : s.val = t'.val * 256 + i.val) (h : Fin 4) (e : Fin 128) :
    (win0_5.blk t).view.read (Elt Ideal) X (ix4 0 0 i (col h e)) = X (ix4 b 0 s ⟨h.val * 128 + e.val, by omega⟩) := by
  blk_ext! [at5 t]

theorem read6 (X : Vec Ideal ⟨4, ![2, 1, 4096, 512]⟩ .f32) (i : Fin 256) (s : Fin 4096) (es : s.val = t'.val * 256 + i.val) (h : Fin 4) (e : Fin 128) :
    (win0_6.blk t).view.read (Elt Ideal) X (ix4 0 0 i (col h e)) = X (ix4 b 0 s ⟨h.val * 128 + e.val, by omega⟩) := by
  blk_ext! [at6 t]

theorem read7 (X : Vec Ideal ⟨4, ![2, 1, 4096, 512]⟩ .f32) (i : Fin 256) (s : Fin 4096) (es : s.val = t'.val * 256 + i.val) (h : Fin 4) (e : Fin 128) :
    (win0_7.blk t).view.read (Elt Ideal) X (ix4 0 0 i (col h e)) = X (ix4 b 0 s ⟨h.val * 128 + e.val, by omega⟩) := by
  blk_ext! [at7 t]

end

/-- The gradient row that the kernel computes. -/
def grad (Q K W G : Arr) (L D : Row) (b : Fin 2) (s : Fin 4096) (h : Fin 4) (d : Fin 128) : ℝ :=
  rowGrad (fun j => near (s.val / 256) (s.val % 256) j) (Q b s h) (G b s h)
    (fun j => K b (keyAt ⟨s.val / 256, by omega⟩ j) h) (fun j => W b (keyAt ⟨s.val / 256, by omega⟩ j) h) (L b s h) (D b s h) d

theorem grad_at (Q K W G : Arr) (L D : Row) (b : Fin 2) (t : Fin 16) (i : Fin 256) (h : Fin 4) (d : Fin 128)
    (s : Fin 4096) (hs : s.val = t.val * 256 + i.val) :
    grad Q K W G L D b s h d = rowGrad (fun j => near t.val i j) (Q b s h) (G b s h)
      (fun j => K b (keyAt t j) h) (fun j => W b (keyAt t j) h) (L b s h) (D b s h) d := by
  have e1 : s.val / 256 = t.val := by omega
  have e2 : s.val % 256 = i.val := by omega
  unfold grad
  simp only [e1, e2]

variable (m : (ℓ : Loc nD τ sig) → Buf (Elt Ideal) ℓ) (c : Dev nD) (Q K W G : Arr) (L D : Row)

theorem array_real
    (hq : ∀ b s h (e : Fin 128), V m c main_v7 (ix4 b 0 s ⟨h.val * 128 + e.val, by omega⟩) = ((Q b s h e : ℝ) : EReal))
    (hk : ∀ b s (h : Fin 4) (e : Fin 128), V m c main_v7 (ix4 b 0 s ⟨512 + (h.val * 128 + e.val), by omega⟩) = ((K b s h e : ℝ) : EReal))
    (hv : ∀ b s (h : Fin 4) (e : Fin 128), V m c main_v7 (ix4 b 0 s ⟨1024 + (h.val * 128 + e.val), by omega⟩) = ((W b s h e : ℝ) : EReal))
    (hg : ∀ b s h e, V m c main_v107 (ix4 b 0 s (col h e)) = ((G b s h e : ℝ) : EReal))
    (hL : ∀ b s h, V m c main_v111 (ix4 b 0 s (col h 0)) = ((L b s h : ℝ) : EReal))
    (hD : ∀ b s h, V m c main_v115 (ix4 b 0 s (col h 0)) = ((D b s h : ℝ) : EReal)) :
    (dats m 0 c).arrAt 8 cfg0.N
      = fun y : S2x1x4096x512.Idx => ((grad Q K W G L D (y 0) (y 2) ⟨(y 3).val / 128, by have : (y 3).val < 512 := (y 3).isLt; omega⟩
          ⟨(y 3).val % 128, by omega⟩ : ℝ) : EReal) := by
  refine (dats m 0 c).arrAt_eq_of_covers 8 _ (by decide +kernel) fun t hf y => ?_
  blk_simp
  rw [after0_8]
  obtain ⟨i, h, d, rfl⟩ : ∃ (i : Fin 256) (h : Fin 4) (d : Fin 128), y = ix4 0 0 i (col h d) := by
    have h3 : (y 3).val < 512 := (y 3).isLt
    refine ⟨y 2, ⟨(y 3).val / 128, by omega⟩, ⟨(y 3).val % 128, by omega⟩, ?_⟩
    funext a
    apply Fin.ext
    match a with
    | ⟨0, _⟩ => exact Nat.lt_one_iff.mp (y 0).isLt
    | ⟨1, _⟩ => exact Nat.lt_one_iff.mp (y 1).isLt
    | ⟨2, _⟩ => rfl
    | ⟨3, _⟩ => show (y 3).val = (y 3).val / 128 * 128 + (y 3).val % 128; omega
  have ht : (grid0.coords t 2).val < 16 := (grid0.coords t 2).isLt
  have hb : (grid0.coords t 0).val < 2 := (grid0.coords t 0).isLt
  obtain ⟨b, eb⟩ : ∃ b : Fin 2, b.val = (grid0.coords t 0).val := ⟨⟨_, hb⟩, rfl⟩
  obtain ⟨t', et⟩ : ∃ t' : Fin 16, t'.val = (grid0.coords t 2).val := ⟨⟨_, ht⟩, rfl⟩
  obtain ⟨s, es⟩ : ∃ s : Fin 4096, s.val = t'.val * 256 + i.val := ⟨⟨_, by omega⟩, rfl⟩
  refine (block_real (grid0.coords t) _ _ _ _ _ _ _ _ i (Q b s) (G b s) (fun j => K b (keyAt t' j)) (fun j => W b (keyAt t' j))
    (L b s) (D b s) h d ?_ ?_ ?_ ?_ ?_ ?_ ?_ ?_).trans ?_
  · intro h e
    rw [← hq b s h e]
    exact read0 t b t' eb et _ i s es h e
  · intro j h e
    rw [← hk b _ h e]
    exact read1 t b t' eb et _ j h e
  · intro j h e
    rw [← hk b _ h e]
    exact read2 t b t' eb et _ j h e
  · intro j h e
    rw [← hv b _ h e]
    exact read3 t b t' eb et _ j h e
  · intro j h e
    rw [← hv b _ h e]
    exact read4 t b t' eb et _ j h e
  · intro h e
    rw [← hg b s h e]
    exact read5 t b t' eb et _ i s es h e
  · intro h
    rw [← hL b s h]
    exact read6 t b t' eb et _ i s es h 0
  · intro h
    rw [← hD b s h]
    exact read7 t b t' eb et _ i s es h 0
  · have e0 : (win0_8.blk t).view.emb (ix4 0 0 i (col h d)) 0 = b := by
      apply Fin.ext; blk_simp [at8 t]; omega
    have e2 : (win0_8.blk t).view.emb (ix4 0 0 i (col h d)) 2 = s := by
      apply Fin.ext; blk_simp [at8 t]; omega
    have e3 : win0_8.index t 3 * 512 + (ix4 (n0 := 1) (n1 := 1) (n2 := 256) (n3 := 512) 0 0 i (col h d) 3).val = h.val * 128 + d.val := by
      rw [at8 t]; show 0 * 512 + (h.val * 128 + d.val) = _; omega
    rw [e0, e2]
    have e4 : ∀ (n : ℕ) (p₁ p₂), n = h.val * 128 + d.val → grad Q K W G L D b s ⟨n / 128, p₁⟩ ⟨n % 128, p₂⟩ = grad Q K W G L D b s h d := by
      intro n p₁ p₂ hn
      congr 1 <;> apply Fin.ext <;> simp only [hn] <;> omega
    rw [e4 _ _ _ e3, grad_at Q K W G L D b t' i h d s es, et]

end Cert.Att.Body

end
-- ==== Proof.Entry.lean ====
/- The arrays the kernel call reads, over real arguments: queries, keys and values as given, the cotangent as given, the
   log of the merged sum of exponentials, and the incoming gradient against the merged output. -/
module

public import proofs.«01_k».proof.Proof.PrefixReal
public import proofs.«01_k».proof.Proof.Array

@[expose] public section

set_option maxRecDepth 16384

noncomputable section

namespace Cert.Att.Prefix

open Idealize.ShloMosaic Idealize.ShloMosaic.TcCoe Idealize.ShloMosaic.StableHlo
open Cert.KernelIdeal Cert.KernelIdeal.Gen

/-- The kernel program's arguments are the real arrays. -/
structure Start (W : Valuation τ sig (Elt Ideal)) (Q K V O4 : Arr) (L4 : Row) (O16 : Arr) (L16 : Row) (G : Arr) : Prop where
  q : (W (Proc.devRef .tc main_arg0) : A4) = up Q
  k : (W (Proc.devRef .tc main_arg1) : A4) = up K
  v : (W (Proc.devRef .tc main_arg2) : A4) = up V
  o4 : (W (Proc.devRef .tc main_arg3) : A4) = up O4
  l4 : (W (Proc.devRef .tc main_arg4) : A3) = up3 L4
  o16 : (W (Proc.devRef .tc main_arg5) : A4) = up O16
  l16 : (W (Proc.devRef .tc main_arg6) : A3) = up3 L16
  ct : (W (Proc.devRef .tc main_arg7) : A4) = up G

variable {W : Valuation τ sig (Elt Ideal)} {V0 : Ref.RefVal} {Q K V O4 O16 G : Arr} {L4 L16 : Row}
  (w : Start W Q K V O4 L4 O16 L16 G) (r : Ref.Given V0 Q K V O4 L4 O16 L16 G)
  (b : Fin 2) (s : Fin 4096) (h : Fin 4) (d : Fin 128)

include w

/-- The arguments after the first part of the host code. -/
theorem start_early : Start (after early W) Q K V O4 L4 O16 L16 G := by
  obtain ⟨a0, a1, a2, a3, a4, a5, a6, a7⟩ := args_read W
  exact ⟨a0.trans w.q, a1.trans w.k, a2.trans w.v, a3.trans w.o4, a4.trans w.l4, a5.trans w.o16, a6.trans w.l16, a7.trans w.ct⟩

theorem entry_q : (after hostOps0_6 (after early W) (Proc.devRef .tc main_v7) : FVec Ideal S2x1x4096x1536 .bf16)
    (ix4 b 0 s ⟨h.val * 128 + d.val, by omega⟩) = ((Q b s h d : ℝ) : EReal) := by
  rw [packed_read, queries_at, w.q]
  rfl

theorem entry_k : (after hostOps0_6 (after early W) (Proc.devRef .tc main_v7) : FVec Ideal S2x1x4096x1536 .bf16)
    (ix4 b 0 s ⟨512 + (h.val * 128 + d.val), by omega⟩) = ((K b s h d : ℝ) : EReal) := by
  rw [packed_read, keys_at, w.k]
  rfl

theorem entry_v : (after hostOps0_6 (after early W) (Proc.devRef .tc main_v7) : FVec Ideal S2x1x4096x1536 .bf16)
    (ix4 b 0 s ⟨1024 + (h.val * 128 + d.val), by omega⟩) = ((V b s h d : ℝ) : EReal) := by
  rw [packed_read, values_at, w.v]
  rfl

theorem entry_g : (after hostOps0_6 (after early W) (Proc.devRef .tc main_v107) : FVec Ideal S2x1x4096x512 .bf16)
    (ix4 b 0 s ⟨h.val * 128 + d.val, by omega⟩) = ((G b s h d : ℝ) : EReal) := by
  rw [cotangent_read, (start_early w).ct]
  exact flat_at b s h d (up G)

include r

theorem scores_eq : (after early W (Proc.devRef .tc main_v55) : FVec Ideal S2x1x32x4x128x256 .f32) = Ref.groupScores V0 :=
  scores_read W V0 (w.q.trans r.q.symm) (w.k.trans r.k.symm)

theorem values_eq : (after early W (Proc.devRef .tc main_v36) : FVec Ideal S2x1x32x256x4x128 .f32) = Ref.groupValues V0 :=
  values_read W V0 (w.v.trans r.v.symm)

theorem entry_l : (after hostOps0_6 (after early W) (Proc.devRef .tc main_v111) : FVec Ideal S2x1x4096x512 .f32)
    (ix4 b 0 s ⟨h.val * 128 + d.val, by omega⟩) = ((Real.log (T Q K L4 L16 b s h) : ℝ) : EReal) := by
  rw [joint_read _ V0 (scores_eq w r), flat_at, spread_at, (start_early w).l4, (start_early w).l16]
  refine (joint_at b s h _ _ _ _ _ _ (Ref.groupLog_at r b s h) rfl rfl).trans (congrArg _ ?_)
  unfold T
  rw [Real.exp_log (Z_pos Q K b (blk s) (off s) h)]
  rfl

theorem entry_d : (after hostOps0_6 (after early W) (Proc.devRef .tc main_v115) : FVec Ideal S2x1x4096x512 .f32)
    (ix4 b 0 s ⟨h.val * 128 + d.val, by omega⟩) = ((delta Q K V L4 L16 O4 O16 G b s h : ℝ) : EReal) := by
  rw [delta_read _ V0 (scores_eq w r) (values_eq w r), flat_at, spread_at, (start_early w).l4, (start_early w).l16,
    (start_early w).o4, (start_early w).o16, (start_early w).ct]
  refine (rowdot_at b s h _ _ _ _ _ _ (Ref.groupLog_at r b s h) rfl rfl _ _ _ _ _ _ _ _ (Ref.groupOut_at r b s h)
    (fun _ => rfl) (fun _ => rfl) (fun _ => rfl)).trans (congrArg _ ?_)
  unfold delta T
  rw [Real.exp_log (Z_pos Q K b (blk s) (off s) h)]
  rfl

end Cert.Att.Prefix

end
-- ==== Proof.Join.lean ====
/- The kernel's gradient row is the gradient of the specification: with the log of the merged sum and the merged `delta` in
   hand, the 384 keys of a block hold the row's band. -/
module

public import proofs.«01_k».proof.Proof.Spec
public import proofs.«01_k».proof.Proof.Array

@[expose] public section

noncomputable section

namespace Cert.Att

open Idealize.ShloMosaic Cert.Att.Body

variable (Q K V : Arr) (L4 L16 : Row) (O4 O16 G : Arr)

/-- A kept key's row is the row named by its position. -/
theorem look_key (X : Arr) (b : Fin 2) (t : Fin 16) (j : Fin 384) (h : Fin 4) (hj : 0 < t.val ∨ 128 ≤ j.val) :
    X b (keyAt t j) h = look X b h (t.val * 256 + j.val) := by
  funext d
  unfold look
  rw [dif_pos (by omega)]
  refine congrArg (fun s => X b s h d) (Fin.ext ?_)
  unfold keyAt
  split <;> simp only <;> omega

theorem grad_eq (b : Fin 2) (s : Fin 4096) (h : Fin 4) (d : Fin 128) :
    grad Q K V G (fun b s h => Real.log (T Q K L4 L16 b s h)) (delta Q K V L4 L16 O4 O16 G) b s h d
      = dq Q K V L4 L16 O4 O16 G b s h d := by
  have hT := T_pos Q K L4 L16 b s h
  unfold dq
  rw [sum_window (term Q K V L4 L16 O4 O16 G b s h d) s ((blk s).val * 128) 256 (by simp only [blk]; omega)
      (by simp only [blk]; omega) (term_zero Q K V L4 L16 O4 O16 G b s h d),
    ← sum_window (term Q K V L4 L16 O4 O16 G b s h d) s (s.val / 256 * 256) 384 (by omega) (by omega)
      (term_zero Q K V L4 L16 O4 O16 G b s h d)]
  unfold grad rowGrad
  congr 1
  refine Finset.sum_congr rfl fun j _ => ?_
  by_cases hM : near (s.val / 256) (s.val % 256) j
  · have hk : mk s (s.val / 256 * 256 + j.val) := by unfold near at hM; unfold mk; omega
    have e := fun X => look_key X b ⟨s.val / 256, by omega⟩ j h hM.2.2
    simp only [if_pos hM, e K, e V, Real.exp_sub, Real.exp_log hT, term, if_pos hk, score]
  · have hk : ¬ mk s (s.val / 256 * 256 + j.val) := by unfold near at hM; unfold mk; omega
    rw [if_neg hM]
    simp only [term, if_neg hk]
    ring

end Cert.Att

end
-- ==== Proof.RefGrad.lean ====
/- The reference's gradient through the first group's attention, read at an index over real arrays: the result is the
   specification's gradient in `q`. -/
module

public import proofs.«01_k».proof.Proof.RefMerge

@[expose] public section

set_option maxRecDepth 16384

noncomputable section

namespace Cert.Att.Ref

open Idealize.ShloMosaic Idealize.ShloMosaic.TcCoe Idealize.ShloMosaic.StableHlo Cert.ReferenceIdeal Cert.ReferenceIdeal.Gen Cert.ReferenceIdeal.Value

variable {V0 : Valuation τ sig (Elt Ideal)} {Q K V O4 O16 G : Arr} {L4 L16 : Row} (w : Given V0 Q K V O4 L4 O16 L16 G)
  (b : Fin 2) (n : Fin 32) (h : Fin 4) (i : Fin 128) (j : Fin 256) (d : Fin 128)

/-- A column of row values laid out in blocks, at an index. -/
theorem blocked_at (x : FVec Ideal S3x2x4096x4 .f32) :
    broadcastInDim S2x1x32x4x128x1 ![0, 1, 2, 3, 4] bcast_S2x1x32x4x128_S2x1x32x4x128x1_0_1_2_3_4 (transpose S2x1x32x4x128 [0, 1, 2, 4, 3] (shapeCast _ (transpose S2x1x4096x4 [0, 2, 1, 3] (shapeCast _ (shapeCast _ (extractStridedSlice S1x2x4096x4 ![0, 0, 0, 0] x slices_S3x2x4096x4_S1x2x4096x4_0_0_0_0) shapeCasts_S1x2x4096x4_S2x4096x4) shapeCasts_S2x4096x4_S2x4096x1x4) transposes_S2x4096x1x4_S2x1x4096x4_0_2_1_3) shapeCasts_S2x1x4096x4_S2x1x32x128x4) transposes_S2x1x32x128x4_S2x1x32x4x128_0_1_2_4_3) (ix6 b 0 n h i 0)
      = x (ix4 0 b (pos n i) h) := by
  pointwise []

theorem blocked_rows_at (x : FVec Ideal S3x2x4096x4x128 .f32) :
    transpose S2x1x32x4x128x128 [0, 1, 2, 4, 5, 3] (shapeCast _ (transpose S2x1x4096x4x128 [0, 2, 1, 3, 4] (shapeCast _ (shapeCast _ (extractStridedSlice S1x2x4096x4x128 ![0, 0, 0, 0, 0] x slices_S3x2x4096x4x128_S1x2x4096x4x128_0_0_0_0_0) shapeCasts_S1x2x4096x4x128_S2x4096x4x128) shapeCasts_S2x4096x4x128_S2x4096x1x4x128) transposes_S2x4096x1x4x128_S2x1x4096x4x128_0_2_1_3_4) shapeCasts_S2x1x4096x4x128_S2x1x32x128x4x128) transposes_S2x1x32x128x4x128_S2x1x32x4x128x128_0_1_2_4_5_3 (ix6 b 0 n h d i)
      = x (ix5 0 b (pos n i) h d) := by
  pointwise []

/-- A dot product over real values. -/
theorem dot_real {N : ℕ} {f g : Fin N → EReal} {f' g' : Fin N → ℝ} (hf : ∀ d, f d = (f' d : EReal)) (hg : ∀ d, g d = (g' d : EReal)) :
    ∑ d, f d * g d = ((∑ d, f' d * g' d : ℝ) : EReal) := by
  simp only [hf, hg, ← EReal.coe_mul, coe_sum]

/-- The gradient of the weights: incoming rows against values, at an index. -/
theorem dprob_dot (x : FVec Ideal S2x1x32x4x128x128 .f32) (y : FVec Ideal S2x1x32x256x4x128 .f32) :
    Host.dotGeneral dot_S2x1x32x4x128x128_S2x1x32x256x4x128_S2x1x32x4x128x256_4_5_5_3_0123_0124 none x y (ix6 b 0 n h i j)
      = ∑ d : Fin 128, x (ix6 b 0 n h d i) * y (ix6 b 0 n j h d) := by
  pointwise []

/-- The gradient through `softmax = e / z`, at an index and over real values. -/
theorem softmax_back (a e : FVec Ideal S2x1x32x4x128x256 .f32) (t z : FVec Ideal S2x1x32x4x128x1 .f32) (a' e' : Fin 256 → ℝ) (t' z' : ℝ) (hz' : z' ≠ 0)
    (ha : ∀ j, a (ix6 b 0 n h i j) = (a' j : EReal)) (he : ∀ j, e (ix6 b 0 n h i j) = (e' j : EReal))
    (ht : t (ix6 b 0 n h i 0) = (t' : EReal)) (hz : z (ix6 b 0 n h i 0) = (z' : EReal)) :
    (mulf (addf (Host.divf a (broadcastInDim S2x1x32x4x128x256 ![0, 1, 2, 3, 4, 5] bcast_S2x1x32x4x128x1_S2x1x32x4x128x256_0_1_2_3_4_5 z)) (broadcastInDim S2x1x32x4x128x256 ![0, 1, 2, 3, 4] bcast_S2x1x32x4x128_S2x1x32x4x128x256_0_1_2_3_4 (broadcastInDim S2x1x32x4x128 ![0, 2, 3, 4] bcast_S2x32x4x128_S2x1x32x4x128_0_2_3_4 (Host.reduceAdd (addf (Host.divf t z) (Host.negf (shapeCast _ (Host.reduceAdd (mulf (mulf a (broadcastInDim S2x1x32x4x128x256 ![0, 1, 2, 3, 4, 5] bcast_S2x1x32x4x128x1_S2x1x32x4x128x256_0_1_2_3_4_5 (Host.divf (broadcastInDim S2x1x32x4x128x1 ![] bcast_S_S2x1x32x4x128x1 (constant S_ .f32 0x3F800000#32)) (mulf z z)))) e) (constant S_ .f32 0x00000000#32) reducesTo_S2x1x32x4x128x256_S2x1x32x4x128_d5 h_S_) shapeCasts_S2x1x32x4x128_S2x1x32x4x128x1))) (constant S_ .f32 0x00000000#32) reducesTo_S2x1x32x4x128x1_S2x32x4x128_d1_5 h_S_)))) e : FVec Ideal S2x1x32x4x128x256 .f32) (ix6 b 0 n h i j)
      = (((a' j / z' + (t' / z' + -(∑ l, a' l * (1 / (z' * z')) * e' l))) * e' j : ℝ) : EReal) := by
  pointwise []
  rw [sum_unit]
  pointwise []
  rw [sum_last]
  pointwise []
  simp only [ha, he, ht, hz]
  rw [← EReal.coe_one]
  simp only [← EReal.coe_mul, coe_div hz', coe_div (mul_ne_zero hz' hz'), coe_sum, ← EReal.coe_neg, ← EReal.coe_add]

/-- The scores' gradient: masked and scaled, with the part through the maximum. -/
def scoreGrad (k : IVec S2x1x32x4x128x256 1) (g c : FVec Ideal S2x1x32x4x128x256 .f32) (t : FVec Ideal S2x1x32x4x128x1 .f32) : FVec Ideal S2x1x32x4x128x256 .f32 :=
  mulf (select k (addf g (mulf (broadcastInDim S2x1x32x4x128x256 ![0, 1, 2, 3, 4] bcast_S2x1x32x4x128_S2x1x32x4x128x256_0_1_2_3_4 (Host.divf (broadcastInDim S2x1x32x4x128 ![0, 2, 3, 4] bcast_S2x32x4x128_S2x1x32x4x128_0_2_3_4 (Host.reduceAdd (addf t (shapeCast _ (Host.reduceAdd (Host.negf g) (constant S_ .f32 0x00000000#32) reducesTo_S2x1x32x4x128x256_S2x1x32x4x128_d5 h_S_) shapeCasts_S2x1x32x4x128_S2x1x32x4x128x1)) (constant S_ .f32 0x00000000#32) reducesTo_S2x1x32x4x128x1_S2x32x4x128_d1_5 h_S_)) (Host.reduceAdd c (constant S_ .f32 0x00000000#32) reducesTo_S2x1x32x4x128x256_S2x1x32x4x128_d5 h_S_))) c)) (broadcastInDim S2x1x32x4x128x256 ![] bcast_S_S2x1x32x4x128x256 (constant S_ .f32 0x00000000#32))) (broadcastInDim S2x1x32x4x128x256 ![] bcast_S_S2x1x32x4x128x256 (constant S_ .f32 0x3DB504F3#32))

/-- The gradient of the scores when the gradient through the maximum vanishes, at an index and over real values. -/
theorem masked_back (k : IVec S2x1x32x4x128x256 1) (g c : FVec Ideal S2x1x32x4x128x256 .f32) (t : FVec Ideal S2x1x32x4x128x1 .f32) (g' c' : Fin 256 → ℝ) (t' : ℝ)
    (hg : ∀ j, g (ix6 b 0 n h i j) = (g' j : EReal)) (hc : ∀ j, c (ix6 b 0 n h i j) = (c' j : EReal))
    (ht : t (ix6 b 0 n h i 0) = (t' : EReal)) (h0 : t' = ∑ l, g' l) (hs : 0 < ∑ l, c' l) :
    scoreGrad k g c t (ix6 b 0 n h i j)
      = (((if k (ix6 b 0 n h i j) = 1#1 then g' j else 0) * scale : ℝ) : EReal) := by
  pointwise [scoreGrad]
  rw [sum_unit]
  pointwise []
  simp only [sum_last]
  pointwise []
  simp only [hg, hc, ht]
  simp only [coe_sum, ← EReal.coe_neg, ← EReal.coe_add, coe_div hs.ne', coe_scale]
  have e : t' + ∑ l, -g' l = 0 := by rw [Finset.sum_neg_distrib, h0]; ring
  rw [e, zero_div]
  by_cases hk : k (ix6 b 0 n h i j) = 1#1
  · simp only [Scalar.select, hk, if_true, ← EReal.coe_mul, ← EReal.coe_add, zero_mul, add_zero]
    rfl
  · simp [Scalar.select, hk]

/-- The result from the scores' gradient and the keys. -/
def rowsOut (x : FVec Ideal S2x1x32x4x128x256 .f32) (y : FVec Ideal S2x1x32x256x4x128 .f32) : FVec Ideal S2x1x4096x512 .f32 :=
  shapeCast _ (shapeCast _ (transpose S2x4096x1x4x128 [0, 2, 1, 3, 4] (shapeCast _ (transpose S2x1x32x128x4x128 [0, 1, 2, 4, 3, 5] (Host.dotGeneral dot_S2x1x32x4x128x256_S2x1x32x256x4x128_S2x1x32x4x128x128_5_3_4_5_0123_0124 none x y) transposes_S2x1x32x4x128x128_S2x1x32x128x4x128_0_1_2_4_3_5) shapeCasts_S2x1x32x128x4x128_S2x1x4096x4x128) transposes_S2x1x4096x4x128_S2x4096x1x4x128_0_2_1_3_4) shapeCasts_S2x4096x1x4x128_S2x4096x4x128) shapeCasts_S2x4096x4x128_S2x1x4096x512

/-- The scores' gradient against the keys, at an index of the result. -/
theorem rows_out (s : Fin 4096) (x : FVec Ideal S2x1x32x4x128x256 .f32) (y : FVec Ideal S2x1x32x256x4x128 .f32) :
    rowsOut x y (ix4 b 0 s ⟨h.val * 128 + d.val, by omega⟩)
      = ∑ j : Fin 256, x (ix6 b 0 (blk s) h (off s) j) * y (ix6 b 0 (blk s) j h d) := by
  pointwise [rowsOut]

/-- The gradient of the weight of key `j` before the softmax. -/
def dp (V G : Arr) (b : Fin 2) (n : Fin 32) (h : Fin 4) (i : Fin 128) (j : Fin 256) : ℝ :=
  ∑ d, G b (pos n i) h d * look V b h (n.val * 128 + j.val) d

/-- The row's exponentials. -/
abbrev exs (Q K : Arr) (b : Fin 2) (n : Fin 32) (h : Fin 4) (i : Fin 128) : Fin 256 → ℝ :=
  ex (fun j : Fin 256 => mk (pos n i) (n.val * 128 + j.val)) (fun j => score Q K b (pos n i) h (n.val * 128 + j.val))

/-- The incoming gradient against the row's output. -/
def along (Q K V G : Arr) (b : Fin 2) (n : Fin 32) (h : Fin 4) (i : Fin 128) : ℝ :=
  ∑ d, G b (pos n i) h d * O Q K V b n i h d

theorem sum_dp : ∑ j, dp V G b n h i j * exs Q K b n h i j = along Q K V G b n h i * Z Q K b n i h := by
  unfold along O
  rw [dot_out]
  exact (div_mul_cancel₀ _ (Z_pos Q K b n i h).ne').symm

section
include w

theorem dlse_at : res_main_v159 V0 (ix6 b 0 n h i 0)
    = (((along Q K V G b n h i - delta Q K V L4 L16 O4 O16 G b (pos n i) h) * Z Q K b n i h / T Q K L4 L16 b (pos n i) h : ℝ) : EReal) := by
  obtain ⟨M, hM⟩ := top_at w b (pos n i) h
  refine (blocked_at b n h i _).trans ((back_at w b (pos n i) h 0 M hM).trans (congrArg _ ?_))
  unfold along outs logs
  simp only [Fin.val_zero, if_true, blk_pos, off_pos]
  rw [Real.exp_log (Z_pos Q K b n i h)]

theorem dprob_at : res_main_v162 V0 (ix6 b 0 n h i j)
    = ((Z Q K b n i h / T Q K L4 L16 b (pos n i) h * dp V G b n h i j : ℝ) : EReal) := by
  obtain ⟨M, hM⟩ := top_at w b (pos n i) h
  refine (dprob_dot b n h i j _ _).trans ?_
  have e : ∀ d, res_main_v123 V0 (ix5 0 b (pos n i) h d)
      = ((Z Q K b n i h / T Q K L4 L16 b (pos n i) h * G b (pos n i) h d : ℝ) : EReal) := by
    intro d
    refine (scaled_at w b (pos n i) h d 0 M hM).trans (congrArg _ ?_)
    unfold logs
    simp only [Fin.val_zero, if_true, blk_pos, off_pos]
    rw [Real.exp_log (Z_pos Q K b n i h)]
  refine (dot_real (fun d => (blocked_rows_at b n h i d (res_main_v123 V0)).trans (e d))
    (fun d => values_at V0 V b n h j d w.v)).trans (congrArg _ ?_)
  unfold dp
  rw [Finset.mul_sum]
  exact Finset.sum_congr rfl fun d _ => by ring

/-- The gradient of the scores. -/
def ds (Q K V O4 O16 G : Arr) (L4 L16 : Row) (b : Fin 2) (n : Fin 32) (h : Fin 4) (i : Fin 128) (j : Fin 256) : ℝ :=
  exs Q K b n h i j / T Q K L4 L16 b (pos n i) h * (dp V G b n h i j - delta Q K V L4 L16 O4 O16 G b (pos n i) h)

theorem dscore_at : res_main_v176 V0 (ix6 b 0 n h i j) = ((ds Q K V O4 O16 G L4 L16 b n h i j : ℝ) : EReal) := by
  obtain ⟨m, hm, -⟩ := max_at V0 Q K b n h i w.q w.k
  have hZ := Z_pos Q K b n i h
  have hT := T_pos Q K L4 L16 b (pos n i) h
  have he := Real.exp_pos (-m)
  refine (softmax_back b n h i j _ _ _ _ _ _ _ _ (mul_pos hZ he).ne' (fun j => dprob_at w b n h i j)
    (fun j => exp_at V0 Q K b n h i j m hm w.q w.k) (dlse_at w b n h i) (den_at V0 Q K b n h i m hm w.q w.k)).trans (congrArg _ ?_)
  have e : ∑ l, Z Q K b n i h / T Q K L4 L16 b (pos n i) h * dp V G b n h i l
        * (1 / (Z Q K b n i h * Real.exp (-m) * (Z Q K b n i h * Real.exp (-m)))) * (exs Q K b n h i l * Real.exp (-m))
      = along Q K V G b n h i * Z Q K b n i h / T Q K L4 L16 b (pos n i) h / (Z Q K b n i h * Real.exp (-m)) := by
    rw [← sum_dp, Finset.sum_div, Finset.sum_div]
    refine Finset.sum_congr rfl fun l _ => ?_
    field_simp
  rw [e]
  unfold ds
  field_simp
  ring

/-- The gradient of the row's log-sum cancels against the sum of the scores' gradients. -/
theorem sum_ds : (along Q K V G b n h i - delta Q K V L4 L16 O4 O16 G b (pos n i) h) * Z Q K b n i h / T Q K L4 L16 b (pos n i) h
    = ∑ l, ds Q K V O4 O16 G L4 L16 b n h i l := by
  have e : ∑ l, ds Q K V O4 O16 G L4 L16 b n h i l
      = (∑ l, dp V G b n h i l * exs Q K b n h i l - delta Q K V L4 L16 O4 O16 G b (pos n i) h * ∑ l, exs Q K b n h i l)
        / T Q K L4 L16 b (pos n i) h := by
    rw [Finset.mul_sum, ← Finset.sum_sub_distrib, Finset.sum_div]
    exact Finset.sum_congr rfl fun l _ => by unfold ds; ring
  have hz : ∑ l, exs Q K b n h i l = Z Q K b n i h := rfl
  rw [e, sum_dp, hz]
  ring

/-- The reference's result. -/
def result (V0 : Valuation τ sig (Elt Ideal)) : FVec Ideal S2x1x4096x512 .f32 :=
  rowsOut (scoreGrad (res_main_v47_1 V0) (res_main_v176 V0) (res_main_v52 V0) (res_main_v159 V0)) (res_main_v8 V0)

theorem result_at (s : Fin 4096) : result V0 (ix4 b 0 s ⟨h.val * 128 + d.val, by omega⟩)
    = ((dq Q K V L4 L16 O4 O16 G b s h d : ℝ) : EReal) := by
  obtain ⟨m, hm, hj⟩ := max_at V0 Q K b (blk s) h (off s) w.q w.k
  obtain ⟨c, hc, hc0⟩ := count_at V0 Q K b (blk s) h (off s) m hm w.q w.k hj
  refine (rows_out b h d s _ _).trans ((dot_real
    (fun j => masked_back b (blk s) h (off s) j (res_main_v47_1 V0) _ _ _ _ _ _ (fun j => dscore_at w b (blk s) h (off s) j) hc
      (dlse_at w b (blk s) h (off s)) (sum_ds w b (blk s) h (off s)) hc0)
    (fun j => keys_at V0 K b (blk s) h j d w.k)).trans (congrArg _ ?_))
  unfold dq
  rw [Finset.sum_mul]
  refine Finset.sum_congr rfl fun j _ => ?_
  rw [mask_at]
  unfold term ds dp exs ex
  have e : (pos (blk s) (off s)).val = s.val := congrArg Fin.val (pos_blk_off s)
  by_cases hk : mk s.val ((blk s).val * 128 + j.val)
  · have hk' : mk (pos (blk s) (off s)).val ((blk s).val * 128 + j.val) := by rw [e]; exact hk
    rw [if_pos hk', if_pos rfl, if_pos hk', if_pos hk, pos_blk_off]
    ring
  · have hk' : ¬ mk (pos (blk s) (off s)).val ((blk s).val * 128 + j.val) := by rw [e]; exact hk
    rw [if_neg hk', if_neg (by decide), if_neg hk]
    ring

end

end Cert.Att.Ref

end
-- ==== Proof.Final.lean ====
/- The kernel program's result array is the reference's, over real arguments: both are the gradient in `q`. -/
module

public import proofs.«01_k».proof.Proof.Entry
public import proofs.«01_k».proof.Proof.Join
public import proofs.«01_k».proof.Proof.RefGrad
public import proofs.«01_k».proof.Proof.Gen.KernelIdeal.Value

@[expose] public section

set_option maxRecDepth 16384

noncomputable section

namespace Cert.Att

open Idealize.ShloMosaic Idealize.ShloMosaic.TcCoe Idealize.ShloMosaic.StableHlo
open Cert.KernelIdeal Cert.KernelIdeal.Gen

/-- The gradient in `q` with the heads side by side. -/
def flatDq (Q K V : Arr) (L4 L16 : Row) (O4 O16 G : Arr) : FVec Ideal S2x1x4096x512 .f32 := fun y =>
  ((dq Q K V L4 L16 O4 O16 G (y 0) (y 2) ⟨(y 3).val / 128, by have : (y 3).val < 512 := (y 3).isLt; omega⟩
    ⟨(y 3).val % 128, by omega⟩ : ℝ) : EReal)

variable {Q K V O4 O16 G : Arr} {L4 L16 : Row}

/-- The reference's result. -/
theorem reference_array {V0 : Ref.RefVal} (r : Ref.Given V0 Q K V O4 L4 O16 L16 G) :
    Ref.result V0 = flatDq Q K V L4 L16 O4 O16 G := by
  funext y
  have h3 : (y 3).val < 512 := (y 3).isLt
  have e : ix4 (n0 := 2) (n1 := 1) (n2 := 4096) (n3 := 512) (y 0) 0 (y 2) ⟨(y 3).val / 128 * 128 + (y 3).val % 128, by omega⟩ = y := by
    funext a
    match a with
    | 0 => rfl
    | 1 => exact Subsingleton.elim (α := Fin 1) _ _
    | 2 => rfl
    | 3 => exact Fin.ext (Nat.div_add_mod' _ _)
  exact (congrArg (Ref.result V0) e.symm).trans
    (Ref.result_at r (y 0) ⟨(y 3).val / 128, by omega⟩ ⟨(y 3).val % 128, by omega⟩ (y 2))

variable (m : (ℓ : Loc nD τ sig) → Buf (Elt Ideal) ℓ) (c : Dev nD)

/-- What the kernel call finds in its arrays: the host code's first part, then its second. -/
theorem entry_split (b : Ref sig .tc) :
    Cert.KernelIdeal.Gen.V m c b = after hostOps0_6 (after Prefix.early (fun b => m (c, b))) (Proc.devRef .tc b) := by
  unfold Cert.KernelIdeal.Gen.V
  have e : (List.flatten [hostOps0, hostOps0_1, hostOps0_2, hostOps0_3, hostOps0_4, hostOps0_5, hostOps0_6] : List (HloOp τ sig (Elt Ideal)))
      = Prefix.early ++ hostOps0_6 := by
    simp only [Prefix.early, List.flatten_cons, List.flatten_nil, List.append_nil, List.append_assoc]
  rw [e, after_append]

/-- The kernel program's result. -/
theorem kernel_array {V0 : Ref.RefVal} (w : Prefix.Start (fun b => m (c, b)) Q K V O4 L4 O16 L16 G)
    (r : Ref.Given V0 Q K V O4 L4 O16 L16 G) :
    (dats m 0 c).arrAt 8 cfg0.N = flatDq Q K V L4 L16 O4 O16 G := by
  refine (Body.array_real m c Q K V G (fun b s h => Real.log (T Q K L4 L16 b s h)) (delta Q K V L4 L16 O4 O16 G)
    (fun b s h e => ?_) (fun b s h e => ?_) (fun b s h e => ?_) (fun b s h e => ?_) (fun b s h => ?_) (fun b s h => ?_)).trans ?_
  · rw [entry_split]; exact Prefix.entry_q w b s h e
  · rw [entry_split]; exact Prefix.entry_k w b s h e
  · rw [entry_split]; exact Prefix.entry_v w b s h e
  · rw [entry_split]; exact Prefix.entry_g w b s h e
  · rw [entry_split]; exact Prefix.entry_l w r b s h 0
  · rw [entry_split]; exact Prefix.entry_d w r b s h 0
  · funext y
    exact congrArg _ (grad_eq ..)

end Cert.Att

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.InDw
public import proofs.«01_k».proof.Proof.Gen.Kernel3.Frame
public import proofs.«01_k».proof.Proof.Gen.Kernel3Ideal.Value
public import proofs.«01_k».proof.Proof.Gen.Reference3Ideal.Run
public import proofs.«01_k».proof.Proof.InDx
public import proofs.«01_k».proof.Proof.Gen.Kernel4.Frame
public import proofs.«01_k».proof.Proof.Gen.Kernel4Ideal.Value
public import proofs.«01_k».proof.Proof.Gen.Reference4Ideal.Run
public import proofs.«01_k».proof.Proof.DownDw
public import proofs.«01_k».proof.Proof.Gen.Kernel5.Frame
public import proofs.«01_k».proof.Proof.Gen.Kernel5Ideal.Value
public import proofs.«01_k».proof.Proof.Gen.Reference5Ideal.Run
public import proofs.«01_k».proof.Proof.GateDw
public import proofs.«01_k».proof.Proof.Gen.Kernel6.Frame
public import proofs.«01_k».proof.Proof.Gen.Kernel6Ideal.Value
public import proofs.«01_k».proof.Proof.Gen.Reference6Ideal.Run
public import proofs.«01_k».proof.Proof.SsmDw
public import proofs.«01_k».proof.Proof.Gen.Kernel7.Frame
public import proofs.«01_k».proof.Proof.Gen.Kernel7Ideal.Value
public import proofs.«01_k».proof.Proof.Gen.Reference7Ideal.Run
public import proofs.«01_k».proof.Proof.MixDw
public import proofs.«01_k».proof.Proof.Gen.Kernel8.Frame
public import proofs.«01_k».proof.Proof.Gen.Kernel8Ideal.Value
public import proofs.«01_k».proof.Proof.Gen.Reference8Ideal.Run
public import proofs.«01_k».proof.Proof.AttDw
public import proofs.«01_k».proof.Proof.Gen.Kernel9.Frame
public import proofs.«01_k».proof.Proof.Gen.Kernel9Ideal.Value
public import proofs.«01_k».proof.Proof.Gen.Reference9Ideal.Run
public import proofs.«01_k».proof.Proof.AttDx
public import proofs.«01_k».proof.Proof.Gen.Kernel10.Frame
public import proofs.«01_k».proof.Proof.Gen.Kernel10Ideal.Value
public import proofs.«01_k».proof.Proof.Gen.Reference10Ideal.Run
public import proofs.«01_k».proof.Proof.SsmOut
public import proofs.«01_k».proof.Proof.Gen.Kernel11.Frame
public import proofs.«01_k».proof.Proof.Gen.Kernel11Ideal.Value
public import proofs.«01_k».proof.Proof.Gen.Reference11Ideal.Run
public import proofs.«01_k».proof.Proof.InZ
public import proofs.«01_k».proof.Proof.Gen.Kernel12.Frame
public import proofs.«01_k».proof.Proof.Gen.Kernel12Ideal.Value
public import proofs.«01_k».proof.Proof.Gen.Reference12Ideal.Run
public import proofs.«01_k».proof.Proof.InXbc
public import proofs.«01_k».proof.Proof.Gen.Kernel13.Frame
public import proofs.«01_k».proof.Proof.Gen.Kernel13Ideal.Value
public import proofs.«01_k».proof.Proof.Gen.Reference13Ideal.Run
public import proofs.«01_k».proof.Proof.InGate
public import proofs.«01_k».proof.Proof.Gen.Kernel14.Frame
public import proofs.«01_k».proof.Proof.Gen.Kernel14Ideal.Value
public import proofs.«01_k».proof.Proof.Gen.Reference14Ideal.Run
public import proofs.«01_k».proof.Proof.GateUp
public import proofs.«01_k».proof.Proof.Gen.Kernel15.Frame
public import proofs.«01_k».proof.Proof.Gen.Kernel15Ideal.Value
public import proofs.«01_k».proof.Proof.Gen.Reference15Ideal.Run
public import proofs.«01_k».proof.Proof.DownDx
public import proofs.«01_k».proof.Proof.Gen.Kernel16.Frame
public import proofs.«01_k».proof.Proof.Gen.Kernel16Ideal.Value
public import proofs.«01_k».proof.Proof.Gen.Reference16Ideal.Run
public import proofs.«01_k».proof.Proof.AttMix
public import proofs.«01_k».proof.Proof.Gen.Kernel17.Frame
public import proofs.«01_k».proof.Proof.Gen.Kernel17Ideal.Value
public import proofs.«01_k».proof.Proof.Gen.Reference17Ideal.Run
public import proofs.«01_k».proof.Proof.MixNorm
public import proofs.«01_k».proof.Proof.Gen.Kernel18.Frame
public import proofs.«01_k».proof.Proof.Gen.Kernel18Ideal.Value
public import proofs.«01_k».proof.Proof.Gen.Reference18Ideal.Run
public import proofs.«01_k».proof.Proof.NormBwdRef
public import proofs.«01_k».proof.Proof.Gen.Kernel19.Frame
public import proofs.«01_k».proof.Proof.Gen.Kernel19Ideal.Value
public import proofs.«01_k».proof.Proof.Gen.Reference19Ideal.Run
public import proofs.«01_k».proof.Proof.LossHeadRef
public import proofs.«01_k».proof.Proof.Gen.Kernel20.Frame
public import proofs.«01_k».proof.Proof.Gen.Kernel20Ideal.Value
public import proofs.«01_k».proof.Proof.Gen.Reference20Ideal.Run
public import proofs.«01_k».proof.Proof.QkvRef
public import proofs.«01_k».proof.Proof.Gen.Pre_finite_swiglu
public import proofs.«01_k».proof.Proof.Gen.Pre_finite_norm
public import proofs.«01_k».proof.Proof.Gen.Pre_finite_norm_head
public import proofs.«01_k».proof.Proof.Finite
public import proofs.«01_k».proof.Proof.Final
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Att

/-- From finite arguments, the kernel program's arguments are real arrays. -/
theorem start (m : (ℓ : Loc KernelIdeal.nD KernelIdeal.τ KernelIdeal.sig) → Buf (Elt Ideal) ℓ)
    (hpre : Pre_KernelIdeal_finite (hPre_finite := Cert.Pre_finite.Gen.facts) m) (c : Dev KernelIdeal.nD) :
    ∃ (Q K V O4 : Arr) (L4 : Row) (O16 : Arr) (L16 : Row) (G : Arr), Prefix.Start (fun b => m (c, b)) Q K V O4 L4 O16 L16 G := by
  haveI := Cert.Pre_finite.Gen.facts
  obtain ⟨h0, h1, h2, h3, h4, h5, h6, h7⟩ := hpre c
  exact ⟨_, _, _, _, _, _, _, _, ⟨rows_real _ h0, rows_real _ h1, rows_real _ h2, rows_real _ h3, sums_real _ h4, rows_real _ h5,
    sums_real _ h6, rows_real _ h7⟩⟩

theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => (Cert.KernelIdeal.Gen.dats m 0 c).arrAt 8 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨Q, K, V, O4, L4, O16, L16, G, w⟩ := start m hpre c
  obtain ⟨e0, e1, e2, e3, e4, e5, e6, e7⟩ := hm c
  have r : Ref.Given (StableHlo.launchContents m' c) Q K V O4 L4 O16 L16 G :=
    ⟨e0.trans w.q, e1.trans w.k, e2.trans w.v, e3.trans w.o4, e4.trans w.l4, e5.trans w.o16, e6.trans w.l16, e7.trans w.ct⟩
  exact (reference_array r).trans (kernel_array m c w r).symm

/-- The reference leaves its arguments unchanged, and has no semaphores. -/
theorem reference_frame : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Gen.facts, Cert.Pre_finite_swiglu.Gen.facts, Cert.Pre_finite_norm.Gen.facts, Cert.Pre_finite_norm_head.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, InDw.reference_frame,
    fun m ρ _ => Cert.Kernel3.Gen.frame m ρ, fun m ρ _ => Cert.Kernel3Ideal.Gen.frame m ρ, InDx.reference_frame,
    fun m ρ _ => Cert.Kernel4.Gen.frame m ρ, fun m ρ _ => Cert.Kernel4Ideal.Gen.frame m ρ, DownDw.reference_frame,
    fun m ρ _ => Cert.Kernel5.Gen.frame m ρ, fun m ρ _ => Cert.Kernel5Ideal.Gen.frame m ρ, GateDw.reference_frame,
    fun m ρ _ => Cert.Kernel6.Gen.frame m ρ, fun m ρ _ => Cert.Kernel6Ideal.Gen.frame m ρ, SsmDw.reference_frame,
    fun m ρ _ => Cert.Kernel7.Gen.frame m ρ, fun m ρ _ => Cert.Kernel7Ideal.Gen.frame m ρ, MixDw.reference_frame,
    fun m ρ _ => Cert.Kernel8.Gen.frame m ρ, fun m ρ _ => Cert.Kernel8Ideal.Gen.frame m ρ, AttDw.reference_frame,
    fun m ρ _ => Cert.Kernel9.Gen.frame m ρ, fun m ρ _ => Cert.Kernel9Ideal.Gen.frame m ρ, AttDx.reference_frame,
    fun m ρ _ => Cert.Kernel10.Gen.frame m ρ, fun m ρ _ => Cert.Kernel10Ideal.Gen.frame m ρ, SsmOut.reference_frame,
    fun m ρ _ => Cert.Kernel11.Gen.frame m ρ, fun m ρ _ => Cert.Kernel11Ideal.Gen.frame m ρ, InZ.reference_frame,
    fun m ρ _ => Cert.Kernel12.Gen.frame m ρ, fun m ρ _ => Cert.Kernel12Ideal.Gen.frame m ρ, InXbc.reference_frame,
    fun m ρ _ => Cert.Kernel13.Gen.frame m ρ, fun m ρ _ => Cert.Kernel13Ideal.Gen.frame m ρ, InGate.reference_frame,
    fun m ρ _ => Cert.Kernel14.Gen.frame m ρ, fun m ρ _ => Cert.Kernel14Ideal.Gen.frame m ρ, GateUp.reference_frame,
    fun m ρ _ => Cert.Kernel15.Gen.frame m ρ, fun m ρ _ => Cert.Kernel15Ideal.Gen.frame m ρ, fun m ρ _ => Cert.Kernel15Ideal.Gen.frame m ρ,
    DownDx.reference_frame, fun m ρ _ => DownDx.reference_frame m ρ trivial,
    fun m ρ _ => Cert.Kernel16.Gen.frame m ρ, fun m ρ _ => Cert.Kernel16Ideal.Gen.frame m ρ, AttMix.reference_frame,
    fun m ρ _ => Cert.Kernel17.Gen.frame m ρ, fun m ρ _ => Cert.Kernel17Ideal.Gen.frame m ρ, MixNorm.reference_frame,
    fun m ρ _ => Cert.Kernel18.Gen.frame m ρ, fun m ρ _ => Cert.Kernel18Ideal.Gen.frame m ρ, fun m ρ _ => Cert.Kernel18Ideal.Gen.frame m ρ,
    NormBwd.reference_frame, fun m ρ _ => NormBwd.reference_frame m ρ trivial,
    fun m ρ _ => Cert.Kernel19.Gen.frame m ρ, fun m ρ _ => Cert.Kernel19Ideal.Gen.frame m ρ, fun m ρ _ => Cert.Kernel19Ideal.Gen.frame m ρ,
    LossHead.reference_frame, fun m ρ _ => LossHead.reference_frame m ρ trivial,
    fun m ρ _ => Cert.Kernel20.Gen.frame m ρ, fun m ρ _ => Cert.Kernel20Ideal.Gen.frame m ρ, Qkv.reference_frame,
    trivial, algebraic,
    trivial, InDw.algebraic,
    trivial, InDx.algebraic,
    trivial, DownDw.algebraic,
    trivial, GateDw.algebraic,
    trivial, SsmDw.algebraic,
    trivial, MixDw.algebraic,
    trivial, AttDw.algebraic,
    trivial, AttDx.algebraic,
    trivial, SsmOut.algebraic,
    trivial, InZ.algebraic,
    trivial, InXbc.algebraic,
    trivial, InGate.algebraic,
    trivial, GateUp.algebraic,
    trivial, DownDx.algebraic,
    trivial, AttMix.algebraic,
    trivial, MixNorm.algebraic,
    trivial, NormBwd.algebraic,
    trivial, LossHead.algebraic,
    trivial, Qkv.algebraic⟩

end Cert.Proof

end
